-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 [hPre_experts_exist : Cert.Pre_experts_exist.Facts] (m : (ℓ : Loc Cert.Kernel9.nD Cert.Kernel9.τ Cert.Kernel9.sig) → Buf (Elt Bits) ℓ) : Prop :=
  ∀ c : Dev Cert.Kernel9.nD,
    (Cert.Pre_experts_exist.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4)) (m ((c.tc : Thread Cert.Kernel9.nD Cert.Kernel9.τ).loc Cert.Kernel9.main_arg5))) = (fun _ => 1#1)

def Pre_Kernel9Ideal [hPre_experts_exist : Cert.Pre_experts_exist.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_experts_exist.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal [hPre_experts_exist : Cert.Pre_experts_exist.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_experts_exist.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] [hPre_experts_exist : Cert.Pre_experts_exist.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] [hPre_experts_exist : Cert.Pre_experts_exist.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] [hPre_experts_exist : Cert.Pre_experts_exist.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "alpha" .f32 0x3FB504F3#32 ((Real.sqrt 2 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "alpha" .f32 0x3FB504F3#32 ((Real.sqrt 2 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "alpha" .f32 0x3FB504F3#32 ((Real.sqrt 2 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  IdealRules.named_const.Statement Cert.Kernel8Ideal.κ "alpha" .f32 0x3FB504F3#32 ((Real.sqrt 2 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] [hPre_experts_exist : Cert.Pre_experts_exist.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v35) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_v25) = v2 c
          ∧ r.2.mem ((c.tc : Thread Cert.Reference10Ideal.nD Cert.Reference10Ideal.τ).loc Cert.Reference10Ideal.main_v29) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_experts_exist : Cert.Pre_experts_exist.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9) (hPre_experts_exist := hPre_experts_exist)
    ∧ quiescent_Kernel9Ideal (hKernel9Ideal := hKernel9Ideal) (hPre_experts_exist := hPre_experts_exist)
    ∧ quiescent_Reference9Ideal (hReference9Ideal := hReference9Ideal) (hPre_experts_exist := hPre_experts_exist)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal) (hPre_experts_exist := hPre_experts_exist)
    ∧ preserves_Kernel10_Kernel10Ideal
    ∧ algebraic_Kernel10Ideal_Reference10Ideal (hKernel10Ideal := hKernel10Ideal) (hReference10Ideal := hReference10Ideal)
-- ==== Pre_experts_exist.lean ====
abbrev S36352x1024 : Shape := ⟨2, ![36352, 1024]⟩
abbrev S71 : Shape := ⟨1, ![71]⟩
abbrev S1 : Shape := ⟨1, ![1]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S71 : S_.BroadcastsInDim S71 (![] : Fin 0 → Fin S71.rank)
  reducesTo_S71_S_d0 : S71.ReducesTo [0] S_
  h_S_ : 0 < S_.numel

variable [Facts]

def fn {F : FTy → Type} [FloatOps F] (main_arg0 : FVec F S36352x1024 .f32) (main_arg1 : IVec S71 32) (main_arg2 : IVec S1 32) (main_arg3 : FVec F S8x1024x2816 .bf16) (main_arg4 : FVec F S8x1024x2816 .bf16) (main_arg5 : FVec F S8x2816x1024 .bf16) : IVec S_ 1 :=
  let main_c : IVec S_ 32 := constantI S_ 32 0#32
  let main_v0 : IVec S71 32 := broadcastInDim S71 ![] bcast_S_S71 main_c
  let main_v1 : IVec S71 1 := cmpi .sge main_arg1 main_v0
  let main_c_0 : IVec S_ 32 := constantI S_ 32 8#32
  let main_v2 : IVec S71 32 := broadcastInDim S71 ![] bcast_S_S71 main_c_0
  let main_v3 : IVec S71 1 := cmpi .slt main_arg1 main_v2
  let main_v4 : IVec S71 1 := andi main_v1 main_v3
  let main_c_1 : IVec S_ 1 := constantI S_ 1 1#1
  let main_v5 : IVec S_ 1 := (fun x v => Host.reduce IntOp.andi x v reducesTo_S71_S_d0 h_S_) main_v4 main_c_1
  main_v5
-- ==== Kernel.lean ====
abbrev S16384x1664 : Shape := ⟨2, ![16384, 1664]⟩
abbrev S16x256 : Shape := ⟨2, ![16, 256]⟩
abbrev S256 : Shape := ⟨1, ![256]⟩
abbrev S512 : Shape := ⟨1, ![512]⟩
abbrev S_ : Shape := ⟨0, ![]⟩
abbrev S128x256 : Shape := ⟨2, ![128, 256]⟩
abbrev S1x256 : Shape := ⟨2, ![1, 256]⟩
abbrev S1x512 : Shape := ⟨2, ![1, 512]⟩
abbrev S16384x512 : Shape := ⟨2, ![16384, 512]⟩
abbrev S256x1664 : Shape := ⟨2, ![256, 1664]⟩
abbrev S256x512 : Shape := ⟨2, ![256, 512]⟩
abbrev S256x128 : Shape := ⟨2, ![256, 128]⟩
abbrev S256x256 : Shape := ⟨2, ![256, 256]⟩
abbrev S64x64 : Shape := ⟨2, ![64, 64]⟩
abbrev S64x256 : Shape := ⟨2, ![64, 256]⟩
abbrev S1x64 : Shape := ⟨2, ![1, 64]⟩
abbrev S64x128 : Shape := ⟨2, ![64, 128]⟩
abbrev S128x64 : Shape := ⟨2, ![128, 64]⟩
abbrev S256x1 : Shape := ⟨2, ![256, 1]⟩
abbrev S1x128 : Shape := ⟨2, ![1, 128]⟩

abbrev nBuf : Space → Nat
  | .hbm => 11
  | .vmem => 9
  | .smem => 0
  | _ => 0

abbrev bufTy : (tb : Table) → Fin (tcTables nBuf tb) → BufTy
  | .hbm, ⟨0, _⟩ => ⟨S16384x1664, .f32⟩
  | .hbm, ⟨1, _⟩ => ⟨S16x256, .f32⟩
  | .hbm, ⟨2, _⟩ => ⟨S256, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S128x256, .f32⟩
  | .hbm, ⟨7, _⟩ => ⟨S128x256, .bf16⟩
  | .hbm, ⟨8, _⟩ => ⟨S1x256, .f32⟩
  | .hbm, ⟨9, _⟩ => ⟨S1x512, .f32⟩
  | .hbm, ⟨10, _⟩ => ⟨S16384x512, .bf16⟩
  | .local _ .vmem, ⟨0, _⟩ => ⟨S256x1664, .f32⟩
  | .local _ .vmem, ⟨1, _⟩ => ⟨S256x1664, .f32⟩
  | .local _ .vmem, ⟨2, _⟩ => ⟨S128x256, .bf16⟩
  | .local _ .vmem, ⟨3, _⟩ => ⟨S1x256, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | .local _ .vmem, ⟨7, _⟩ => ⟨S128x256, .f32⟩
  | .local _ .vmem, ⟨8, _⟩ => ⟨S256x512, .f32⟩
  | _, _ => ⟨S16384x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x1664 : Shape := ⟨2, ![16384, 1664]⟩
abbrev S16x256 : Shape := ⟨2, ![16, 256]⟩
abbrev S256 : Shape := ⟨1, ![256]⟩
abbrev S512 : Shape := ⟨1, ![512]⟩
abbrev S16384x16 : Shape := ⟨2, ![16384, 16]⟩
abbrev S16384x256 : Shape := ⟨2, ![16384, 256]⟩
abbrev S1x256 : Shape := ⟨2, ![1, 256]⟩
abbrev S_ : Shape := ⟨0, ![]⟩
abbrev S256x64x4x64 : Shape := ⟨4, ![256, 64, 4, 64]⟩
abbrev S4x256x64x64 : Shape := ⟨4, ![4, 256, 64, 64]⟩
abbrev S4x256x1x64 : Shape := ⟨4, ![4, 256, 1, 64]⟩
abbrev S16384x512 : Shape := ⟨2, ![16384, 512]⟩
abbrev S256x64x4x128 : Shape := ⟨4, ![256, 64, 4, 128]⟩
abbrev S4x256x64x128 : Shape := ⟨4, ![4, 256, 64, 128]⟩
abbrev S4x256x64 : Shape := ⟨3, ![4, 256, 64]⟩
abbrev S4x64x128 : Shape := ⟨3, ![4, 64, 128]⟩
abbrev S256x4x64 : Shape := ⟨3, ![256, 4, 64]⟩
abbrev S256x4x64x128 : Shape := ⟨4, ![256, 4, 64, 128]⟩
abbrev S1x4x64 : Shape := ⟨3, ![1, 4, 64]⟩
abbrev S4x64 : Shape := ⟨2, ![4, 64]⟩
abbrev S1x4x64x128 : Shape := ⟨4, ![1, 4, 64, 128]⟩
abbrev S4x64x1 : Shape := ⟨3, ![4, 64, 1]⟩
abbrev S64x64 : Shape := ⟨2, ![64, 64]⟩
abbrev S16384x4x128 : Shape := ⟨3, ![16384, 4, 128]⟩
abbrev S16384x4 : Shape := ⟨2, ![16384, 4]⟩
abbrev S16384x4x1 : Shape := ⟨3, ![16384, 4, 1]⟩
abbrev S4x128 : Shape := ⟨2, ![4, 128]⟩
abbrev S1x4x128 : Shape := ⟨3, ![1, 4, 128]⟩

abbrev nBuf : Space → Nat
  | .hbm => 181
  | .vmem => 0
  | .smem => 0
  | _ => 0

abbrev hbmTy0_0 (i : Nat) : BufTy := match i % 128 with
  | 0 => ⟨S16384x1664, .f32⟩
  | 1 => ⟨S16x256, .f32⟩
  | 2 => ⟨S256, .f32⟩
  | 3 => ⟨S512, .f32⟩
  | 4 => ⟨S16384x16, .f32⟩
  | 5 => ⟨S16384x256, .f32⟩
  | 6 => ⟨S1x256, .f32⟩
  | 7 => ⟨S16384x256, .f32⟩
  | 8 => ⟨S16384x256, .f32⟩
  | 9 => ⟨S16384x256, .f32⟩
  | 10 => ⟨S_, .f32⟩
  | 11 => ⟨S16384x256, .f32⟩
  | 12 => ⟨S16384x256, .f32⟩
  | 13 => ⟨S16384x256, .f32⟩
  | 14 => ⟨S16384x256, .f32⟩
  | 15 => ⟨S16384x256, .i1⟩
  | 16 => ⟨S16384x256, .f32⟩
  | 17 => ⟨S16384x256, .f32⟩
  | 18 => ⟨S16384x256, .f32⟩
  | 19 => ⟨S16384x256, .f32⟩
  | 20 => ⟨S16384x256, .f32⟩
  | 21 => ⟨S16384x256, .f32⟩
  | 22 => ⟨S16384x256, .f32⟩
  | 23 => ⟨S16384x256, .f32⟩
  | 24 => ⟨S16384x256, .f32⟩
  | 25 => ⟨S_, .f32⟩
  | 26 => ⟨S16384x256, .f32⟩
  | 27 => ⟨S16384x256, .f32⟩
  | 28 => ⟨S256x64x4x64, .f32⟩
  | 29 => ⟨S4x256x64x64, .f32⟩
  | 30 => ⟨S_, .f32⟩
  | 31 => ⟨S_, .f32⟩
  | 32 => ⟨S4x256x64x64, .f32⟩
  | 33 => ⟨S4x256x1x64, .f32⟩
  | 34 => ⟨S16384x256, .f32⟩
  | 35 => ⟨S256x64x4x64, .f32⟩
  | 36 => ⟨S4x256x64x64, .f32⟩
  | 37 => ⟨S16384x512, .f32⟩
  | 38 => ⟨S256x64x4x128, .f32⟩
  | 39 => ⟨S4x256x64x128, .f32⟩
  | 40 => ⟨S4x256x64x64, .f32⟩
  | 41 => ⟨S4x256x64x64, .f32⟩
  | 42 => ⟨S4x256x64x64, .f32⟩
  | 43 => ⟨S4x256x64x64, .f32⟩
  | 44 => ⟨S4x256x64x128, .f32⟩
  | 45 => ⟨S4x256x64, .f32⟩
  | 46 => ⟨S4x256x64, .f32⟩
  | 47 => ⟨S_, .f32⟩
  | 48 => ⟨S4x64x128, .f32⟩
  | 49 => ⟨S256x4x64, .f32⟩
  | 50 => ⟨S256x4x64x128, .f32⟩
  | 51 => ⟨S_, .f32⟩
  | 52 => ⟨S256x4x64x128, .f32⟩
  | 53 => ⟨S_, .i32⟩
  | 54 => ⟨S256x4x64, .f32⟩
  | 55 => ⟨S256x4x64x128, .f32⟩
  | 56 => ⟨S_, .i32⟩
  | 57 => ⟨S4x64x128, .f32⟩
  | 58 => ⟨S256x4x64x128, .f32⟩
  | 59 => ⟨S_, .i32⟩
  | 60 => ⟨S_, .i1⟩
  | 61 => ⟨S_, .i32⟩
  | 62 => ⟨S_, .i32⟩
  | 63 => ⟨S1x4x64, .f32⟩
  | 64 => ⟨S4x64, .f32⟩
  | 65 => ⟨S_, .i32⟩
  | 66 => ⟨S_, .i32⟩
  | 67 => ⟨S_, .i32⟩
  | 68 => ⟨S1x4x64x128, .f32⟩
  | 69 => ⟨S4x64x128, .f32⟩
  | 70 => ⟨S4x64x1, .f32⟩
  | 71 => ⟨S4x64x128, .f32⟩
  | 72 => ⟨S4x64x128, .f32⟩
  | 73 => ⟨S4x64x128, .f32⟩
  | 74 => ⟨S1x4x64x128, .f32⟩
  | 75 => ⟨S_, .i32⟩
  | 76 => ⟨S_, .i32⟩
  | 77 => ⟨S_, .i32⟩
  | 78 => ⟨S256x4x64x128, .f32⟩
  | 79 => ⟨S_, .i32⟩
  | 80 => ⟨S_, .i32⟩
  | 81 => ⟨S4x256x64x128, .f32⟩
  | 82 => ⟨S16384x16, .f32⟩
  | 83 => ⟨S16384x256, .f32⟩
  | 84 => ⟨S1x256, .f32⟩
  | 85 => ⟨S16384x256, .f32⟩
  | 86 => ⟨S16384x256, .f32⟩
  | 87 => ⟨S16384x256, .f32⟩
  | 88 => ⟨S_, .f32⟩
  | 89 => ⟨S16384x256, .f32⟩
  | 90 => ⟨S16384x256, .f32⟩
  | 91 => ⟨S16384x256, .f32⟩
  | 92 => ⟨S16384x256, .f32⟩
  | 93 => ⟨S16384x256, .i1⟩
  | 94 => ⟨S16384x256, .f32⟩
  | 95 => ⟨S16384x256, .f32⟩
  | 96 => ⟨S16384x256, .f32⟩
  | 97 => ⟨S16384x256, .f32⟩
  | 98 => ⟨S16384x256, .f32⟩
  | 99 => ⟨S16384x256, .f32⟩
  | 100 => ⟨S16384x256, .f32⟩
  | 101 => ⟨S16384x256, .f32⟩
  | 102 => ⟨S16384x256, .f32⟩
  | 103 => ⟨S_, .f32⟩
  | 104 => ⟨S16384x256, .f32⟩
  | 105 => ⟨S16384x256, .f32⟩
  | 106 => ⟨S256x64x4x64, .f32⟩
  | 107 => ⟨S4x256x64x64, .f32⟩
  | 108 => ⟨S_, .f32⟩
  | 109 => ⟨S_, .f32⟩
  | 110 => ⟨S4x256x64x64, .f32⟩
  | 111 => ⟨S16384x256, .f32⟩
  | 112 => ⟨S256x64x4x64, .f32⟩
  | 113 => ⟨S4x256x64x64, .f32⟩
  | 114 => ⟨S_, .f32⟩
  | 115 => ⟨S4x256x64x64, .f32⟩
  | 116 => ⟨S4x256x64x64, .f32⟩
  | 117 => ⟨S16384x256, .f32⟩
  | 118 => ⟨S256x64x4x64, .f32⟩
  | 119 => ⟨S4x256x64x64, .f32⟩
  | 120 => ⟨S16384x512, .f32⟩
  | 121 => ⟨S256x64x4x128, .f32⟩
  | 122 => ⟨S4x256x64x128, .f32⟩
  | 123 => ⟨S4x256x64x64, .f32⟩
  | 124 => ⟨S4x256x64x64, .f32⟩
  | 125 => ⟨S4x256x64x64, .f32⟩
  | 126 => ⟨S4x256x64x64, .f32⟩
  | 127 => ⟨S4x256x64x64, .f32⟩
  | _ => ⟨S16384x1664, .f32⟩

abbrev hbmTy0_1 (i : Nat) : BufTy := match i % 128 with
  | 0 => ⟨S_, .i1⟩
  | 1 => ⟨S64x64, .i1⟩
  | 2 => ⟨S64x64, .i32⟩
  | 3 => ⟨S_, .i32⟩
  | 4 => ⟨S64x64, .i32⟩
  | 5 => ⟨S64x64, .i32⟩
  | 6 => ⟨S64x64, .i32⟩
  | 7 => ⟨S64x64, .i1⟩
  | 8 => ⟨S_, .i1⟩
  | 9 => ⟨S64x64, .i1⟩
  | 10 => ⟨S64x64, .i1⟩
  | 11 => ⟨S4x256x64x64, .f32⟩
  | 12 => ⟨S_, .f32⟩
  | 13 => ⟨S_, .f32⟩
  | 14 => ⟨S4x256x64x64, .i1⟩
  | 15 => ⟨S4x256x64x64, .f32⟩
  | 16 => ⟨S4x256x64x64, .f32⟩
  | 17 => ⟨S4x256x64x128, .f32⟩
  | 18 => ⟨S4x256x64x128, .f32⟩
  | 19 => ⟨S4x256x64x128, .f32⟩
  | 20 => ⟨S256x64x4x128, .f32⟩
  | 21 => ⟨S16384x4x128, .f32⟩
  | 22 => ⟨S16384x4x128, .f32⟩
  | 23 => ⟨S_, .f32⟩
  | 24 => ⟨S16384x4, .f32⟩
  | 25 => ⟨S16384x4x1, .f32⟩
  | 26 => ⟨S_, .f32⟩
  | 27 => ⟨S16384x4x1, .f32⟩
  | 28 => ⟨S16384x4x1, .f32⟩
  | 29 => ⟨S_, .f32⟩
  | 30 => ⟨S16384x4x1, .f32⟩
  | 31 => ⟨S16384x4x1, .f32⟩
  | 32 => ⟨S16384x4x1, .f32⟩
  | 33 => ⟨S16384x4x128, .f32⟩
  | 34 => ⟨S16384x4x128, .f32⟩
  | 35 => ⟨S4x128, .f32⟩
  | 36 => ⟨S1x4x128, .f32⟩
  | 37 => ⟨S16384x4x128, .f32⟩
  | 38 => ⟨S16384x4x128, .f32⟩
  | 39 => ⟨S16384x512, .f32⟩
  | 40 => ⟨S16384x4x128, .f32⟩
  | 41 => ⟨S16384x4x128, .f32⟩
  | 42 => ⟨S16384x4x128, .f32⟩
  | 43 => ⟨S_, .f32⟩
  | 44 => ⟨S16384x4x128, .f32⟩
  | 45 => ⟨S16384x4x128, .f32⟩
  | 46 => ⟨S_, .f32⟩
  | 47 => ⟨S16384x4x128, .f32⟩
  | 48 => ⟨S16384x4x128, .f32⟩
  | 49 => ⟨S16384x4x128, .f32⟩
  | 50 => ⟨S16384x4x128, .f32⟩
  | 51 => ⟨S16384x512, .f32⟩
  | 52 => ⟨S16384x512, .bf16⟩
  | _ => ⟨S16384x1664, .f32⟩

abbrev hbmTy (i : Nat) : BufTy := match i / 128 with
  | 0 => hbmTy0_0 i
  | 1 => hbmTy0_1 i
  | _ => ⟨S16384x1664, .f32⟩

abbrev bufTy : (tb : Table) → Fin (tcTables nBuf tb) → BufTy
  | .hbm, ⟨i, _⟩ => hbmTy i
  | _, _ => ⟨S16384x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_call0_cst : Ref sig .tc := ⟨.hbm, 30, rfl⟩
abbrev main_call1_call0_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_c : Ref sig .tc := ⟨.hbm, 53, rfl⟩
abbrev main_v31_0 : Ref sig .tc := ⟨.hbm, 54, rfl⟩
abbrev main_v31_1 : Ref sig .tc := ⟨.hbm, 55, rfl⟩
abbrev main_v31_2 : Ref sig .tc := ⟨.hbm, 56, rfl⟩
abbrev main_v31_3 : Ref sig .tc := ⟨.hbm, 57, rfl⟩
abbrev main_v31_4 : Ref sig .tc := ⟨.hbm, 58, rfl⟩
abbrev main_while0c_c_13 : Ref sig .tc := ⟨.hbm, 59, rfl⟩
abbrev main_while0c_v91 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_v0 : Ref sig .tc := ⟨.hbm, 63, rfl⟩
abbrev main_while0b_v91 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_call3_v0 : Ref sig .tc := ⟨.hbm, 68, rfl⟩
abbrev main_while0b_v92 : Ref sig .tc := ⟨.hbm, 69, rfl⟩
abbrev main_while0b_v93 : Ref sig .tc := ⟨.hbm, 70, rfl⟩
abbrev main_while0b_v94 : Ref sig .tc := ⟨.hbm, 71, rfl⟩
abbrev main_while0b_v95 : Ref sig .tc := ⟨.hbm, 72, rfl⟩
abbrev main_while0b_v96 : Ref sig .tc := ⟨.hbm, 73, rfl⟩
abbrev main_while0b_call4_v0 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_c_1 : Ref sig .tc := ⟨.hbm, 77, rfl⟩
abbrev main_while0b_v97 : Ref sig .tc := ⟨.hbm, 78, rfl⟩
abbrev main_while0b_c_13 : Ref sig .tc := ⟨.hbm, 79, rfl⟩
abbrev main_while0b_v98 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_call5_cst : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_v39 : Ref sig .tc := ⟨.hbm, 101, rfl⟩
abbrev main_v40 : Ref sig .tc := ⟨.hbm, 102, rfl⟩
abbrev main_cst_2 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_call6_call0_cst : Ref sig .tc := ⟨.hbm, 108, rfl⟩
abbrev main_call6_call0_v0 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_cst_3 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_c_4 : Ref sig .tc := ⟨.hbm, 128, rfl⟩
abbrev main_v62 : Ref sig .tc := ⟨.hbm, 129, rfl⟩
abbrev main_call7_v0 : Ref sig .tc := ⟨.hbm, 130, rfl⟩
abbrev main_call7_c : Ref sig .tc := ⟨.hbm, 131, rfl⟩
abbrev main_call7_v1 : Ref sig .tc := ⟨.hbm, 132, rfl⟩
abbrev main_call7_v2 : Ref sig .tc := ⟨.hbm, 133, rfl⟩
abbrev main_call7_v3 : Ref sig .tc := ⟨.hbm, 134, rfl⟩
abbrev main_call7_v4 : Ref sig .tc := ⟨.hbm, 135, rfl⟩
abbrev main_call7_c_0 : Ref sig .tc := ⟨.hbm, 136, rfl⟩
abbrev main_call7_v5 : Ref sig .tc := ⟨.hbm, 137, rfl⟩
abbrev main_v63 : Ref sig .tc := ⟨.hbm, 138, rfl⟩
abbrev main_v64 : Ref sig .tc := ⟨.hbm, 139, rfl⟩
abbrev main_cst_5 : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_cst_6 : Ref sig .tc := ⟨.hbm, 151, rfl⟩
abbrev main_v72 : Ref sig .tc := ⟨.hbm, 152, rfl⟩
abbrev main_v73 : Ref sig .tc := ⟨.hbm, 153, rfl⟩
abbrev main_cst_7 : Ref sig .tc := ⟨.hbm, 154, rfl⟩
abbrev main_v74 : Ref sig .tc := ⟨.hbm, 155, rfl⟩
abbrev main_v75 : Ref sig .tc := ⟨.hbm, 156, rfl⟩
abbrev main_cst_8 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_call9_v0 : Ref sig .tc := ⟨.hbm, 169, rfl⟩
abbrev main_call9_v1 : Ref sig .tc := ⟨.hbm, 170, rfl⟩
abbrev main_call9_cst : Ref sig .tc := ⟨.hbm, 171, rfl⟩
abbrev main_call9_v2 : Ref sig .tc := ⟨.hbm, 172, rfl⟩
abbrev main_call9_v3 : Ref sig .tc := ⟨.hbm, 173, rfl⟩
abbrev main_call9_cst_0 : Ref sig .tc := ⟨.hbm, 174, rfl⟩
abbrev main_call9_v4 : Ref sig .tc := ⟨.hbm, 175, rfl⟩
abbrev main_call9_v5 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32_15 : BitVec 32 := 1#32
  let v29 : BitVec 1 := Scalar.cmpi .eq arg1 c1_i32_15
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
variable {F : FTy → Type} [FloatOps F] [Named F]
def κ : String → Option EReal := fun
  | "alpha" => some ((Real.sqrt 2 : ℝ) : EReal)
  | _ => none
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S_, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S1x1024 : Shape := ⟨2, ![1, 1024]⟩
abbrev S1024x256 : Shape := ⟨2, ![1024, 256]⟩
abbrev S256x256 : Shape := ⟨2, ![256, 256]⟩
abbrev S1024x1 : Shape := ⟨2, ![1024, 1]⟩

abbrev nBuf : Space → Nat
  | .hbm => 15
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S256x1024, .bf16⟩
  | .hbm, ⟨3, _⟩ => ⟨S256x1024, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
variable {F : FTy → Type} [FloatOps F] [Named F]
def κ : String → Option EReal := fun
  | "alpha" => some ((Real.sqrt 2 : ℝ) : EReal)
  | _ => none
-- ==== Reference3Ideal.lean ====
abbrev S16384x1024 : Shape := ⟨2, ![16384, 1024]⟩
abbrev S1024x1024 : Shape := ⟨2, ![1024, 1024]⟩
abbrev S256x1024 : Shape := ⟨2, ![256, 1024]⟩
abbrev S1024 : Shape := ⟨1, ![1024]⟩
abbrev S16384x4x256 : Shape := ⟨3, ![16384, 4, 256]⟩
abbrev S256x4x256 : Shape := ⟨3, ![256, 4, 256]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x256x16384 : Shape := ⟨3, ![4, 256, 16384]⟩
abbrev S16384 : Shape := ⟨1, ![16384]⟩
abbrev S16384x1 : Shape := ⟨2, ![16384, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S256x1024, .bf16⟩
  | .hbm, ⟨3, _⟩ => ⟨S256x1024, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S16384x4x256, .f32⟩
  | .hbm, ⟨9, _⟩ => ⟨S256x1024, .f32⟩
  | .hbm, ⟨10, _⟩ => ⟨S256x4x256, .f32⟩
  | .hbm, ⟨11, _⟩ => ⟨S256x1024, .f32⟩
  | .hbm, ⟨12, _⟩ => ⟨S256x4x256, .f32⟩
  | .hbm, ⟨13, _⟩ => ⟨S4x16384x256, .f32⟩
  | .hbm, ⟨14, _⟩ => ⟨S_, .f32⟩
  | .hbm, ⟨15, _⟩ => ⟨S4x16384x256, .f32⟩
  | .hbm, ⟨16, _⟩ => ⟨S4x16384x256, .f32⟩
  | .hbm, ⟨17, _⟩ => ⟨S_, .f32⟩
  | .hbm, ⟨18, _⟩ => ⟨S4x16384, .f32⟩
  | .hbm, ⟨19, _⟩ => ⟨S_, .f32⟩
  | .hbm, ⟨20, _⟩ => ⟨S4x16384, .f32⟩
  | .hbm, ⟨21, _⟩ => ⟨S4x16384, .f32⟩
  | .hbm, ⟨22, _⟩ => ⟨S4x16384x1, .f32⟩
  | .hbm, ⟨23, _⟩ => ⟨S4x16384x256, .f32⟩
  | .hbm, ⟨24, _⟩ => ⟨S4x16384x256, .f32⟩
  | .hbm, ⟨25, _⟩ => ⟨S4x16384x256, .f32⟩
  | .hbm, ⟨26, _⟩ => ⟨S_, .f32⟩
  | .hbm, ⟨27, _⟩ => ⟨S4x16384, .f32⟩
  | .hbm, ⟨28, _⟩ => ⟨S4x16384x1, .f32⟩
  | .hbm, ⟨29, _⟩ => ⟨S4x16384x256, .f32⟩
  | .hbm, ⟨30, _⟩ => ⟨S4x16384x256, .f32⟩
  | .hbm, ⟨31, _⟩ => ⟨S4x256x16384, .f32⟩
  | .hbm, ⟨32, _⟩ => ⟨S16384x4x256, .f32⟩
  | .hbm, ⟨33, _⟩ => ⟨S16384x1024, .f32⟩
  | .hbm, ⟨34, _⟩ => ⟨S_, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Kernel4.lean ====
abbrev S16384x1024 : Shape := ⟨2, ![16384, 1024]⟩
abbrev S1024x4112 : Shape := ⟨2, ![1024, 4112]⟩
abbrev S1024x2576 : Shape := ⟨2, ![1024, 2576]⟩
abbrev S_ : Shape := ⟨0, ![]⟩
abbrev S1024x2688 : Shape := ⟨2, ![1024, 2688]⟩
abbrev S16384x2688 : Shape := ⟨2, ![16384, 2688]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x4112, .f32⟩
  | .hbm, ⟨2, _⟩ => ⟨S1024x2576, .f32⟩
  | .hbm, ⟨3, _⟩ => ⟨S_, .i32⟩
  | .hbm, ⟨4, _⟩ => ⟨S_, .f32⟩
  | .hbm, ⟨5, _⟩ => ⟨S1024x2688, .f32⟩
  | .hbm, ⟨6, _⟩ => ⟨S1024x2688, .bf16⟩
  | .hbm, ⟨7, _⟩ => ⟨S16384x2688, .f32⟩
  | .local _ .vmem, ⟨0, _⟩ => ⟨S1024x1024, .f32⟩
  | .local _ .vmem, ⟨1, _⟩ => ⟨S1024x1024, .f32⟩
  | .local _ .vmem, ⟨2, _⟩ => ⟨S1024x2688, .bf16⟩
  | .local _ .vmem, ⟨3, _⟩ => ⟨S1024x2688, .f32⟩
  | .local _ .vmem, ⟨4, _⟩ => ⟨S1024x2688, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x1024 : Shape := ⟨2, ![16384, 1024]⟩
abbrev S1024x4112 : Shape := ⟨2, ![1024, 4112]⟩
abbrev S16384x4112 : Shape := ⟨2, ![16384, 4112]⟩
abbrev S16384x2576 : Shape := ⟨2, ![16384, 2576]⟩
abbrev S_ : Shape := ⟨0, ![]⟩
abbrev S16384x2688 : Shape := ⟨2, ![16384, 2688]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4112, .f32⟩
  | .hbm, ⟨2, _⟩ => ⟨S16384x4112, .f32⟩
  | .hbm, ⟨3, _⟩ => ⟨S16384x2576, .f32⟩
  | .hbm, ⟨4, _⟩ => ⟨S_, .i32⟩
  | .hbm, ⟨5, _⟩ => ⟨S_, .f32⟩
  | .hbm, ⟨6, _⟩ => ⟨S16384x2688, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel5.lean ====
abbrev S16384x1024 : Shape := ⟨2, ![16384, 1024]⟩
abbrev S1024x3344 : Shape := ⟨2, ![1024, 3344]⟩
abbrev S1024x1792 : Shape := ⟨2, ![1024, 1792]⟩
abbrev S16384x1792 : Shape := ⟨2, ![16384, 1792]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x3344, .f32⟩
  | .hbm, ⟨2, _⟩ => ⟨S1024x1792, .f32⟩
  | .hbm, ⟨3, _⟩ => ⟨S1024x1792, .bf16⟩
  | .hbm, ⟨4, _⟩ => ⟨S16384x1792, .f32⟩
  | .local _ .vmem, ⟨0, _⟩ => ⟨S1024x1024, .f32⟩
  | .local _ .vmem, ⟨1, _⟩ => ⟨S1024x1024, .f32⟩
  | .local _ .vmem, ⟨2, _⟩ => ⟨S1024x1792, .bf16⟩
  | .local _ .vmem, ⟨3, _⟩ => ⟨S1024x1792, .f32⟩
  | .local _ .vmem, ⟨4, _⟩ => ⟨S1024x1792, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x1024 : Shape := ⟨2, ![16384, 1024]⟩
abbrev S1024x3344 : Shape := ⟨2, ![1024, 3344]⟩
abbrev S16384x3344 : Shape := ⟨2, ![16384, 3344]⟩
abbrev S16384x1792 : Shape := ⟨2, ![16384, 1792]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3344, .f32⟩
  | .hbm, ⟨2, _⟩ => ⟨S16384x3344, .f32⟩
  | .hbm, ⟨3, _⟩ => ⟨S16384x1792, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S16384x1024 : Shape := ⟨2, ![16384, 1024]⟩
abbrev S1024x3344 : Shape := ⟨2, ![1024, 3344]⟩
abbrev S1024x1552 : Shape := ⟨2, ![1024, 1552]⟩
abbrev S_ : Shape := ⟨0, ![]⟩
abbrev S1024x1664 : Shape := ⟨2, ![1024, 1664]⟩
abbrev S16384x1664 : Shape := ⟨2, ![16384, 1664]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x3344, .f32⟩
  | .hbm, ⟨2, _⟩ => ⟨S1024x1552, .f32⟩
  | .hbm, ⟨3, _⟩ => ⟨S_, .i32⟩
  | .hbm, ⟨4, _⟩ => ⟨S_, .f32⟩
  | .hbm, ⟨5, _⟩ => ⟨S1024x1664, .f32⟩
  | .hbm, ⟨6, _⟩ => ⟨S1024x1664, .bf16⟩
  | .hbm, ⟨7, _⟩ => ⟨S16384x1664, .f32⟩
  | .local _ .vmem, ⟨0, _⟩ => ⟨S1024x1024, .f32⟩
  | .local _ .vmem, ⟨1, _⟩ => ⟨S1024x1024, .f32⟩
  | .local _ .vmem, ⟨2, _⟩ => ⟨S1024x1664, .bf16⟩
  | .local _ .vmem, ⟨3, _⟩ => ⟨S1024x1664, .f32⟩
  | .local _ .vmem, ⟨4, _⟩ => ⟨S1024x1664, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x1024 : Shape := ⟨2, ![16384, 1024]⟩
abbrev S1024x3344 : Shape := ⟨2, ![1024, 3344]⟩
abbrev S16384x3344 : Shape := ⟨2, ![16384, 3344]⟩
abbrev S16384x1552 : Shape := ⟨2, ![16384, 1552]⟩
abbrev S_ : Shape := ⟨0, ![]⟩
abbrev S16384x1664 : Shape := ⟨2, ![16384, 1664]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3344, .f32⟩
  | .hbm, ⟨2, _⟩ => ⟨S16384x3344, .f32⟩
  | .hbm, ⟨3, _⟩ => ⟨S16384x1552, .f32⟩
  | .hbm, ⟨4, _⟩ => ⟨S_, .i32⟩
  | .hbm, ⟨5, _⟩ => ⟨S_, .f32⟩
  | .hbm, ⟨6, _⟩ => ⟨S16384x1664, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel7.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S512x1024, .bf16⟩
  | .hbm, ⟨8, _⟩ => ⟨S512x1024, .f32⟩
  | .hbm, ⟨9, _⟩ => ⟨S512x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel7Ideal.lean ====
variable {F : FTy → Type} [FloatOps F] [Named F]
def κ : String → Option EReal := fun
  | "alpha" => some ((Real.sqrt 2 : ℝ) : EReal)
  | _ => none
-- ==== Reference7Ideal.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16384x1024, .bf16⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel8.lean ====
abbrev S16384x1024 : Shape := ⟨2, ![16384, 1024]⟩
abbrev S512x16384 : Shape := ⟨2, ![512, 16384]⟩
abbrev S1536x1024 : Shape := ⟨2, ![1536, 1024]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S512x16384, .bf16⟩
  | .hbm, ⟨2, _⟩ => ⟨S16384x1024, .f32⟩
  | .hbm, ⟨3, _⟩ => ⟨S1536x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S512x1024, .f32⟩
  | .hbm, ⟨9, _⟩ => ⟨S512x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel8Ideal.lean ====
variable {F : FTy → Type} [FloatOps F] [Named F]
def κ : String → Option EReal := fun
  | "alpha" => some ((Real.sqrt 2 : ℝ) : EReal)
  | _ => none
-- ==== Reference8Ideal.lean ====
abbrev S16384x1024 : Shape := ⟨2, ![16384, 1024]⟩
abbrev S512x16384 : Shape := ⟨2, ![512, 16384]⟩
abbrev S1536x1024 : Shape := ⟨2, ![1536, 1024]⟩
abbrev S1024 : Shape := ⟨1, ![1024]⟩
abbrev S16384x512 : Shape := ⟨2, ![16384, 512]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x16384, .bf16⟩
  | .hbm, ⟨2, _⟩ => ⟨S16384x1024, .f32⟩
  | .hbm, ⟨3, _⟩ => ⟨S1536x1024, .f32⟩
  | .hbm, ⟨4, _⟩ => ⟨S1024, .f32⟩
  | .hbm, ⟨5, _⟩ => ⟨S1024, .f32⟩
  | .hbm, ⟨6, _⟩ => ⟨S16384x512, .bf16⟩
  | .hbm, ⟨7, _⟩ => ⟨S16384x1536, .bf16⟩
  | .hbm, ⟨8, _⟩ => ⟨S16384x1536, .f32⟩
  | .hbm, ⟨9, _⟩ => ⟨S16384x1024, .f32⟩
  | .hbm, ⟨10, _⟩ => ⟨S_, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel9.lean ====
abbrev S36352x1024 : Shape := ⟨2, ![36352, 1024]⟩
abbrev S71 : Shape := ⟨1, ![71]⟩
abbrev S1 : Shape := ⟨1, ![1]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 5
  | .vmem => 11
  | .smem => 2
  | _ => 0

abbrev bufTy : (tb : Table) → Fin (tcTables nBuf tb) → BufTy
  | .hbm, ⟨0, _⟩ => ⟨S36352x1024, .f32⟩
  | .hbm, ⟨1, _⟩ => ⟨S8x1024x2816, .bf16⟩
  | .hbm, ⟨2, _⟩ => ⟨S8x1024x2816, .bf16⟩
  | .hbm, ⟨3, _⟩ => ⟨S8x2816x1024, .bf16⟩
  | .hbm, ⟨4, _⟩ => ⟨S36352x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S71, .i32⟩
  | .local _ .smem, ⟨1, _⟩ => ⟨S1, .i32⟩
  | _, _ => ⟨S36352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![71, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond4 (i : grid0.Coords) : BitVec 1 :=
  let arg1 : BitVec 32 := BitVec.ofNat 32 (i 1).val
  let c1_i32_23 : BitVec 32 := 1#32
  let v39 : BitVec 1 := Scalar.cmpi .eq arg1 c1_i32_23
  let v40 : BitVec 32 := Scalar.extui v39
  let c0_i32_24 : BitVec 32 := 0#32
  let v41 : BitVec 1 := Scalar.cmpi .ne v40 c0_i32_24
  v41

def k0_cond5 (i : grid0.Coords) (v5 : BitVec 32) : BitVec 1 :=
  let arg1 : BitVec 32 := BitVec.ofNat 32 (i 1).val
  let c1_i32 : BitVec 32 := 1#32
  let v4 : BitVec 1 := Scalar.cmpi .eq arg1 c1_i32
  let arg0 : BitVec 32 := BitVec.ofNat 32 (i 0).val
  let v6 : BitVec 1 := Scalar.cmpi .sge arg0 v5
  let v7 : BitVec 1 := Scalar.andi v4 v6
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference9Ideal.lean ====
abbrev S36352x1024 : Shape := ⟨2, ![36352, 1024]⟩
abbrev S71 : Shape := ⟨1, ![71]⟩
abbrev S1 : Shape := ⟨1, ![1]⟩
abbrev S8x1024x2816 : Shape := ⟨3, ![8, 1024, 2816]⟩
abbrev S8x2816x1024 : Shape := ⟨3, ![8, 2816, 1024]⟩
abbrev S_ : Shape := ⟨0, ![]⟩
abbrev S71x1 : Shape := ⟨2, ![71, 1]⟩
abbrev S71x1024x2816 : Shape := ⟨3, ![71, 1024, 2816]⟩
abbrev S71x2816x1024 : Shape := ⟨3, ![71, 2816, 1024]⟩
abbrev S71x512x1024 : Shape := ⟨3, ![71, 512, 1024]⟩
abbrev S71x512x2816 : Shape := ⟨3, ![71, 512, 2816]⟩
abbrev S71x1x1 : Shape := ⟨3, ![71, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S36352x1024, .f32⟩
  | .hbm, ⟨1, _⟩ => ⟨S71, .i32⟩
  | .hbm, ⟨2, _⟩ => ⟨S1, .i32⟩
  | .hbm, ⟨3, _⟩ => ⟨S8x1024x2816, .bf16⟩
  | .hbm, ⟨4, _⟩ => ⟨S8x1024x2816, .bf16⟩
  | .hbm, ⟨5, _⟩ => ⟨S8x2816x1024, .bf16⟩
  | .hbm, ⟨6, _⟩ => ⟨S8x1024x2816, .f32⟩
  | .hbm, ⟨7, _⟩ => ⟨S_, .i32⟩
  | .hbm, ⟨8, _⟩ => ⟨S71, .i32⟩
  | .hbm, ⟨9, _⟩ => ⟨S71, .i1⟩
  | .hbm, ⟨10, _⟩ => ⟨S_, .i32⟩
  | .hbm, ⟨11, _⟩ => ⟨S71, .i32⟩
  | .hbm, ⟨12, _⟩ => ⟨S71, .i32⟩
  | .hbm, ⟨13, _⟩ => ⟨S71, .i32⟩
  | .hbm, ⟨14, _⟩ => ⟨S71x1, .i32⟩
  | .hbm, ⟨15, _⟩ => ⟨S71x1024x2816, .f32⟩
  | .hbm, ⟨16, _⟩ => ⟨S8x1024x2816, .f32⟩
  | .hbm, ⟨17, _⟩ => ⟨S_, .i32⟩
  | .hbm, ⟨18, _⟩ => ⟨S71, .i32⟩
  | .hbm, ⟨19, _⟩ => ⟨S71, .i1⟩
  | .hbm, ⟨20, _⟩ => ⟨S_, .i32⟩
  | .hbm, ⟨21, _⟩ => ⟨S71, .i32⟩
  | .hbm, ⟨22, _⟩ => ⟨S71, .i32⟩
  | .hbm, ⟨23, _⟩ => ⟨S71, .i32⟩
  | .hbm, ⟨24, _⟩ => ⟨S71x1, .i32⟩
  | .hbm, ⟨25, _⟩ => ⟨S71x1024x2816, .f32⟩
  | .hbm, ⟨26, _⟩ => ⟨S8x2816x1024, .f32⟩
  | .hbm, ⟨27, _⟩ => ⟨S_, .i32⟩
  | .hbm, ⟨28, _⟩ => ⟨S71, .i32⟩
  | .hbm, ⟨29, _⟩ => ⟨S71, .i1⟩
  | .hbm, ⟨30, _⟩ => ⟨S_, .i32⟩
  | .hbm, ⟨31, _⟩ => ⟨S71, .i32⟩
  | .hbm, ⟨32, _⟩ => ⟨S71, .i32⟩
  | .hbm, ⟨33, _⟩ => ⟨S71, .i32⟩
  | .hbm, ⟨34, _⟩ => ⟨S71x1, .i32⟩
  | .hbm, ⟨35, _⟩ => ⟨S71x2816x1024, .f32⟩
  | .hbm, ⟨36, _⟩ => ⟨S71x512x1024, .f32⟩
  | .hbm, ⟨37, _⟩ => ⟨S71x512x2816, .f32⟩
  | .hbm, ⟨38, _⟩ => ⟨S71x512x2816, .f32⟩
  | .hbm, ⟨39, _⟩ => ⟨S71x512x2816, .f32⟩
  | .hbm, ⟨40, _⟩ => ⟨S_, .f32⟩
  | .hbm, ⟨41, _⟩ => ⟨S71x512x2816, .f32⟩
  | .hbm, ⟨42, _⟩ => ⟨S71x512x2816, .f32⟩
  | .hbm, ⟨43, _⟩ => ⟨S_, .f32⟩
  | .hbm, ⟨44, _⟩ => ⟨S71x512x2816, .f32⟩
  | .hbm, ⟨45, _⟩ => ⟨S71x512x2816, .f32⟩
  | .hbm, ⟨46, _⟩ => ⟨S71x512x2816, .f32⟩
  | .hbm, ⟨47, _⟩ => ⟨S71x512x2816, .f32⟩
  | .hbm, ⟨48, _⟩ => ⟨S71x512x2816, .f32⟩
  | .hbm, ⟨49, _⟩ => ⟨S71x512x1024, .f32⟩
  | .hbm, ⟨50, _⟩ => ⟨S71, .i32⟩
  | .hbm, ⟨51, _⟩ => ⟨S71, .i32⟩
  | .hbm, ⟨52, _⟩ => ⟨S71, .i1⟩
  | .hbm, ⟨53, _⟩ => ⟨S71x1x1, .i1⟩
  | .hbm, ⟨54, _⟩ => ⟨S_, .f32⟩
  | .hbm, ⟨55, _⟩ => ⟨S_, .f32⟩
  | .hbm, ⟨56, _⟩ => ⟨S71x512x1024, .i1⟩
  | .hbm, ⟨57, _⟩ => ⟨S71x512x1024, .f32⟩
  | .hbm, ⟨58, _⟩ => ⟨S71x512x1024, .f32⟩
  | .hbm, ⟨59, _⟩ => ⟨S36352x1024, .f32⟩
  | _, _ => ⟨S36352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Kernel10.lean ====
abbrev S16384x1024 : Shape := ⟨2, ![16384, 1024]⟩
abbrev S512x1024 : Shape := ⟨2, ![512, 1024]⟩
abbrev S1024x512 : Shape := ⟨2, ![1024, 512]⟩
abbrev S512x16384 : Shape := ⟨2, ![512, 16384]⟩
abbrev S8x64x256x128 : Shape := ⟨4, ![8, 64, 256, 128]⟩
abbrev S64x1x512 : Shape := ⟨3, ![64, 1, 512]⟩
abbrev S8x64x80x256 : Shape := ⟨4, ![8, 64, 80, 256]⟩
abbrev S64x1x128 : Shape := ⟨3, ![64, 1, 128]⟩
abbrev S64x128x1 : Shape := ⟨3, ![64, 128, 1]⟩
abbrev S256x1024 : Shape := ⟨2, ![256, 1024]⟩
abbrev S512x256 : Shape := ⟨2, ![512, 256]⟩
abbrev S8x1x256x128 : Shape := ⟨4, ![8, 1, 256, 128]⟩
abbrev S1x1x512 : Shape := ⟨3, ![1, 1, 512]⟩
abbrev S8x1x80x256 : Shape := ⟨4, ![8, 1, 80, 256]⟩
abbrev S1x1x128 : Shape := ⟨3, ![1, 1, 128]⟩
abbrev S1x128x1 : Shape := ⟨3, ![1, 128, 1]⟩
abbrev S16x256 : Shape := ⟨2, ![16, 256]⟩
abbrev S64x256 : Shape := ⟨2, ![64, 256]⟩
abbrev S80x256 : Shape := ⟨2, ![80, 256]⟩
abbrev S1x1x80x256 : Shape := ⟨4, ![1, 1, 80, 256]⟩
abbrev S256x512 : Shape := ⟨2, ![256, 512]⟩
abbrev S512 : Shape := ⟨1, ![512]⟩
abbrev S1x512 : Shape := ⟨2, ![1, 512]⟩
abbrev S256x128 : Shape := ⟨2, ![256, 128]⟩
abbrev S1x1x256x128 : Shape := ⟨4, ![1, 1, 256, 128]⟩
abbrev S256x64 : Shape := ⟨2, ![256, 64]⟩
abbrev S1x1x256x64 : Shape := ⟨4, ![1, 1, 256, 64]⟩
abbrev S512x128 : Shape := ⟨2, ![512, 128]⟩
abbrev S128x512 : Shape := ⟨2, ![128, 512]⟩
abbrev S128 : Shape := ⟨1, ![128]⟩
abbrev S1x128 : Shape := ⟨2, ![1, 128]⟩
abbrev S128x256 : Shape := ⟨2, ![128, 256]⟩
abbrev S128x1 : Shape := ⟨2, ![128, 1]⟩

abbrev nBuf : Space → Nat
  | .hbm => 10
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S512x1024, .bf16⟩
  | .hbm, ⟨2, _⟩ => ⟨S1024x512, .bf16⟩
  | .hbm, ⟨3, _⟩ => ⟨S512x1024, .bf16⟩
  | .hbm, ⟨4, _⟩ => ⟨S512x16384, .bf16⟩
  | .hbm, ⟨5, _⟩ => ⟨S8x64x256x128, .bf16⟩
  | .hbm, ⟨6, _⟩ => ⟨S64x1x512, .f32⟩
  | .hbm, ⟨7, _⟩ => ⟨S8x64x80x256, .bf16⟩
  | .hbm, ⟨8, _⟩ => ⟨S64x1x128, .f32⟩
  | .hbm, ⟨9, _⟩ => ⟨S64x128x1, .f32⟩
  | .local _ .vmem, ⟨0, _⟩ => ⟨S256x1024, .f32⟩
  | .local _ .vmem, ⟨1, _⟩ => ⟨S256x1024, .f32⟩
  | .local _ .vmem, ⟨2, _⟩ => ⟨S512x1024, .bf16⟩
  | .local _ .vmem, ⟨3, _⟩ => ⟨S1024x512, .bf16⟩
  | .local _ .vmem, ⟨4, _⟩ => ⟨S512x1024, .bf16⟩
  | .local _ .vmem, ⟨5, _⟩ => ⟨S512x256, .bf16⟩
  | .local _ .vmem, ⟨6, _⟩ => ⟨S512x256, .bf16⟩
  | .local _ .vmem, ⟨7, _⟩ => ⟨S8x1x256x128, .bf16⟩
  | .local _ .vmem, ⟨8, _⟩ => ⟨S8x1x256x128, .bf16⟩
  | .local _ .vmem, ⟨9, _⟩ => ⟨S1x1x512, .f32⟩
  | .local _ .vmem, ⟨10, _⟩ => ⟨S1x1x512, .f32⟩
  | .local _ .vmem, ⟨11, _⟩ => ⟨S8x1x80x256, .bf16⟩
  | .local _ .vmem, ⟨12, _⟩ => ⟨S8x1x80x256, .bf16⟩
  | .local _ .vmem, ⟨13, _⟩ => ⟨S1x1x128, .f32⟩
  | .local _ .vmem, ⟨14, _⟩ => ⟨S1x1x128, .f32⟩
  | .local _ .vmem, ⟨15, _⟩ => ⟨S1x128x1, .f32⟩
  | .local _ .vmem, ⟨16, _⟩ => ⟨S1x128x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x80x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S16384x1024 : Shape := ⟨2, ![16384, 1024]⟩
abbrev S512x1024 : Shape := ⟨2, ![512, 1024]⟩
abbrev S1024x512 : Shape := ⟨2, ![1024, 512]⟩
abbrev S16384x512 : Shape := ⟨2, ![16384, 512]⟩
abbrev S64x256x8x64 : Shape := ⟨4, ![64, 256, 8, 64]⟩
abbrev S8x64x256x64 : Shape := ⟨4, ![8, 64, 256, 64]⟩
abbrev S8x64x64x256 : Shape := ⟨4, ![8, 64, 64, 256]⟩
abbrev S256 : Shape := ⟨1, ![256]⟩
abbrev S1x1x256x1 : Shape := ⟨4, ![1, 1, 256, 1]⟩
abbrev S8x64x256x2 : Shape := ⟨4, ![8, 64, 256, 2]⟩
abbrev S_ : Shape := ⟨0, ![]⟩
abbrev S8x64x256x62 : Shape := ⟨4, ![8, 64, 256, 62]⟩
abbrev S8x64x256x128 : Shape := ⟨4, ![8, 64, 256, 128]⟩
abbrev S8x64x1x256 : Shape := ⟨4, ![8, 64, 1, 256]⟩
abbrev S8x64x15x256 : Shape := ⟨4, ![8, 64, 15, 256]⟩
abbrev S8x64x80x256 : Shape := ⟨4, ![8, 64, 80, 256]⟩
abbrev S64x256x512 : Shape := ⟨3, ![64, 256, 512]⟩
abbrev S64x512 : Shape := ⟨2, ![64, 512]⟩
abbrev S64x1x512 : Shape := ⟨3, ![64, 1, 512]⟩
abbrev S512x16384 : Shape := ⟨2, ![512, 16384]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .bf16⟩
  | .hbm, ⟨2, _⟩ => ⟨S1024x512, .bf16⟩
  | .hbm, ⟨3, _⟩ => ⟨S512x1024, .bf16⟩
  | .hbm, ⟨4, _⟩ => ⟨S512x1024, .f32⟩
  | .hbm, ⟨5, _⟩ => ⟨S1024x512, .f32⟩
  | .hbm, ⟨6, _⟩ => ⟨S16384x512, .f32⟩
  | .hbm, ⟨7, _⟩ => ⟨S1024x512, .f32⟩
  | .hbm, ⟨8, _⟩ => ⟨S16384x512, .f32⟩
  | .hbm, ⟨9, _⟩ => ⟨S512x1024, .f32⟩
  | .hbm, ⟨10, _⟩ => ⟨S1024x512, .f32⟩
  | .hbm, ⟨11, _⟩ => ⟨S16384x512, .f32⟩
  | .hbm, ⟨12, _⟩ => ⟨S64x256x8x64, .f32⟩
  | .hbm, ⟨13, _⟩ => ⟨S8x64x256x64, .f32⟩
  | .hbm, ⟨14, _⟩ => ⟨S64x256x8x64, .f32⟩
  | .hbm, ⟨15, _⟩ => ⟨S8x64x64x256, .f32⟩
  | .hbm, ⟨16, _⟩ => ⟨S256, .i32⟩
  | .hbm, ⟨17, _⟩ => ⟨S256, .f32⟩
  | .hbm, ⟨18, _⟩ => ⟨S1x1x256x1, .f32⟩
  | .hbm, ⟨19, _⟩ => ⟨S8x64x256x2, .f32⟩
  | .hbm, ⟨20, _⟩ => ⟨S_, .f32⟩
  | .hbm, ⟨21, _⟩ => ⟨S8x64x256x62, .f32⟩
  | .hbm, ⟨22, _⟩ => ⟨S8x64x256x128, .f32⟩
  | .hbm, ⟨23, _⟩ => ⟨S_, .f32⟩
  | .hbm, ⟨24, _⟩ => ⟨S8x64x1x256, .f32⟩
  | .hbm, ⟨25, _⟩ => ⟨S_, .f32⟩
  | .hbm, ⟨26, _⟩ => ⟨S8x64x15x256, .f32⟩
  | .hbm, ⟨27, _⟩ => ⟨S8x64x80x256, .f32⟩
  | .hbm, ⟨28, _⟩ => ⟨S64x256x512, .f32⟩
  | .hbm, ⟨29, _⟩ => ⟨S_, .f32⟩
  | .hbm, ⟨30, _⟩ => ⟨S64x512, .f32⟩
  | .hbm, ⟨31, _⟩ => ⟨S64x1x512, .f32⟩
  | .hbm, ⟨32, _⟩ => ⟨S_, .f32⟩
  | .hbm, ⟨33, _⟩ => ⟨S64x1x512, .f32⟩
  | .hbm, ⟨34, _⟩ => ⟨S64x1x512, .f32⟩
  | .hbm, ⟨35, _⟩ => ⟨S512x16384, .f32⟩
  | .hbm, ⟨36, _⟩ => ⟨S512x16384, .bf16⟩
  | .hbm, ⟨37, _⟩ => ⟨S8x64x256x128, .bf16⟩
  | .hbm, ⟨38, _⟩ => ⟨S8x64x80x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.GlaSpec.lean ====
module

public import Idealize.ShloMosaic.Lib.Pointwise

@[expose] public section

/-! Gated linear attention, written entry by entry.

A chunk holds 64 consecutive rows.  `B j k` is the log decay of key column `k` summed over the
chunk's rows up to and including row `j`.  Both programs are read against the functions below. -/

set_option maxRecDepth 16384

noncomputable section

namespace Cert.Gla

open Idealize.ShloMosaic

/-- Column `d` of head `h` among the 256 key columns. -/
def col (h : Fin 4) (d : Fin 64) : Fin 256 := ⟨64 * h.val + d.val, by omega⟩

/-- The log decays of one chunk summed up to row `j`. -/
def cum (L : Fin 64 → Fin 256 → EReal) (j : Fin 64) (k : Fin 256) : EReal :=
  ∑ i : Fin 64, if i ≤ j then L i k else 0

/-- A query entry: scaled by one eighth and by the decay since the chunk began. -/
def qd (q B : Fin 64 → Fin 256 → EReal) (j : Fin 64) (k : Fin 256) : EReal :=
  q j k * Ideal.ofBits .f32 0x3E000000#32 * Ideal.exp (B j k)

/-- A key entry for use inside the chunk: the decay since the chunk began is taken out. -/
def kd (k B : Fin 64 → Fin 256 → EReal) (j : Fin 64) (i : Fin 256) : EReal :=
  k j i * Ideal.exp (-(B j i))

/-- A key entry as the end of the chunk sees it. -/
def ke (k B : Fin 64 → Fin 256 → EReal) (j : Fin 64) (i : Fin 256) : EReal :=
  k j i * Ideal.exp (B 63 i - B j i)

/-- The causal score of row `j` against row `j'` in head `h`. -/
def att (q k B : Fin 64 → Fin 256 → EReal) (h : Fin 4) (j j' : Fin 64) : EReal :=
  if j' ≤ j then ∑ d : Fin 64, qd q B j (col h d) * kd k B j' (col h d) else 0

/-- What a chunk adds to the state of head `h`. -/
def kv (k B : Fin 64 → Fin 256 → EReal) (v : Fin 64 → Fin 128 → EReal) (h : Fin 4)
    (x : Fin 128) (d : Fin 64) : EReal :=
  ∑ j : Fin 64, v j x * ke k B j (col h d)

/-- The state of head `h` after the chunk. -/
def next (k B : Fin 64 → Fin 256 → EReal) (v : Fin 64 → Fin 128 → EReal) (h : Fin 4)
    (S : Fin 128 → Fin 64 → EReal) (x : Fin 128) (d : Fin 64) : EReal :=
  S x d * Ideal.exp (B 63 (col h d)) + kv k B v h x d

/-- The attention's result in the chunk, before its norm and gate. -/
def out (q k B : Fin 64 → Fin 256 → EReal) (v : Fin 64 → Fin 128 → EReal) (h : Fin 4)
    (S : Fin 128 → Fin 64 → EReal) (j : Fin 64) (x : Fin 128) : EReal :=
  (∑ j' : Fin 64, att q k B h j j' * v j' x) + ∑ d : Fin 64, qd q B j (col h d) * S x d

/-- The root mean square norm of a head's 128 results `o`, with weight `w` and gate `g`. -/
def fin (o : Fin 128 → EReal) (g w : EReal) (x : Fin 128) : EReal :=
  o x * Ideal.rsqrt (Ideal.div (∑ l : Fin 128, o l * o l) (Ideal.ofBits .f32 0x43000000#32)
    + Ideal.ofBits .f32 0x3727C5AC#32) * w * (g * Ideal.div 1 (1 + Ideal.exp (-g)))

/-- The log decay made from the gate's projection `z`. -/
def logA (z : EReal) : EReal :=
  Ideal.div (-(max (-z) 0 + Ideal.log (1 + Ideal.exp (-(max z (-z))))))
    (Ideal.ofBits .f32 0x41800000#32)

/-! The whole sequence.  `X r` is row `r` of the projected columns, `L r` row `r` of log decays. -/

variable (X : ℕ → Fin 1664 → EReal) (L : ℕ → Fin 256 → EReal)

/-- The queries of chunk `n`. -/
def qAt (n : ℕ) (j : Fin 64) (k : Fin 256) : EReal := X (64 * n + j.val) ⟨k.val, by omega⟩

/-- The keys of chunk `n`. -/
def kAt (n : ℕ) (j : Fin 64) (k : Fin 256) : EReal := X (64 * n + j.val) ⟨256 + k.val, by omega⟩

/-- The values of chunk `n` in head `h`. -/
def vAt (h : Fin 4) (n : ℕ) (j : Fin 64) (x : Fin 128) : EReal :=
  X (64 * n + j.val) ⟨512 + 128 * h.val + x.val, by omega⟩

/-- The gate of row `r` in head `h`. -/
def gAt (h : Fin 4) (r : ℕ) (x : Fin 128) : EReal := X r ⟨1024 + 128 * h.val + x.val, by omega⟩

/-- The summed log decays of chunk `n`. -/
def bAt (n : ℕ) : Fin 64 → Fin 256 → EReal := cum fun j k => L (64 * n + j.val) k

/-- The state of head `h` as chunk `n` finds it. -/
def state (h : Fin 4) : ℕ → Fin 128 → Fin 64 → EReal
  | 0 => fun _ _ => 0
  | n + 1 => next (kAt X n) (bAt L n) (vAt X h n) h (state h n)

/-- Row `j` of chunk `n` of head `h`, before norm and gate. -/
def outAt (h : Fin 4) (n : ℕ) : Fin 64 → Fin 128 → EReal :=
  out (qAt X n) (kAt X n) (bAt L n) (vAt X h n) h (state X L h n)

/-- The result at row `r`, head `h`, column `x`, with norm weights `w`. -/
def result (w : Fin 512 → EReal) (h : Fin 4) (r : ℕ) (x : Fin 128) : EReal :=
  fin (outAt X L h (r / 64) ⟨r % 64, Nat.mod_lt _ (by norm_num)⟩) (gAt X h r x)
    (w ⟨128 * h.val + x.val, by omega⟩) x

end Cert.Gla

end
-- ==== Proof.GlaIn.lean ====
module

public import proofs.«01_k».proof.Proof.GlaSpec

@[expose] public section

/-! The specification read off the four arguments: the table of projected columns, the gate's second
projection and its bias, and the weights of the norm. -/

noncomputable section

namespace Cert.Gla

open Idealize.ShloMosaic

/-- The rows of the table, one after another. -/
def tableOf (a : Fin 16384 → Fin 1664 → EReal) (r : ℕ) (k : Fin 1664) : EReal :=
  if h : r < 16384 then a ⟨r, h⟩ k else 0

/-- The log decays: the gate's second projection of its 16 columns, through `logA`. -/
def decayOf (X : ℕ → Fin 1664 → EReal) (W : Fin 16 → Fin 256 → EReal) (b : Fin 256 → EReal) (r : ℕ) (k : Fin 256) : EReal :=
  logA ((∑ i : Fin 16, X r ⟨1536 + i.val, by omega⟩ * W i k) + b k)

/-- The result of the whole layer call at row `r`, head `h`, column `x`. -/
def wholeOf (a : Fin 16384 → Fin 1664 → EReal) (W : Fin 16 → Fin 256 → EReal) (b : Fin 256 → EReal) (w : Fin 512 → EReal)
    (h : Fin 4) (r : ℕ) (x : Fin 128) : EReal :=
  result (tableOf a) (decayOf (tableOf a) W b) w h r x

end Cert.Gla

end
-- ==== Proof.GlaBody.lean ====
module

public import proofs.«01_k».proof.KernelIdeal
public import proofs.«01_k».proof.Proof.Gen.KernelIdeal.Skeleton
public import proofs.«01_k».proof.Proof.GlaSpec

@[expose] public section

/-! One chunk and one head of the kernel's body.

The body treats four chunks of 64 rows and four heads by the same operations at other offsets.
Here they are written once for chunk `c` and head `h`, and read entry by entry. -/

set_option maxRecDepth 16384

noncomputable section

namespace Cert.GlaBody

open Idealize.ShloMosaic Idealize.ShloMosaic.TcCoe
open Cert.KernelIdeal Cert.KernelIdeal.Gen

/-- The rows of chunk `c`. -/
def rowsC (c : Fin 4) (B : FVec Ideal S256x256 .f32) : FVec Ideal S64x256 .f32 :=
  extractStridedSlice S64x256 ![64 * c.val, 0] B (by revert c; decide)

/-- The last row of chunk `c`. -/
def lastC (c : Fin 4) (B : FVec Ideal S256x256 .f32) : FVec Ideal S1x256 .f32 :=
  extractStridedSlice S1x256 ![63, 0] (rowsC c B) slices_S64x256_o63_0_S1x256

/-- The 64 columns of head `h`. -/
def headC (h : Fin 4) (x : FVec Ideal S64x256 .f32) : FVec Ideal S64x64 .f32 :=
  extractStridedSlice S64x64 ![0, 64 * h.val] x (by revert h; decide)

/-- The 64 columns of head `h` of a single row. -/
def headR (h : Fin 4) (x : FVec Ideal S1x256 .f32) : FVec Ideal S1x64 .f32 :=
  extractStridedSlice S1x64 ![0, 64 * h.val] x (by revert h; decide)

/-- The scaled and decayed queries. -/
def qC (c : Fin 4) (B : FVec Ideal S256x256 .f32) (q : Vec Ideal S64x256 .f32) : FVec Ideal S64x256 .f32 :=
  mulf (mulf q (broadcast S64x256 (Scalar.ofBits .f32 0x3E000000#32))) (exp (rowsC c B))

/-- The keys for use inside the chunk. -/
def kC (c : Fin 4) (B : FVec Ideal S256x256 .f32) (k : Vec Ideal S64x256 .f32) : FVec Ideal S64x256 .f32 :=
  mulf k (exp (subf (broadcast S64x256 (Scalar.ofBits .f32 0x00000000#32)) (rowsC c B)))

/-- The keys as the end of the chunk sees them. -/
def keC (c : Fin 4) (B : FVec Ideal S256x256 .f32) (k : Vec Ideal S64x256 .f32) : FVec Ideal S64x256 .f32 :=
  mulf k (exp (subf (broadcastTo S64x256 (lastC c B) broadcasts_S1x256_S64x256) (rowsC c B)))

/-- The causal scores. -/
def attC (c h : Fin 4) (B : FVec Ideal S256x256 .f32) (q k : Vec Ideal S64x256 .f32) : FVec Ideal S64x64 .f32 :=
  select k0_pay10
    (matmul dot_S64x64_S64x64_S64x64_1_1_0_0_n_n none (truncf .bf16 (headC h (qC c B q)) bitsLt_bf16_f32)
      (truncf .bf16 (headC h (kC c B k)) bitsLt_bf16_f32) (constant S64x64 .f32 0x00000000#32))
    (broadcast S64x64 (Scalar.ofBits .f32 0x00000000#32))

/-- The state after the chunk. -/
def nextC (c h : Fin 4) (B : FVec Ideal S256x256 .f32) (k : Vec Ideal S64x256 .f32) (v : Vec Ideal S64x128 .f32)
    (S : FVec Ideal S128x64 .f32) : FVec Ideal S128x64 .f32 :=
  addf (mulf S (broadcastTo S128x64 (headR h (exp (lastC c B))) broadcasts_S1x64_S128x64))
    (matmul dot_S64x128_S64x64_S128x64_0_0_1_1_n_n none (truncf .bf16 v bitsLt_bf16_f32)
      (truncf .bf16 (headC h (keC c B k)) bitsLt_bf16_f32) (constant S128x64 .f32 0x00000000#32))

/-- The chunk's result before norm and gate. -/
def outC (c h : Fin 4) (B : FVec Ideal S256x256 .f32) (q k : Vec Ideal S64x256 .f32) (v : Vec Ideal S64x128 .f32)
    (S : FVec Ideal S128x64 .f32) : FVec Ideal S64x128 .f32 :=
  shapeCast S64x128
    (addf (matmul dot_S64x64_S64x128_S64x128_1_0_0_1_n_n none (truncf .bf16 (attC c h B q k) bitsLt_bf16_f32)
        (truncf .bf16 v bitsLt_bf16_f32) (constant S64x128 .f32 0x00000000#32))
      (matmul dot_S64x64_S128x64_S64x128_1_1_0_0_n_n none (truncf .bf16 (headC h (qC c B q)) bitsLt_bf16_f32)
        (truncf .bf16 S bitsLt_bf16_f32) (constant S64x128 .f32 0x00000000#32)))
    shapeCasts_S64x128_S64x128

/-- A table of 256 columns as a function of row and column. -/
abbrev tab (x : Vec Ideal S64x256 .f32) : Fin 64 → Fin 256 → EReal := fun j k => x (ix2 j k)

/-- The rows of chunk `c` as a function of row and column. -/
abbrev tabB (c : Fin 4) (B : FVec Ideal S256x256 .f32) : Fin 64 → Fin 256 → EReal :=
  fun j k => B (ix2 ⟨64 * c.val + j.val, by omega⟩ k)

/-- An entry of the queries. -/
theorem qC_at (c h : Fin 4) (B : FVec Ideal S256x256 .f32) (q : Vec Ideal S64x256 .f32) (j d : Fin 64) :
    headC h (qC c B q) (ix2 j d) = Gla.qd (tab q) (tabB c B) j (Gla.col h d) := by
  pointwise [headC, qC, rowsC, Gla.qd, Gla.col, tab, tabB]

/-- An entry of the keys inside the chunk. -/
theorem kC_at (c h : Fin 4) (B : FVec Ideal S256x256 .f32) (k : Vec Ideal S64x256 .f32) (j d : Fin 64) :
    headC h (kC c B k) (ix2 j d) = Gla.kd (tab k) (tabB c B) j (Gla.col h d) := by
  pointwise [headC, kC, rowsC, Gla.kd, Gla.col, tab, tabB]
  rw [zero_sub]

/-- An entry of the keys at the chunk's end. -/
theorem keC_at (c h : Fin 4) (B : FVec Ideal S256x256 .f32) (k : Vec Ideal S64x256 .f32) (j d : Fin 64) :
    headC h (keC c B k) (ix2 j d) = Gla.ke (tab k) (tabB c B) j (Gla.col h d) := by
  pointwise [headC, keC, rowsC, lastC, Gla.ke, Gla.col, tab, tabB]

/-- The comparison of two row numbers as words. -/
theorem sle_word (j' j : Fin 64) :
    IntOp.cmpi .sle (BitVec.ofNat 32 j'.val) (BitVec.ofNat 32 j.val) = if j' ≤ j then 1#1 else 0#1 := by
  revert j' j; decide +kernel

/-- An entry of the scores. -/
theorem attC_at (c h : Fin 4) (B : FVec Ideal S256x256 .f32) (q k : Vec Ideal S64x256 .f32) (j j' : Fin 64) :
    attC c h B q k (ix2 j j') = Gla.att (tab q) (tab k) (tabB c B) h j j' := by
  pointwise [attC, qC_at, kC_at, Gla.att, k0_pay10]
  rw [sle_word]
  by_cases h : j' ≤ j <;> simp [h, Scalar.select]

/-- An entry of the state after the chunk. -/
theorem nextC_at (c h : Fin 4) (B : FVec Ideal S256x256 .f32) (k : Vec Ideal S64x256 .f32) (v : Vec Ideal S64x128 .f32)
    (S : FVec Ideal S128x64 .f32) (x : Fin 128) (d : Fin 64) :
    nextC c h B k v S (ix2 x d)
      = Gla.next (tab k) (tabB c B) (fun j x => v (ix2 j x)) h (fun x d => S (ix2 x d)) x d := by
  pointwise [nextC, keC_at, Gla.next, Gla.kv, headR, lastC, rowsC, Gla.col]
  rfl

/-- An entry of the chunk's result. -/
theorem outC_at (c h : Fin 4) (B : FVec Ideal S256x256 .f32) (q k : Vec Ideal S64x256 .f32) (v : Vec Ideal S64x128 .f32)
    (S : FVec Ideal S128x64 .f32) (j : Fin 64) (x : Fin 128) :
    outC c h B q k v S (ix2 j x)
      = Gla.out (tab q) (tab k) (tabB c B) (fun j x => v (ix2 j x)) h (fun x d => S (ix2 x d)) j x := by
  pointwise [outC, qC_at, attC_at, Gla.out]

/-- An entry of the norm and gate. -/
theorem fin_at (o g : Vec Ideal S256x128 .f32) (w : Vec Ideal S1x128 .f32) (r : Fin 256) (x : Fin 128) :
    k0_pay192 (F := Ideal) o g w (ix2 r x)
      = Gla.fin (fun x => o (ix2 r x)) (g (ix2 r x)) (w (ix2 0 x)) x := by
  pointwise [k0_pay192, Gla.fin]
  rw [zero_sub]

end Cert.GlaBody

end
-- ==== Proof.GlaCum.lean ====
module

public import proofs.«01_k».proof.KernelIdeal
public import proofs.«01_k».proof.Proof.Gen.KernelIdeal.Skeleton
public import proofs.«01_k».proof.Proof.GlaSpec
public import Idealize.ShloMosaic.Lib.WordCmp

@[expose] public section

/-! The kernel's log decays and their sums along a chunk.

The kernel sums by a product with a mask of zeros and ones, in three parts.  Here the three parts
are shown to be one sum, and the mask to pick the rows of the same chunk up to the current one. -/

set_option maxRecDepth 16384

noncomputable section

namespace Cert.GlaCum

open Idealize.ShloMosaic Idealize.ShloMosaic.TcCoe
open Cert.KernelIdeal Cert.KernelIdeal.Gen

/-- The mask of the rows of the same chunk up to the current one. -/
def mask : FVec Ideal S256x256 .bf16 :=
  k0_pay6 (iota Kind.tc S256x256 32 [0] iota_S256x256_d0_w32) (iota Kind.tc S256x256 32 [1] iota_S256x256_d1_w32)
    k0_pay3 (64#32) k0_pay4 k0_pay5

/-- The summed log decays as the kernel makes them. -/
def sums (la : FVec Ideal S256x256 .f32) : FVec Ideal S256x256 .f32 :=
  k0_pay9 la mask (k0_pay7 la) (k0_pay8 la)

/-- An entry of the log decays: the product with the weights, the bias, and `Gla.logA`. -/
theorem la_at (x : Vec Ideal S256x128 .f32) (w : Vec Ideal S128x256 .bf16) (b : Vec Ideal S1x256 .f32)
    (r : Fin 256) (k : Fin 256) :
    k0_pay2 (F := Ideal) x w b (ix2 r k)
      = Gla.logA ((∑ i : Fin 128, x (ix2 r i) * w (ix2 i k)) + b (ix2 0 k)) := by
  pointwise [k0_pay2, Gla.logA]
  simp only [zero_sub]
  rfl

/-- The quotient by 64 rounded down, as the program spells it in words. -/
def quotW (a : BitVec 32) : BitVec 32 :=
  Scalar.select
    (IntOp.andi
      (IntOp.cmpi CmpIPredicate.ne
        (IntOp.subi (BitVec.setWidth 32 (IntOp.cmpi CmpIPredicate.sgt a 0#32))
          (BitVec.setWidth 32 (IntOp.cmpi CmpIPredicate.slt a 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector a 64#32) 0#32))
    (IntOp.subi (IntOp.divsi ArithUnit.vector a 64#32) 1#32)
    (IntOp.divsi ArithUnit.vector a 64#32)

/-- On a row number below 256 it is the quotient. -/
theorem quotW_row (r : Fin 256) : quotW (BitVec.ofNat 32 r.val) = BitVec.ofNat 32 (r.val / 64) := by
  revert r; decide +kernel

/-- Two quotients compare as numbers. -/
theorem eq_word (a b : Fin 4) :
    IntOp.cmpi .eq (BitVec.ofNat 32 a.val) (BitVec.ofNat 32 b.val) = if a.val = b.val then 1#1 else 0#1 := by
  revert a b; decide +kernel

/-- Two row numbers compare as numbers. -/
theorem sle_word (s r : Fin 256) :
    IntOp.cmpi .sle (BitVec.ofNat 32 s.val) (BitVec.ofNat 32 r.val) = if s ≤ r then 1#1 else 0#1 := by
  have := s.isLt; have := r.isLt
  rw [WordCmp.cmpi_sle_ofNat (by omega) (by omega)]
  by_cases h : s ≤ r
  · rw [if_pos h, decide_eq_true (Fin.le_def.1 h)]; rfl
  · rw [if_neg h, decide_eq_false (fun q => h (Fin.le_def.2 q))]; rfl

/-- An entry of the mask. -/
theorem mask_at (r s : Fin 256) : mask (ix2 r s) = if r.val / 64 = s.val / 64 ∧ s ≤ r then (1 : EReal) else 0 := by
  pointwise [mask, k0_pay6, k0_pay5, k0_pay4, k0_pay3]
  change Scalar.select (IntOp.andi (IntOp.cmpi .sle (BitVec.ofNat 32 s.val) (BitVec.ofNat 32 r.val))
    (IntOp.cmpi .eq (quotW (BitVec.ofNat 32 r.val)) (quotW (BitVec.ofNat 32 s.val)))) 1 0 = _
  rw [quotW_row, quotW_row, eq_word ⟨r.val / 64, by omega⟩ ⟨s.val / 64, by omega⟩, sle_word]
  by_cases h : s ≤ r <;> by_cases h' : r.val / 64 = s.val / 64 <;> simp [h, h', Scalar.select, IntOp.andi]

/-- A sum that has `⊥` among its terms is `⊥`. -/
theorem sum_bot {n : ℕ} (f : Fin n → EReal) (i : Fin n) (h : f i = ⊥) : ∑ j, f j = ⊥ := by
  rw [← Finset.add_sum_erase _ _ (Finset.mem_univ i), h, EReal.bot_add]

/-- The sum in three parts: where every picked term is finite the two remainders vanish, and where
one is `⊥` all sums are `⊥`. -/
theorem three_parts {n : ℕ} (m x : Fin n → EReal) (hm : ∀ i, m i = 0 ∨ m i = 1) (hx : ∀ i, x i ≤ 0) :
    ∑ i, m i * x i + ∑ i, m i * (x i - x i) + ∑ i, m i * (x i - x i - (x i - x i)) = ∑ i, m i * x i := by
  by_cases h : ∃ i, m i = 1 ∧ x i = ⊥
  · obtain ⟨i, hi, hb⟩ := h
    rw [sum_bot (fun i => m i * x i) i (by simp [hi, hb]), EReal.bot_add, EReal.bot_add]
  · have hz : ∀ i, m i * (x i - x i) = 0 ∧ m i * (x i - x i - (x i - x i)) = 0 := by
      intro i
      rcases hm i with h0 | h1
      · simp [h0]
      · have hne : x i ≠ ⊥ := fun hb => h ⟨i, h1, hb⟩
        have hnt : x i ≠ ⊤ := fun ht => by have := hx i; simp [ht] at this
        have : x i - x i = 0 := EReal.sub_self hnt hne
        simp [this]
    simp [fun i => (hz i).1, fun i => (hz i).2]

/-- The pattern of sixteen. -/
theorem sixteen : Ideal.ofBits .f32 0x41800000#32 = ((16 : ℝ) : EReal) := by
  simp [Ideal.ofBits, Ideal.ieee, -EReal.coe_mul]
  norm_num

/-- The logarithm of a number not below one is not negative. -/
theorem log_coe_nonneg (r : ℝ) (h : 1 ≤ r) : 0 ≤ Ideal.log (r : EReal) := by
  have e : Ideal.log (r : EReal) = if r ≤ 0 then ⊥ else ((Real.log r : ℝ) : EReal) := rfl
  rw [e, if_neg (by linarith)]
  exact_mod_cast Real.log_nonneg h

/-- The logarithm of one plus an exponential is not negative. -/
theorem log_nonneg (y : EReal) : 0 ≤ Ideal.log (1 + Ideal.exp y) := by
  induction y with
  | bot =>
    have e : (1 : EReal) + Ideal.exp ⊥ = ((1 : ℝ) : EReal) := by
      change (1 : EReal) + 0 = _
      simp
    rw [e]
    exact log_coe_nonneg 1 le_rfl
  | top =>
    have e : Ideal.log (1 + Ideal.exp ⊤) = ⊤ := by
      change Ideal.log ((1 : EReal) + ⊤) = ⊤
      rw [EReal.add_top_of_ne_bot (by decide)]
      rfl
    rw [e]
    exact le_top
  | coe r =>
    have h : (1 : EReal) + Ideal.exp (r : EReal) = ((1 + Real.exp r : ℝ) : EReal) := by
      change (1 : EReal) + ((Real.exp r : ℝ) : EReal) = _
      simp
    rw [h]
    exact log_coe_nonneg _ (by linarith [Real.exp_pos r])

/-- A log decay is never positive. -/
theorem logA_nonpos (z : EReal) : Gla.logA z ≤ 0 := by
  unfold Gla.logA
  rw [sixteen, Ideal.div_coe (by norm_num)]
  have h1 : (0 : EReal) ≤ max (-z) 0 + Ideal.log (1 + Ideal.exp (-(max z (-z)))) :=
    add_nonneg (le_max_right _ _) (log_nonneg _)
  have h2 := EReal.neg_le_neg_iff.2 h1
  rw [neg_zero] at h2
  exact EReal.mul_nonpos_iff.2 (Or.inr ⟨h2, by norm_num⟩)

/-- An entry of the kernel's sums: row `j` of chunk `c` sums the chunk's rows up to `j`. -/
theorem sums_at (la : FVec Ideal S256x256 .f32) (hla : ∀ r k, la (ix2 r k) ≤ (0 : EReal)) (c : Fin 4) (j : Fin 64) (k : Fin 256) :
    sums la (ix2 ⟨64 * c.val + j.val, by omega⟩ k)
      = Gla.cum (fun i k => la (ix2 ⟨64 * c.val + i.val, by omega⟩ k)) j k := by
  pointwise [sums, k0_pay9, k0_pay7, k0_pay8]
  refine (three_parts (fun s => mask (ix2 ⟨64 * c.val + j.val, by omega⟩ s)) (fun s => la (ix2 s k)) ?_ fun s => hla s k).trans ?_
  · intro s
    simp only [mask_at]
    split <;> simp
  · unfold Gla.cum
    rw [Fin.sum_univ_tiles 4 64 rfl]
    rw [Finset.sum_eq_single c]
    · refine Finset.sum_congr rfl fun i _ => ?_
      have e : (⟨c.val * 64 + i.val, by omega⟩ : Fin 256) = ⟨64 * c.val + i.val, by omega⟩ := Fin.ext (by simp; omega)
      refine (congrArg (fun s => mask (ix2 ⟨64 * c.val + j.val, by omega⟩ s) * la (ix2 s k)) e).trans ?_
      change mask _ * la _ = _
      rw [mask_at]
      by_cases h : i ≤ j
      · have h' : i.val ≤ j.val := h
        rw [if_pos h, if_pos ⟨by simp only; omega, by rw [Fin.le_def]; simp only; omega⟩, one_mul]
      · have h' : ¬ i.val ≤ j.val := h
        rw [if_neg h, if_neg (fun q => h' (by have := Fin.le_def.1 q.2; simp only at this; omega)), zero_mul]
    · intro c' _ hc
      refine Finset.sum_eq_zero fun i _ => ?_
      change mask _ * la _ = _
      rw [mask_at, if_neg, zero_mul]
      rintro ⟨h, -⟩
      exact hc (Fin.ext (by simp only at h; omega))
    · simp

end Cert.GlaCum

end
-- ==== Proof.GlaTile.lean ====
module

public import proofs.«01_k».proof.Proof.GlaBody
public import proofs.«01_k».proof.Proof.GlaCum
public import Idealize.ShloMosaic.Lib.Pipeline.ValueKit

@[expose] public section

/-! One tile of 256 rows of the kernel.

A tile is four chunks.  From a tile whose rows are rows `256 t …` of the whole table and a state that
is the one chunk `4 t` finds, the states after each chunk and the results of each chunk are those of
the specification. -/

set_option maxRecDepth 16384

noncomputable section

namespace Cert.GlaTile

open Idealize.ShloMosaic Idealize.ShloMosaic.TcCoe Idealize.SL.Sem
open Cert.KernelIdeal Cert.KernelIdeal.Gen Cert.GlaBody

/-- The columns of the gate's projection. -/
def ldG (x : Vec Ideal S256x1664 .f32) : Vec Ideal S256x128 .f32 :=
  View.ld x (Rect.unit ![0, 1536] ![256, 128] inb_S256x1664_S256x128_0_1536)

/-- The queries of chunk `c`. -/
def ldQ (c : Fin 4) (x : Vec Ideal S256x1664 .f32) : Vec Ideal S64x256 .f32 :=
  View.ld x (Rect.unit (s := S256x1664) ![64 * c.val, 0] ![64, 256] (by revert c; decide))

/-- The keys of chunk `c`. -/
def ldK (c : Fin 4) (x : Vec Ideal S256x1664 .f32) : Vec Ideal S64x256 .f32 :=
  View.ld x (Rect.unit (s := S256x1664) ![64 * c.val, 256] ![64, 256] (by revert c; decide))

/-- The values of chunk `c` in head `h`. -/
def ldV (c h : Fin 4) (x : Vec Ideal S256x1664 .f32) : Vec Ideal S64x128 .f32 :=
  View.ld x (Rect.unit (s := S256x1664) ![64 * c.val, 512 + 128 * h.val] ![64, 128] (by revert c h; decide))

/-- The columns of head `h` of the carried state. -/
def ldS (h : Fin 4) (s : Vec Ideal S128x256 .f32) : Vec Ideal S128x64 .f32 :=
  View.ld s (Rect.unit (s := S128x256) ![0, 64 * h.val] ![128, 64] (by revert h; decide))

/-- The gate of head `h`. -/
def ldGate (h : Fin 4) (x : Vec Ideal S256x1664 .f32) : Vec Ideal S256x128 .f32 :=
  View.ld x (Rect.unit (s := S256x1664) ![0, 1024 + 128 * h.val] ![256, 128] (by revert h; decide))

/-- The norm weights of head `h`. -/
def ldN (h : Fin 4) (x : Vec Ideal S1x512 .f32) : Vec Ideal S1x128 .f32 :=
  View.ld x (Rect.unit (s := S1x512) ![0, 128 * h.val] ![1, 128] (by revert h; decide))

/-- The tile's summed log decays. -/
def bT (x : Vec Ideal S256x1664 .f32) (w : Vec Ideal S128x256 .bf16) (b : Vec Ideal S1x256 .f32) : FVec Ideal S256x256 .f32 :=
  GlaCum.sums (k0_pay2 (ldG x) w b)

/-- The state of head `h` after `n` chunks of the tile. -/
def chain (h : Fin 4) (x : Vec Ideal S256x1664 .f32) (w : Vec Ideal S128x256 .bf16) (b : Vec Ideal S1x256 .f32)
    (s : FVec Ideal S128x64 .f32) : ℕ → FVec Ideal S128x64 .f32
  | 0 => s
  | n + 1 => nextC (Fin.ofNat 4 n) h (bT x w b) (ldK (Fin.ofNat 4 n) x) (ldV (Fin.ofNat 4 n) h x) (chain h x w b s n)

/-- The result of chunk `c` in head `h` before norm and gate. -/
def outT (c h : Fin 4) (x : Vec Ideal S256x1664 .f32) (w : Vec Ideal S128x256 .bf16) (b : Vec Ideal S1x256 .f32)
    (s : FVec Ideal S128x64 .f32) : FVec Ideal S64x128 .f32 :=
  outC c h (bT x w b) (ldQ c x) (ldK c x) (ldV c h x) (chain h x w b s c.val)

/-- What a tile knows: its rows and weights, against the whole table `X`, the weights `W` and bias `b'`
of the gate's projection, and the log decays `L`. -/
structure Tile (X : ℕ → Fin 1664 → EReal) (L : ℕ → Fin 256 → EReal) (W : Fin 16 → Fin 256 → EReal) (b' : Fin 256 → EReal)
    (t : ℕ) (x : Vec Ideal S256x1664 .f32) (w : Vec Ideal S128x256 .bf16) (b : Vec Ideal S1x256 .f32) : Prop where
  rows : ∀ (r : Fin 256) (k : Fin 1664), x (ix2 r k) = X (256 * t + r.val) k
  weights : ∀ (i : Fin 128) (k : Fin 256), w (ix2 i k) = if h : i.val < 16 then W ⟨i.val, h⟩ k else (0 : EReal)
  bias : ∀ k : Fin 256, b (ix2 0 k) = b' k
  decays : ∀ (r : ℕ) (k : Fin 256),
    L r k = Gla.logA ((∑ i : Fin 16, X r ⟨1536 + i.val, by omega⟩ * W i k) + b' k)

variable {X : ℕ → Fin 1664 → EReal} {L : ℕ → Fin 256 → EReal} {W : Fin 16 → Fin 256 → EReal} {b' : Fin 256 → EReal}
  {t : ℕ} {x : Vec Ideal S256x1664 .f32} {w : Vec Ideal S128x256 .bf16} {b : Vec Ideal S1x256 .f32}

/-- The tile's log decays: the zero rows of the padded weights add nothing. -/
theorem Tile.la (T : Tile X L W b' t x w b) (r : Fin 256) (k : Fin 256) :
    k0_pay2 (F := Ideal) (ldG x) w b (ix2 r k) = L (256 * t + r.val) k := by
  rw [GlaCum.la_at, T.decays, T.bias]
  refine congrArg (fun z => Gla.logA (z + b' k)) ?_
  rw [Fin.sum_univ_add (a := 16) (b := 112) (f := fun i : Fin (16 + 112) => ldG x (ix2 r i) * w (ix2 i k))]
  rw [Finset.sum_eq_zero (s := Finset.univ (α := Fin 112)), add_zero]
  · refine Finset.sum_congr rfl fun i _ => ?_
    rw [T.weights, dif_pos (by simp)]
    refine Ideal.mul_congr ?_ rfl
    pointwise [ldG]
    exact T.rows _ _
  · intro i _
    rw [T.weights, dif_neg (by simp)]
    exact mul_zero _

/-- The tile's summed log decays are those of chunk `4 t + c`. -/
theorem Tile.sums (T : Tile X L W b' t x w b) (c : Fin 4) :
    tabB c (bT x w b) = Gla.bAt L (4 * t + c.val) := by
  funext j k
  refine (GlaCum.sums_at _ (fun r k => ?_) c j k).trans ?_
  · rw [GlaCum.la_at]; exact GlaCum.logA_nonpos _
  · unfold Gla.bAt Gla.cum
    refine Finset.sum_congr rfl fun i _ => ?_
    beta_reduce
    rw [T.la]
    have e : 256 * t + (64 * c.val + i.val) = 64 * (4 * t + c.val) + i.val := by omega
    rw [e]

/-- The queries of the tile's chunk. -/
theorem Tile.q (T : Tile X L W b' t x w b) (c : Fin 4) : tab (ldQ c x) = Gla.qAt X (4 * t + c.val) := by
  funext j k
  pointwise [ldQ, tab]
  rw [T.rows]
  exact congrArg₂ X (by simp only; omega) (Fin.ext (by simp))

/-- The keys of the tile's chunk. -/
theorem Tile.k (T : Tile X L W b' t x w b) (c : Fin 4) : tab (ldK c x) = Gla.kAt X (4 * t + c.val) := by
  funext j k
  pointwise [ldK, tab]
  rw [T.rows]
  exact congrArg₂ X (by simp only; omega) rfl

/-- The values of the tile's chunk. -/
theorem Tile.v (T : Tile X L W b' t x w b) (c h : Fin 4) :
    (fun (j : Fin 64) (y : Fin 128) => ldV c h x (ix2 j y)) = Gla.vAt X h (4 * t + c.val) := by
  funext j k
  pointwise [ldV]
  rw [T.rows]
  exact congrArg₂ X (by simp only; omega) rfl

/-- The states along the tile. -/
theorem Tile.chain (T : Tile X L W b' t x w b) (h : Fin 4) (s : FVec Ideal S128x64 .f32)
    (hs : (fun (y : Fin 128) (d : Fin 64) => s (ix2 y d)) = Gla.state X L h (4 * t)) :
    ∀ n ≤ 4, (fun (y : Fin 128) (d : Fin 64) => chain h x w b s n (ix2 y d)) = Gla.state X L h (4 * t + n)
  | 0, _ => hs
  | n + 1, hn => by
    have ih := T.chain h s hs n (by omega)
    have e : (Fin.ofNat 4 n).val = n := Nat.mod_eq_of_lt (by omega)
    funext y d
    refine (nextC_at _ h _ _ _ _ y d).trans ?_
    rw [T.sums, T.k, T.v, ih, e]
    rfl

/-- The results of the tile's chunks. -/
theorem Tile.out (T : Tile X L W b' t x w b) (c h : Fin 4) (s : FVec Ideal S128x64 .f32)
    (hs : (fun (y : Fin 128) (d : Fin 64) => s (ix2 y d)) = Gla.state X L h (4 * t)) (j : Fin 64) (y : Fin 128) :
    outT c h x w b s (ix2 j y) = Gla.outAt X L h (4 * t + c.val) j y := by
  refine (outC_at c h _ _ _ _ _ j y).trans ?_
  rw [T.sums, T.k, T.v, T.q, T.chain h s hs c.val (by omega)]
  rfl

end Cert.GlaTile

end
-- ==== Proof.GlaBlocks.lean ====
module

public import proofs.«01_k».proof.Proof.GlaIn
public import proofs.«01_k».proof.Proof.GlaTile
public import proofs.«01_k».proof.Proof.Gen.KernelIdeal.Value

@[expose] public section

/-! What the kernel's blocks hold at a grid point, in terms of the four arguments. -/

set_option maxRecDepth 16384

noncomputable section

namespace Cert.GlaBlocks

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The table of projected columns. -/
def tbl : Fin 16384 → Fin 1664 → EReal := fun r k => (m ((c : Thread nD τ).loc main_arg0) : FVec Ideal S16384x1664 .f32) (ix2 r k)
/-- The gate's second projection. -/
def gw : Fin 16 → Fin 256 → EReal := fun i k => (m ((c : Thread nD τ).loc main_arg1) : FVec Ideal S16x256 .f32) (ix2 i k)
/-- Its bias. -/
def gb : Fin 256 → EReal := fun k => (m ((c : Thread nD τ).loc main_arg2) : FVec Ideal S256 .f32) (ix1 k)
/-- The weights of the norm. -/
def nw : Fin 512 → EReal := fun k => (m ((c : Thread nD τ).loc main_arg3) : FVec Ideal S512 .f32) (ix1 k)

/-- The blocks of the input windows at each point. -/
theorem idx : ∀ t : Fin cfg0.N, win0_0.index t = ![t.val, 0] ∧ win0_1.index t = ![0, 0] ∧ win0_2.index t = ![0, 0]
    ∧ win0_3.index t = ![0, 0] := (by decide +kernel : ∀ t : Fin grid0.N, _)

/-- Row `r` of the table's block is row `256 t + r` of the table. -/
theorem rows (t : Fin cfg0.N) (r : Fin 256) (k : Fin 1664) :
    (iblk m c 0 t : FVec Ideal S256x1664 .f32) (ix2 r k) = Gla.tableOf (tbl m c) (256 * t.val + r.val) k := by
  have ht : t.val < 64 := lt_of_lt_of_eq t.isLt N_0
  have h : 256 * t.val + r.val < 16384 := by omega
  unfold Gla.tableOf tbl
  rw [dif_pos h]
  blk_ext [iblk, V, idx t]

/-- The padded weights when the grid starts. -/
theorem entry1 : (V m c main_v1 : FVec Ideal S128x256 .bf16) = (truncf .bf16 (pad S128x256 ![0, 0] ![112, 0] ![0, 0]
    (m ((c : Thread nD τ).loc main_arg1) : FVec Ideal S16x256 .f32) (sitofp .f32 (constantI S_ 32 0#32) : FVec Ideal S_ .f32)
    pads_S16x256_S128x256_01120_000 h_S_ : FVec Ideal S128x256 .f32) bitsLt_bf16_f32 : FVec Ideal S128x256 .bf16) := by
  simp only [V, hostOps0, hostOps0_1, hostOps0_2, List.flatten_cons, List.flatten_nil, List.append_nil, List.cons_append, List.nil_append]
  entry_read
  rfl

/-- The bias when the grid starts. -/
theorem entry2 : (V m c main_v2 : FVec Ideal S1x256 .f32) = shapeCast S1x256 (m ((c : Thread nD τ).loc main_arg2) : FVec Ideal S256 .f32)
    shapeCasts_S256_S1x256 := by
  simp only [V, hostOps0, hostOps0_1, hostOps0_2, List.flatten_cons, List.flatten_nil, List.append_nil, List.cons_append, List.nil_append]
  entry_read
  rfl

/-- The weights of the norm when the grid starts. -/
theorem entry3 : (V m c main_v3 : FVec Ideal S1x512 .f32) = shapeCast S1x512 (m ((c : Thread nD τ).loc main_arg3) : FVec Ideal S512 .f32)
    shapeCasts_S512_S1x512 := by
  simp only [V, hostOps0, hostOps0_1, hostOps0_2, List.flatten_cons, List.flatten_nil, List.append_nil, List.cons_append, List.nil_append]
  entry_read
  rfl

/-- The padded weights. -/
theorem weights (t : Fin cfg0.N) (i : Fin 128) (k : Fin 256) :
    (iblk m c 1 t : FVec Ideal S128x256 .bf16) (ix2 i k) = if h : i.val < 16 then gw m c ⟨i.val, h⟩ k else (0 : EReal) := by
  have e : (iblk m c 1 t : FVec Ideal S128x256 .bf16) (ix2 i k) = (V m c main_v1 : FVec Ideal S128x256 .bf16) (ix2 i k) := by
    blk_ext [iblk, idx t]
  rw [e, entry1]
  unfold gw
  pointwise
  by_cases h : i.val < 16
  · rw [dif_pos h, dif_pos]
    intro a
    match a with
    | ⟨0, _⟩ => exact ⟨Nat.zero_le _, Nat.mod_one _, by change (i.val - 0) / 1 < 16; omega⟩
    | ⟨1, _⟩ => exact ⟨Nat.zero_le _, Nat.mod_one _, by change (k.val - 0) / 1 < 256; omega⟩
  · rw [dif_neg h, dif_neg]
    · change (((0#32 : BitVec 32).toInt : ℝ) : EReal) = 0
      simp
    · intro g
      have := (g 0).2.2
      change (i.val - 0) / 1 < 16 at this
      omega

/-- The bias. -/
theorem bias (t : Fin cfg0.N) (k : Fin 256) : (iblk m c 2 t : FVec Ideal S1x256 .f32) (ix2 0 k) = gb m c k := by
  have e : (iblk m c 2 t : FVec Ideal S1x256 .f32) (ix2 0 k) = (V m c main_v2 : FVec Ideal S1x256 .f32) (ix2 0 k) := by
    blk_ext [iblk, idx t]
  rw [e, entry2]
  unfold gb
  pointwise

/-- The weights of the norm. -/
theorem norm (t : Fin cfg0.N) (k : Fin 512) : (iblk m c 3 t : FVec Ideal S1x512 .f32) (ix2 0 k) = nw m c k := by
  have e : (iblk m c 3 t : FVec Ideal S1x512 .f32) (ix2 0 k) = (V m c main_v3 : FVec Ideal S1x512 .f32) (ix2 0 k) := by
    blk_ext [iblk, idx t]
  rw [e, entry3]
  unfold nw
  pointwise

/-- A grid point's blocks are a tile of the specification. -/
theorem tile (t : Fin cfg0.N) : GlaTile.Tile (Gla.tableOf (tbl m c)) (Gla.decayOf (Gla.tableOf (tbl m c)) (gw m c) (gb m c)) (gw m c)
    (gb m c) t.val (iblk m c 0 t) (iblk m c 1 t) (iblk m c 2 t) where
  rows := rows m c t
  weights := weights m c t
  bias := bias m c t
  decays _ _ := rfl

end Cert.GlaBlocks

end
-- ==== Proof.GlaReset.lean ====
module

public import proofs.«01_k».proof.Proof.GlaTile

@[expose] public section

/-! Reading a buffer that was first set as a whole and then written in parts. -/

set_option maxRecDepth 16384

noncomputable section

namespace Cert.GlaReset

open Idealize.ShloMosaic Idealize.ShloMosaic.TcCoe Idealize.SL.Sem

/-- Where the later parts hold the index, what was there before them does not matter. -/
theorem canon_drop {S : Shape} {e : EltTy} (z : View.Piece (Elt Ideal) S e) (y : S.Idx) :
    ∀ L : List (View.Piece (Elt Ideal) S e), (∃ p ∈ L, y ∈ p.1.set) → View.canon (L ++ [z]) y = View.canon L y
  | [], h => by obtain ⟨p, hp, _⟩ := h; exact absurd hp List.not_mem_nil
  | p :: L, h => by
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_drop z y L ?_
      obtain ⟨q, hq, hy⟩ := h
      rcases List.mem_cons.1 hq with rfl | hq
      · exact absurd hy hm
      · exact ⟨q, hq, hy⟩

/-- The offsets of a whole buffer. -/
theorem zero_off : (![0, 0] : Fin 2 → ℕ) = fun _ => 0 := by
  funext a
  fin_cases a <;> rfl

/-- A load from a buffer just set as a whole to `w` is a load from `w`. -/
theorem reset_ld {sig : RefSig} {S : Shape} {e : EltTy} (v : View sig .tc .vmem S e) (off size : Fin S.rank → ℕ)
    (hz : off = fun _ => 0) (hs : size = S.size)
    (inb : ∀ a, off a + size a ≤ S.size a) (w : (Rect.unit off size inb).shape.Idx → Elt Ideal e) (r : Rect S) :
    v.readCov [(⟨Rect.unit off size inb, w⟩ : View.Piece (Elt Ideal) S e)] r.toLoadRect
      = View.ld (fun y : S.Idx => w (fun a => ⟨(y a).val, hs ▸ (y a).isLt⟩)) r := by
  subst hz hs
  rw [View.readCov_eq_canon_ld _ _ _ (fun y => ⟨_, List.mem_cons_self, by
    change y ∈ (Rect.whole S).set; rw [Rect.set_whole]; exact Finset.mem_univ y⟩)]
  exact congrArg (fun z => View.ld z r) (View.canon_cons_unit_zero rfl ..)

/-- A load of a head's 128 columns from what several stores left, read at an entry. -/
theorem read_head {sig : RefSig} (v : View sig .tc .vmem Cert.KernelIdeal.S256x512 .f32)
    (L : List (View.Piece (Elt Ideal) Cert.KernelIdeal.S256x512 .f32)) (hh : Fin 4)
    (inb : ∀ a, (![0, 128 * hh.val] : Fin 2 → ℕ) a + (![256, 128] : Fin 2 → ℕ) a ≤ Cert.KernelIdeal.S256x512.size a)
    (r : Fin 256) (l : Fin 128) (o : EReal)
    (H : ∀ w : Cert.KernelIdeal.S256x512.Idx, (w 0).val = r.val → (w 1).val = 128 * hh.val + l.val → View.canon L w = o) :
    v.readCov L (Rect.unit (s := Cert.KernelIdeal.S256x512) ![0, 128 * hh.val] ![256, 128] inb).toLoadRect (ix2 r l) = o := by
  rw [View.readCov_eq_canon']
  refine H _ ?_ ?_
  · exact (Nat.zero_add _).trans (Nat.one_mul _)
  · exact congrArg (128 * hh.val + ·) (Nat.one_mul _)

end Cert.GlaReset

end
-- ==== Proof.GlaPieceS.lean ====
module

public import proofs.«01_k».proof.Proof.GlaReset
public import proofs.«01_k».proof.Proof.Gen.KernelIdeal.Frame

@[expose] public section

/-! What the body leaves in the carried state and in the result, read at an index. -/

set_option maxRecDepth 16384

noncomputable section

namespace Cert.GlaPieceS

open Idealize.ShloMosaic Idealize.ShloMosaic.TcCoe Idealize.SL.Sem
open Cert.KernelIdeal Cert.KernelIdeal.Gen Cert.GlaTile

variable (c : Dev nD) (i : grid0.Coords) (arg1 : Memref sig .tc .vmem S256x1664 .f32) (harg1 : arg1.IsWhole)
  (arg2 : Memref sig .tc .vmem S128x256 .bf16) (harg2 : arg2.IsWhole) (arg3 : Memref sig .tc .vmem S1x256 .f32) (harg3 : arg3.IsWhole)
  (arg4 : Memref sig .tc .vmem S1x512 .f32) (harg4 : arg4.IsWhole) (arg5 : Memref sig .tc .vmem S256x512 .bf16) (harg5 : arg5.IsWhole)
  (arg6 : Memref sig .tc .vmem S128x256 .f32) (harg6 : arg6.IsWhole) (arg7 : Memref sig .tc .vmem S256x512 .f32) (harg7 : arg7.IsWhole)
  (x0 : Vec Ideal S256x1664 .f32) (x1 : Vec Ideal S128x256 .bf16) (x2 : Vec Ideal S1x256 .f32) (x3 : Vec Ideal S1x512 .f32)
  (xs0 : Vec Ideal S128x256 .f32)

/-- A cast to the same shape changes nothing. -/
theorem cast_at (z : FVec Ideal S128x64 .f32) (v : Fin 128) (d : Fin 64) :
    shapeCast S128x64 z shapeCasts_S128x64_S128x64 (ix2 v d) = z (ix2 v d) := by
  pointwise

/-- The state after a tile that follows another: in column `64 h + d` stands head `h`'s state after four chunks. -/
theorem state_B (hc0 : ¬cond0_0 i) (hh : Fin 4) (v : Fin 128) (d : Fin 64) (y : S128x256.Idx)
    (hv : (y 0).val = v.val) (hd : (y 1).val = 64 * hh.val + d.val) :
    sout0_B_0 (F := Ideal) c i arg1 harg1 arg2 harg2 arg3 harg3 arg4 harg4 arg5 harg5 arg6 harg6 arg7 harg7 hc0 x0 x1 x2 x3 xs0 y
      = chain hh x0 x1 x2 (ldS hh xs0) 4 (ix2 v d) := by
  frame_out
  canon_tiles x h
  case piece0 =>
    obtain rfl : hh = 3 := Fin.ext (by simp; omega)
    obtain rfl : x = ix2 v d := by idx_ext
    unfold k0_pay191
    rw [cast_at]
    exact rfl
  case piece1 =>
    obtain rfl : hh = 2 := Fin.ext (by simp; omega)
    obtain rfl : x = ix2 v d := by idx_ext
    unfold k0_pay190
    rw [cast_at]
    exact rfl
  case piece2 =>
    obtain rfl : hh = 1 := Fin.ext (by simp; omega)
    obtain rfl : x = ix2 v d := by idx_ext
    unfold k0_pay189
    rw [cast_at]
    exact rfl
  case piece3 =>
    obtain rfl : hh = 0 := Fin.ext (by simp; omega)
    obtain rfl : x = ix2 v d := by idx_ext
    unfold k0_pay188
    rw [cast_at]
    exact rfl

/-- The state after the first tile: as `state_B`, from a state of zeros. -/
theorem state_A (hc0 : cond0_0 i) (hh : Fin 4) (v : Fin 128) (d : Fin 64) (y : S128x256.Idx)
    (hv : (y 0).val = v.val) (hd : (y 1).val = 64 * hh.val + d.val) :
    sout0_A_0 (F := Ideal) c i arg1 harg1 arg2 harg2 arg3 harg3 arg4 harg4 arg5 harg5 arg6 harg6 arg7 harg7 hc0 x0 x1 x2 x3 y
      = chain hh x0 x1 x2 (ldS hh (k0_pay1 (F := Ideal))) 4 (ix2 v d) := by
  frame_out
  refine (GlaReset.canon_drop _ y [_, _, _, _] ?cov).trans ?_
  case cov => exact View.cover_of_tiledL (s := S128x256) _ ![128, 64] (by sl_kernel_rfl) y
  simp (disch := first | rfl | exact GlaReset.zero_off) only [GlaReset.reset_ld]
  canon_tiles x h
  case piece0 =>
    obtain rfl : hh = 3 := Fin.ext (by simp; omega)
    obtain rfl : x = ix2 v d := by idx_ext
    unfold k0_pay191
    rw [cast_at]
    exact rfl
  case piece1 =>
    obtain rfl : hh = 2 := Fin.ext (by simp; omega)
    obtain rfl : x = ix2 v d := by idx_ext
    unfold k0_pay190
    rw [cast_at]
    exact rfl
  case piece2 =>
    obtain rfl : hh = 1 := Fin.ext (by simp; omega)
    obtain rfl : x = ix2 v d := by idx_ext
    unfold k0_pay189
    rw [cast_at]
    exact rfl
  case piece3 =>
    obtain rfl : hh = 0 := Fin.ext (by simp; omega)
    obtain rfl : x = ix2 v d := by idx_ext
    unfold k0_pay188
    rw [cast_at]
    exact rfl

end Cert.GlaPieceS

end
-- ==== Proof.GlaPieceO.lean ====
module

public import proofs.«01_k».proof.Proof.GlaReset
public import proofs.«01_k».proof.Proof.Gen.KernelIdeal.Frame

@[expose] public section

/-! What the body leaves in the carried state and in the result, read at an index. -/

set_option maxRecDepth 16384

noncomputable section

namespace Cert.GlaPieceO

open Idealize.ShloMosaic Idealize.ShloMosaic.TcCoe Idealize.SL.Sem
open Cert.KernelIdeal Cert.KernelIdeal.Gen Cert.GlaTile

variable (c : Dev nD) (i : grid0.Coords) (arg1 : Memref sig .tc .vmem S256x1664 .f32) (harg1 : arg1.IsWhole)
  (arg2 : Memref sig .tc .vmem S128x256 .bf16) (harg2 : arg2.IsWhole) (arg3 : Memref sig .tc .vmem S1x256 .f32) (harg3 : arg3.IsWhole)
  (arg4 : Memref sig .tc .vmem S1x512 .f32) (harg4 : arg4.IsWhole) (arg5 : Memref sig .tc .vmem S256x512 .bf16) (harg5 : arg5.IsWhole)
  (arg6 : Memref sig .tc .vmem S128x256 .f32) (harg6 : arg6.IsWhole) (arg7 : Memref sig .tc .vmem S256x512 .f32) (harg7 : arg7.IsWhole)
  (x0 : Vec Ideal S256x1664 .f32) (x1 : Vec Ideal S128x256 .bf16) (x2 : Vec Ideal S1x256 .f32) (x3 : Vec Ideal S1x512 .f32)
  (xs0 : Vec Ideal S128x256 .f32)

/-- The result of a tile that follows another. -/
theorem out_B (hc0 : ¬cond0_0 i) (hh cc : Fin 4) (j : Fin 64) (l : Fin 128) (y : S256x512.Idx)
    (hr : (y 0).val = 64 * cc.val + j.val) (hl : (y 1).val = 128 * hh.val + l.val) :
    out0_B_4 (F := Ideal) c i arg1 harg1 arg2 harg2 arg3 harg3 arg4 harg4 arg5 harg5 arg6 harg6 arg7 harg7 hc0 x0 x1 x2 x3 xs0 y
      = Gla.fin (fun l => outT cc hh x0 x1 x2 (ldS hh xs0) (ix2 j l)) (ldGate hh x0 (ix2 ⟨64 * cc.val + j.val, by omega⟩ l))
          (ldN hh x3 (ix2 0 l)) l := by
  have hb : 64 * cc.val + j.val < 256 := by clear * -; omega
  frame_out
  have hjl := j.isLt
  canon_tiles x h
  case piece0 =>
    obtain rfl : hh = 3 := Fin.ext (by simp; omega)
    obtain rfl : x = ix2 ⟨64 * cc.val + j.val, hb⟩ l := by idx_ext
    refine (GlaBody.fin_at _ _ _ _ l).trans ?_
    refine congrArg (fun o => Gla.fin o _ _ l) (funext fun l' => ?_)
    refine GlaReset.read_head _ _ 3 _ _ l' _ fun w e0 e1 => ?_
    canon_tiles z q
    all_goals first
      | (exfalso; clear * - e1 q1 z1_lt; omega)
      | (have e : cc.val = 0 := by (clear * - e0 q0 z0_lt hjl; simp only at e0; omega)
         obtain rfl : cc = 0 := Fin.ext e
         obtain rfl : z = ix2 j l' := by idx_ext
         exact rfl)
      | (have e : cc.val = 1 := by (clear * - e0 q0 z0_lt hjl; simp only at e0; omega)
         obtain rfl : cc = 1 := Fin.ext e
         obtain rfl : z = ix2 j l' := by idx_ext
         exact rfl)
      | (have e : cc.val = 2 := by (clear * - e0 q0 z0_lt hjl; simp only at e0; omega)
         obtain rfl : cc = 2 := Fin.ext e
         obtain rfl : z = ix2 j l' := by idx_ext
         exact rfl)
      | (have e : cc.val = 3 := by (clear * - e0 q0 z0_lt hjl; simp only at e0; omega)
         obtain rfl : cc = 3 := Fin.ext e
         obtain rfl : z = ix2 j l' := by idx_ext
         exact rfl)
      | skip
  case piece1 =>
    obtain rfl : hh = 2 := Fin.ext (by simp; omega)
    obtain rfl : x = ix2 ⟨64 * cc.val + j.val, hb⟩ l := by idx_ext
    refine (GlaBody.fin_at _ _ _ _ l).trans ?_
    refine congrArg (fun o => Gla.fin o _ _ l) (funext fun l' => ?_)
    refine GlaReset.read_head _ _ 2 _ _ l' _ fun w e0 e1 => ?_
    canon_tiles z q
    all_goals first
      | (exfalso; clear * - e1 q1 z1_lt; omega)
      | (have e : cc.val = 0 := by (clear * - e0 q0 z0_lt hjl; simp only at e0; omega)
         obtain rfl : cc = 0 := Fin.ext e
         obtain rfl : z = ix2 j l' := by idx_ext
         exact rfl)
      | (have e : cc.val = 1 := by (clear * - e0 q0 z0_lt hjl; simp only at e0; omega)
         obtain rfl : cc = 1 := Fin.ext e
         obtain rfl : z = ix2 j l' := by idx_ext
         exact rfl)
      | (have e : cc.val = 2 := by (clear * - e0 q0 z0_lt hjl; simp only at e0; omega)
         obtain rfl : cc = 2 := Fin.ext e
         obtain rfl : z = ix2 j l' := by idx_ext
         exact rfl)
      | (have e : cc.val = 3 := by (clear * - e0 q0 z0_lt hjl; simp only at e0; omega)
         obtain rfl : cc = 3 := Fin.ext e
         obtain rfl : z = ix2 j l' := by idx_ext
         exact rfl)
      | skip
  case piece2 =>
    obtain rfl : hh = 1 := Fin.ext (by simp; omega)
    obtain rfl : x = ix2 ⟨64 * cc.val + j.val, hb⟩ l := by idx_ext
    refine (GlaBody.fin_at _ _ _ _ l).trans ?_
    refine congrArg (fun o => Gla.fin o _ _ l) (funext fun l' => ?_)
    refine GlaReset.read_head _ _ 1 _ _ l' _ fun w e0 e1 => ?_
    canon_tiles z q
    all_goals first
      | (exfalso; clear * - e1 q1 z1_lt; omega)
      | (have e : cc.val = 0 := by (clear * - e0 q0 z0_lt hjl; simp only at e0; omega)
         obtain rfl : cc = 0 := Fin.ext e
         obtain rfl : z = ix2 j l' := by idx_ext
         exact rfl)
      | (have e : cc.val = 1 := by (clear * - e0 q0 z0_lt hjl; simp only at e0; omega)
         obtain rfl : cc = 1 := Fin.ext e
         obtain rfl : z = ix2 j l' := by idx_ext
         exact rfl)
      | (have e : cc.val = 2 := by (clear * - e0 q0 z0_lt hjl; simp only at e0; omega)
         obtain rfl : cc = 2 := Fin.ext e
         obtain rfl : z = ix2 j l' := by idx_ext
         exact rfl)
      | (have e : cc.val = 3 := by (clear * - e0 q0 z0_lt hjl; simp only at e0; omega)
         obtain rfl : cc = 3 := Fin.ext e
         obtain rfl : z = ix2 j l' := by idx_ext
         exact rfl)
      | skip
  case piece3 =>
    obtain rfl : hh = 0 := Fin.ext (by simp; omega)
    obtain rfl : x = ix2 ⟨64 * cc.val + j.val, hb⟩ l := by idx_ext
    refine (GlaBody.fin_at _ _ _ _ l).trans ?_
    refine congrArg (fun o => Gla.fin o _ _ l) (funext fun l' => ?_)
    refine GlaReset.read_head _ _ 0 _ _ l' _ fun w e0 e1 => ?_
    canon_tiles z q
    all_goals first
      | (exfalso; clear * - e1 q1 z1_lt; omega)
      | (have e : cc.val = 0 := by (clear * - e0 q0 z0_lt hjl; simp only at e0; omega)
         obtain rfl : cc = 0 := Fin.ext e
         obtain rfl : z = ix2 j l' := by idx_ext
         exact rfl)
      | (have e : cc.val = 1 := by (clear * - e0 q0 z0_lt hjl; simp only at e0; omega)
         obtain rfl : cc = 1 := Fin.ext e
         obtain rfl : z = ix2 j l' := by idx_ext
         exact rfl)
      | (have e : cc.val = 2 := by (clear * - e0 q0 z0_lt hjl; simp only at e0; omega)
         obtain rfl : cc = 2 := Fin.ext e
         obtain rfl : z = ix2 j l' := by idx_ext
         exact rfl)
      | (have e : cc.val = 3 := by (clear * - e0 q0 z0_lt hjl; simp only at e0; omega)
         obtain rfl : cc = 3 := Fin.ext e
         obtain rfl : z = ix2 j l' := by idx_ext
         exact rfl)
      | skip

/-- The result of the first tile: as `out_A`, from a state of zeros. -/
theorem out_A (hc0 : cond0_0 i) (hh cc : Fin 4) (j : Fin 64) (l : Fin 128) (y : S256x512.Idx)
    (hr : (y 0).val = 64 * cc.val + j.val) (hl : (y 1).val = 128 * hh.val + l.val) :
    out0_A_4 (F := Ideal) c i arg1 harg1 arg2 harg2 arg3 harg3 arg4 harg4 arg5 harg5 arg6 harg6 arg7 harg7 hc0 x0 x1 x2 x3 y
      = Gla.fin (fun l => outT cc hh x0 x1 x2 (ldS hh (k0_pay1 (F := Ideal))) (ix2 j l)) (ldGate hh x0 (ix2 ⟨64 * cc.val + j.val, by omega⟩ l))
          (ldN hh x3 (ix2 0 l)) l := by
  have hb : 64 * cc.val + j.val < 256 := by clear * -; omega
  frame_out
  simp (disch := first | rfl | exact GlaReset.zero_off) only [GlaReset.reset_ld]
  have hjl := j.isLt
  canon_tiles x h
  case piece0 =>
    obtain rfl : hh = 3 := Fin.ext (by simp; omega)
    obtain rfl : x = ix2 ⟨64 * cc.val + j.val, hb⟩ l := by idx_ext
    refine (GlaBody.fin_at _ _ _ _ l).trans ?_
    refine congrArg (fun o => Gla.fin o _ _ l) (funext fun l' => ?_)
    refine GlaReset.read_head _ _ 3 _ _ l' _ fun w e0 e1 => ?_
    canon_tiles z q
    all_goals first
      | (exfalso; clear * - e1 q1 z1_lt; omega)
      | (have e : cc.val = 0 := by (clear * - e0 q0 z0_lt hjl; simp only at e0; omega)
         obtain rfl : cc = 0 := Fin.ext e
         obtain rfl : z = ix2 j l' := by idx_ext
         exact rfl)
      | (have e : cc.val = 1 := by (clear * - e0 q0 z0_lt hjl; simp only at e0; omega)
         obtain rfl : cc = 1 := Fin.ext e
         obtain rfl : z = ix2 j l' := by idx_ext
         exact rfl)
      | (have e : cc.val = 2 := by (clear * - e0 q0 z0_lt hjl; simp only at e0; omega)
         obtain rfl : cc = 2 := Fin.ext e
         obtain rfl : z = ix2 j l' := by idx_ext
         exact rfl)
      | (have e : cc.val = 3 := by (clear * - e0 q0 z0_lt hjl; simp only at e0; omega)
         obtain rfl : cc = 3 := Fin.ext e
         obtain rfl : z = ix2 j l' := by idx_ext
         exact rfl)
      | skip
  case piece1 =>
    obtain rfl : hh = 2 := Fin.ext (by simp; omega)
    obtain rfl : x = ix2 ⟨64 * cc.val + j.val, hb⟩ l := by idx_ext
    refine (GlaBody.fin_at _ _ _ _ l).trans ?_
    refine congrArg (fun o => Gla.fin o _ _ l) (funext fun l' => ?_)
    refine GlaReset.read_head _ _ 2 _ _ l' _ fun w e0 e1 => ?_
    canon_tiles z q
    all_goals first
      | (exfalso; clear * - e1 q1 z1_lt; omega)
      | (have e : cc.val = 0 := by (clear * - e0 q0 z0_lt hjl; simp only at e0; omega)
         obtain rfl : cc = 0 := Fin.ext e
         obtain rfl : z = ix2 j l' := by idx_ext
         exact rfl)
      | (have e : cc.val = 1 := by (clear * - e0 q0 z0_lt hjl; simp only at e0; omega)
         obtain rfl : cc = 1 := Fin.ext e
         obtain rfl : z = ix2 j l' := by idx_ext
         exact rfl)
      | (have e : cc.val = 2 := by (clear * - e0 q0 z0_lt hjl; simp only at e0; omega)
         obtain rfl : cc = 2 := Fin.ext e
         obtain rfl : z = ix2 j l' := by idx_ext
         exact rfl)
      | (have e : cc.val = 3 := by (clear * - e0 q0 z0_lt hjl; simp only at e0; omega)
         obtain rfl : cc = 3 := Fin.ext e
         obtain rfl : z = ix2 j l' := by idx_ext
         exact rfl)
      | skip
  case piece2 =>
    obtain rfl : hh = 1 := Fin.ext (by simp; omega)
    obtain rfl : x = ix2 ⟨64 * cc.val + j.val, hb⟩ l := by idx_ext
    refine (GlaBody.fin_at _ _ _ _ l).trans ?_
    refine congrArg (fun o => Gla.fin o _ _ l) (funext fun l' => ?_)
    refine GlaReset.read_head _ _ 1 _ _ l' _ fun w e0 e1 => ?_
    canon_tiles z q
    all_goals first
      | (exfalso; clear * - e1 q1 z1_lt; omega)
      | (have e : cc.val = 0 := by (clear * - e0 q0 z0_lt hjl; simp only at e0; omega)
         obtain rfl : cc = 0 := Fin.ext e
         obtain rfl : z = ix2 j l' := by idx_ext
         exact rfl)
      | (have e : cc.val = 1 := by (clear * - e0 q0 z0_lt hjl; simp only at e0; omega)
         obtain rfl : cc = 1 := Fin.ext e
         obtain rfl : z = ix2 j l' := by idx_ext
         exact rfl)
      | (have e : cc.val = 2 := by (clear * - e0 q0 z0_lt hjl; simp only at e0; omega)
         obtain rfl : cc = 2 := Fin.ext e
         obtain rfl : z = ix2 j l' := by idx_ext
         exact rfl)
      | (have e : cc.val = 3 := by (clear * - e0 q0 z0_lt hjl; simp only at e0; omega)
         obtain rfl : cc = 3 := Fin.ext e
         obtain rfl : z = ix2 j l' := by idx_ext
         exact rfl)
      | skip
  case piece3 =>
    obtain rfl : hh = 0 := Fin.ext (by simp; omega)
    obtain rfl : x = ix2 ⟨64 * cc.val + j.val, hb⟩ l := by idx_ext
    refine (GlaBody.fin_at _ _ _ _ l).trans ?_
    refine congrArg (fun o => Gla.fin o _ _ l) (funext fun l' => ?_)
    refine GlaReset.read_head _ _ 0 _ _ l' _ fun w e0 e1 => ?_
    canon_tiles z q
    all_goals first
      | (exfalso; clear * - e1 q1 z1_lt; omega)
      | (have e : cc.val = 0 := by (clear * - e0 q0 z0_lt hjl; simp only at e0; omega)
         obtain rfl : cc = 0 := Fin.ext e
         obtain rfl : z = ix2 j l' := by idx_ext
         exact rfl)
      | (have e : cc.val = 1 := by (clear * - e0 q0 z0_lt hjl; simp only at e0; omega)
         obtain rfl : cc = 1 := Fin.ext e
         obtain rfl : z = ix2 j l' := by idx_ext
         exact rfl)
      | (have e : cc.val = 2 := by (clear * - e0 q0 z0_lt hjl; simp only at e0; omega)
         obtain rfl : cc = 2 := Fin.ext e
         obtain rfl : z = ix2 j l' := by idx_ext
         exact rfl)
      | (have e : cc.val = 3 := by (clear * - e0 q0 z0_lt hjl; simp only at e0; omega)
         obtain rfl : cc = 3 := Fin.ext e
         obtain rfl : z = ix2 j l' := by idx_ext
         exact rfl)
      | skip

end Cert.GlaPieceO

end
-- ==== Proof.GlaFold.lean ====
module

public import proofs.«01_k».proof.Proof.GlaBlocks
public import proofs.«01_k».proof.Proof.GlaPieceS
public import proofs.«01_k».proof.Proof.GlaPieceO

@[expose] public section

/-! The 64 tiles one after another: the carried state and the result array of the whole grid. -/

set_option maxRecDepth 16384

noncomputable section

namespace Cert.GlaFold

open Idealize.ShloMosaic Idealize.ShloMosaic.TcCoe Idealize.SL.Sem
open Cert.KernelIdeal Cert.KernelIdeal.Gen Cert.KernelIdeal.Value Cert.GlaBlocks Cert.GlaTile

variable (m : (ℓ : Loc nD τ sig) → Buf (Elt Ideal) ℓ) (c : Dev nD)

/-- The carried state after `n` tiles is the specification's after `4 n` chunks. -/
def Carried (n : ℕ) (s : Vec Ideal S128x256 .f32) : Prop :=
  ∀ hh : Fin 4, (fun y d => ldS hh s (ix2 y d))
    = Gla.state (Gla.tableOf (tbl m c)) (Gla.decayOf (Gla.tableOf (tbl m c)) (gw m c) (gb m c)) hh (4 * n)

/-- A head's columns of a state given entry by entry. -/
theorem ldS_of (hh : Fin 4) (s : Vec Ideal S128x256 .f32) (f : Fin 128 → Fin 64 → EReal)
    (H : ∀ v d (y : S128x256.Idx), (y 0).val = v.val → (y 1).val = 64 * hh.val + d.val → s y = f v d) :
    (fun y d => ldS hh s (ix2 y d)) = f := by
  funext v d
  unfold ldS
  exact H v d _ ((Nat.zero_add _).trans (Nat.one_mul _)) (congrArg (64 * hh.val + ·) (Nat.one_mul _))

/-- The state of zeros. -/
theorem carried_zero : Carried m c 0 (k0_pay1 (F := Ideal)) := by
  intro hh
  refine ldS_of hh _ _ fun v d y _ _ => ?_
  change k0_pay1 (F := Ideal) y = (0 : EReal)
  unfold k0_pay1
  pointwise

/-- Row `64 c + j` of the gate's columns in a tile. -/
theorem gate_at (t : Fin cfg0.N) (hh : Fin 4) (r : Fin 256) (l : Fin 128) :
    ldGate hh (iblk m c 0 t) (ix2 r l) = Gla.gAt (Gla.tableOf (tbl m c)) hh (256 * t.val + r.val) l := by
  have h : 1024 + 128 * hh.val + l.val < 1664 := by omega
  refine Eq.trans ?_ (rows m c t r ⟨1024 + 128 * hh.val + l.val, h⟩)
  unfold ldGate
  refine congrArg (iblk m c 0 t : FVec Ideal S256x1664 .f32) ?_
  idx_ext

/-- A head's weights of the norm. -/
theorem norm_at (t : Fin cfg0.N) (hh : Fin 4) (l : Fin 128) (h : 128 * hh.val + l.val < 512) :
    ldN hh (iblk m c 3 t) (ix2 0 l) = nw m c ⟨128 * hh.val + l.val, h⟩ := by
  refine Eq.trans ?_ (norm m c t ⟨128 * hh.val + l.val, h⟩)
  unfold ldN
  refine congrArg (iblk m c 3 t : FVec Ideal S1x512 .f32) ?_
  idx_ext

/-- What a tile with carried state `s` writes at row `64 c + j`, head `h`. -/
theorem written (t : Fin cfg0.N) (s : Vec Ideal S128x256 .f32) (hs : Carried m c t.val s) (hh cc : Fin 4) (j : Fin 64) (l : Fin 128)
    (hb : 64 * cc.val + j.val < 256) (hw : 128 * hh.val + l.val < 512) :
    Gla.fin (fun l => outT cc hh (iblk m c 0 t) (iblk m c 1 t) (iblk m c 2 t) (ldS hh s) (ix2 j l))
        (ldGate hh (iblk m c 0 t) (ix2 ⟨64 * cc.val + j.val, hb⟩ l)) (ldN hh (iblk m c 3 t) (ix2 0 l)) l
      = Gla.wholeOf (tbl m c) (gw m c) (gb m c) (nw m c) hh (256 * t.val + 64 * cc.val + j.val) l := by
  have e1 : (256 * t.val + 64 * cc.val + j.val) / 64 = 4 * t.val + cc.val := by omega
  have e2 : (256 * t.val + 64 * cc.val + j.val) % 64 = j.val := by omega
  unfold Gla.wholeOf Gla.result
  rw [gate_at, norm_at m c t hh l hw]
  simp only [e1, e2]
  rw [show (fun l => outT cc hh (iblk m c 0 t) (iblk m c 1 t) (iblk m c 2 t) (ldS hh s) (ix2 j l)) = _ from
    funext fun l => (tile m c t).out cc hh (ldS hh s) (hs hh) j l]
  rw [show 256 * t.val + (64 * cc.val + j.val) = 256 * t.val + 64 * cc.val + j.val from by omega]

/-- After each point: the carried state, and the tile of results the point leaves. -/
theorem sweep (n : ℕ) (hn : n < cfg0.N) :
    Carried m c (n + 1) (outsAt0 m c n hn).2 ∧
    ∀ (hh cc : Fin 4) (j : Fin 64) (l : Fin 128) (y : S256x512.Idx), (y 0).val = 64 * cc.val + j.val → (y 1).val = 128 * hh.val + l.val →
      (outsAt0 m c n hn).1 y = Gla.wholeOf (tbl m c) (gw m c) (gb m c) (nw m c) hh (256 * n + 64 * cc.val + j.val) l := by
  induction n with
  | zero =>
    have T := tile m c ⟨0, hn⟩
    rw [outsAt0_A m c ⟨0, hn⟩ (Nat.zero_mod _)]
    dsimp only
    refine ⟨fun hh => ?_, fun hh cc j l y h0 h1 => ?_⟩
    · refine ldS_of hh _ _ fun v d y h0 h1 => ?_
      rw [GlaPieceS.state_A (hh := hh) (v := v) (d := d) (hv := h0) (hd := h1)]
      exact congrFun (congrFun (T.chain hh _ (carried_zero m c hh) 4 le_rfl) v) d
    · rw [GlaPieceO.out_A (hh := hh) (cc := cc) (j := j) (l := l) (hr := h0) (hl := h1)]
      exact written m c ⟨0, hn⟩ _ (carried_zero m c) hh cc j l _ (by omega)
  | succ n ih =>
    have hN := lt_of_lt_of_eq hn (show cfg0.N = 64 from N_0)
    have T := tile m c ⟨n + 1, hn⟩
    have C := (ih (Nat.lt_of_succ_lt hn)).1
    rw [outsAt0_B m c ⟨n + 1, hn⟩ (by change ¬(n + 1) % 64 = 0; omega)]
    dsimp only
    refine ⟨fun hh => ?_, fun hh cc j l y h0 h1 => ?_⟩
    · refine ldS_of hh _ _ fun v d y h0 h1 => ?_
      rw [GlaPieceS.state_B (hh := hh) (v := v) (d := d) (hv := h0) (hd := h1)]
      exact congrFun (congrFun (T.chain hh _ (C hh) 4 le_rfl) v) d
    · rw [GlaPieceO.out_B (hh := hh) (cc := cc) (j := j) (l := l) (hr := h0) (hl := h1)]
      exact written m c ⟨n + 1, hn⟩ _ C hh cc j l _ (by omega)

/-- The result array of the kernel, entry by entry. -/
theorem final (r : Fin 16384) (hh : Fin 4) (l : Fin 128) (h : 128 * hh.val + l.val < 512) :
    (G4 m c : FVec Ideal S16384x512 .bf16) (ix2 r ⟨128 * hh.val + l.val, h⟩)
      = Gla.wholeOf (tbl m c) (gw m c) (gb m c) (nw m c) hh r.val l := by
  have hp : pt4Of (ix2 r ⟨128 * hh.val + l.val, h⟩ : S16384x512.Idx) = r.val / 256 := by
    change 1 * (r.val / 256 - 0) + 1 * ((128 * hh.val + l.val) / 512 - 0) = r.val / 256
    omega
  have hq : pt4Of (ix2 r ⟨128 * hh.val + l.val, h⟩ : S16384x512.Idx) < cfg0.N := by
    rw [hp]; exact lt_of_lt_of_eq (by omega) N_0.symm
  unfold G4
  rw [dif_pos hq, ← outsAt0_sweep m c _ hq]
  refine ((sweep m c _ hq).2 hh ⟨r.val / 64 % 4, by omega⟩ ⟨r.val % 64, by omega⟩ l _ ?_ ?_).trans ?_
  · change r.val % 256 = 64 * (r.val / 64 % 4) + r.val % 64
    omega
  · change (128 * hh.val + l.val) % 512 = _
    omega
  · congr 1
    rw [hp]
    dsimp only
    omega

end Cert.GlaFold

end
-- ==== Proof.RefSum.lean ====
module

public import Idealize.ShloMosaic.Lib.Pointwise
public import Idealize.ShloMosaic.Lib.Tactic

@[expose] public section

/-! A running sum along the third of four axes, as the reference's window of sums writes it. -/

set_option maxRecDepth 16384

noncomputable section

namespace Cert.RefSum

open Idealize.ShloMosaic

/-- The window that covers the third axis. -/
abbrev W : Shape := ⟨4, ![1, 1, 64, 1]⟩

/-- Its positions. -/
def pos : W.Idx ≃ Fin 64 where
  toFun w := w 2
  invFun i := ix4 (0 : Fin 1) (0 : Fin 1) i (0 : Fin 1)
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv i := rfl

/-- Adding a list to a first term. -/
theorem foldl_sum {n : ℕ} (f : Fin n → EReal) (v : EReal) :
    (List.finRange n).foldl (fun r i => r + f i) v = v + ∑ i, f i := by
  rw [← List.foldl_map (f := f) (g := fun r x => r + x), Fin.sum_univ_def]
  generalize (List.finRange n).map f = l
  induction l generalizing v with
  | nil => simp
  | cons a l ih => rw [List.foldl_cons, ih, List.sum_cons, add_assoc]

/-- The running sum, read at an entry. -/
theorem sum_at {A B D : ℕ} (x : FVec Ideal ⟨4, ![A, B, 64, D]⟩ .f32) (init : FVec Ideal ⟨0, ![]⟩ .f32)
    (h : Shape.ReduceWindows ⟨4, ![A, B, 64, D]⟩ (![1, 1, 64, 1] : Fin 4 → ℕ) ![1, 1, 1, 1] ![0, 0, 63, 0] ![0, 0, 0, 0] ⟨4, ![A, B, 64, D]⟩)
    (hu : 0 < (⟨0, ![]⟩ : Shape).numel) (hi : init (Shape.Idx.first hu) = (0 : EReal)) (a : Fin A) (b : Fin B) (j : Fin 64) (d : Fin D) :
    Host.reduceWindowAdd ![1, 1, 64, 1] ![1, 1, 1, 1] ![0, 0, 63, 0] ![0, 0, 0, 0] x init h hu (ix4 a b j d)
      = ∑ i : Fin 64, if i ≤ j then x (ix4 a b i d) else (0 : EReal) := by
  have e : Host.reduceWindowAdd ![1, 1, 64, 1] ![1, 1, 1, 1] ![0, 0, 63, 0] ![0, 0, 0, 0] x init h hu (ix4 a b j d)
    = Host.reduceWindow (fun r s : EReal => r + s) ![1, 1, 64, 1] ![1, 1, 1, 1] ![0, 0, 63, 0] ![0, 0, 0, 0] x init h hu (ix4 a b j d) := rfl
  rw [e]
  unfold Host.reduceWindow
  dsimp only
  rw [hi]
  refine (foldl_sum _ 0).trans ?_
  rw [zero_add]
  refine (Fintype.sum_equiv (W.rowMajor.symm.trans pos) _
    (fun w : Fin 64 => if i : 63 ≤ j.val + w.val then x (ix4 a b ⟨j.val + w.val - 63, by omega⟩ d) else (0 : EReal)) fun n => ?_).trans ?_
  · change _ = (fun w : Fin 64 => if i : 63 ≤ j.val + w.val then x (ix4 a b ⟨j.val + w.val - 63, by omega⟩ d) else (0 : EReal))
      (pos (W.rowMajor.symm n))
    have hp : (pos (W.rowMajor.symm n)).val = (W.rowMajor.symm n 2).val := rfl
    have h0 : (W.rowMajor.symm n 0).val = 0 := Nat.lt_one_iff.1 (W.rowMajor.symm n 0).isLt
    have h1 : (W.rowMajor.symm n 1).val = 0 := Nat.lt_one_iff.1 (W.rowMajor.symm n 1).isLt
    have h3 : (W.rowMajor.symm n 3).val = 0 := Nat.lt_one_iff.1 (W.rowMajor.symm n 3).isLt
    have h2 : (W.rowMajor.symm n 2).val < 64 := (W.rowMajor.symm n 2).isLt
    have ha := a.isLt
    have hb := b.isLt
    have hd := d.isLt
    have hj := j.isLt
    dsimp only
    by_cases hc : 63 ≤ j.val + (W.rowMajor.symm n 2).val
    · rw [dif_pos (show 63 ≤ j.val + (pos (W.rowMajor.symm n)).val from hc), dif_pos]
      · refine congrArg x (funext fun t => Fin.ext ?_)
        match t with
        | ⟨0, _⟩ => change a.val * 1 + (W.rowMajor.symm n 0).val - 0 = a.val; omega
        | ⟨1, _⟩ => change b.val * 1 + (W.rowMajor.symm n 1).val - 0 = b.val; omega
        | ⟨2, _⟩ => change j.val * 1 + (W.rowMajor.symm n 2).val - 63 = j.val + (W.rowMajor.symm n 2).val - 63; omega
        | ⟨3, _⟩ => change d.val * 1 + (W.rowMajor.symm n 3).val - 0 = d.val; omega
      · intro t
        match t with
        | ⟨0, _⟩ => change 0 ≤ a.val * 1 + (W.rowMajor.symm n 0).val ∧ a.val * 1 + (W.rowMajor.symm n 0).val - 0 < A; omega
        | ⟨1, _⟩ => change 0 ≤ b.val * 1 + (W.rowMajor.symm n 1).val ∧ b.val * 1 + (W.rowMajor.symm n 1).val - 0 < B; omega
        | ⟨2, _⟩ => change 63 ≤ j.val * 1 + (W.rowMajor.symm n 2).val ∧ j.val * 1 + (W.rowMajor.symm n 2).val - 63 < 64; omega
        | ⟨3, _⟩ => change 0 ≤ d.val * 1 + (W.rowMajor.symm n 3).val ∧ d.val * 1 + (W.rowMajor.symm n 3).val - 0 < D; omega
    · rw [dif_neg (show ¬63 ≤ j.val + (pos (W.rowMajor.symm n)).val from hc), dif_neg]
      intro g
      have g2 := (g 2).1
      change 63 ≤ j.val * 1 + (W.rowMajor.symm n 2).val at g2
      omega
  · refine (Fintype.sum_equiv (Equiv.addRight (j + 1)) _ _ fun w => ?_)
    have hv : (w + (j + 1)).val = (w.val + (j.val + 1) % 64) % 64 := rfl
    have hj := j.isLt
    have hw := w.isLt
    change _ = if w + (j + 1) ≤ j then _ else _
    by_cases hc : 63 ≤ j.val + w.val
    · have hs : (w + (j + 1)).val = j.val + w.val - 63 := by omega
      rw [dif_pos hc, if_pos (show w + (j + 1) ≤ j from by rw [Fin.le_def, hs]; omega)]
      exact congrArg (fun i => x (ix4 a b i d)) (Fin.ext hs.symm)
    · rw [dif_neg hc, if_neg (show ¬(w + (j + 1) ≤ j) from by rw [Fin.le_def, hv]; omega)]

end Cert.RefSum

end
-- ==== Proof.RefDecay.lean ====
module

public import proofs.«01_k».proof.Proof.GlaIn
public import proofs.«01_k».proof.Proof.RefSum
public import proofs.«01_k».proof.Proof.Gen.ReferenceIdeal.Step

@[expose] public section

/-! The reference's log decays, and what a chunk adds to the state, read at an entry. -/

set_option maxRecDepth 16384

noncomputable section

namespace Cert.RefDecay

open Idealize.ShloMosaic Idealize.ShloMosaic.TcCoe Idealize.SL.Sem
open Cert.ReferenceIdeal Cert.ReferenceIdeal.Step

variable (a0 : FVec Ideal S16384x1664 .f32) (a1 : FVec Ideal S16x256 .f32) (a2 : FVec Ideal S256 .f32)

/-- The table of projected columns. -/
def X : ℕ → Fin 1664 → EReal := Gla.tableOf fun r k => a0 (ix2 r k)
/-- The log decays. -/
def L : ℕ → Fin 256 → EReal := Gla.decayOf (X a0) (fun i k => a1 (ix2 i k)) (fun k => a2 (ix1 k))

/-- A row of the table. -/
theorem X_at (r : Fin 16384) (k : Fin 1664) : X a0 r.val k = a0 (ix2 r k) := by
  unfold X Gla.tableOf
  rw [dif_pos r.isLt]

/-- The gate's projection. -/
theorem proj_at (r : Fin 16384) (k : Fin 256) :
    A_main_v4 (F := Ideal) a0 a1 a2 (ix2 r k)
      = (∑ i : Fin 16, X a0 r.val ⟨1536 + i.val, by omega⟩ * a1 (ix2 i k)) + a2 (ix1 k) := by
  simp only [X_at]
  pointwise [A_main_v4, A_main_v3, A_main_v2, A_main_v1, A_main_v0]

/-- The log decays. -/
theorem decay_at (r : Fin 16384) (k : Fin 256) : A_main_v9 (F := Ideal) a0 a1 a2 (ix2 r k) = L a0 a1 a2 r.val k := by
  unfold L Gla.decayOf
  rw [← proj_at]
  pointwise [A_main_v9, A_main_v7, A_main_v6, K_main_v8, K_main_cst, A_main_call0_v11, A_main_call0_v10, A_main_call0_v9, A_main_call0_v8,
    A_main_call0_v7, A_main_call0_v6, A_main_call0_v4, A_main_call0_v3, A_main_call0_v1, A_main_v5, K_main_call0_v0, K_main_call0_v2,
    K_main_call0_v5, K_main_call0_cst]
  unfold Gla.logA
  rw [if_neg (fun h => h rfl)]
  generalize A_main_v4 (F := Ideal) a0 a1 a2 (ix2 r k) = z
  have e : (FloatOps.absf (F := Ideal) (φ := .f32) (-z : EReal) : EReal) = max z (-z) := by
    change max (-z) (- -z) = _
    rw [neg_neg, max_comm]
  rw [e]
  rfl

/-- The log decays, one chunk after another. -/
theorem chunk_at (h : Fin 4) (n : Fin 256) (j d : Fin 64) :
    A_main_v11 (F := Ideal) a0 a1 a2 (ix4 h n j d) = L a0 a1 a2 (64 * n.val + j.val) (Gla.col h d) := by
  rw [← decay_at a0 a1 a2 ⟨64 * n.val + j.val, by omega⟩]
  pointwise [A_main_v11, A_main_v10]
  refine congrArg (A_main_v9 (F := Ideal) a0 a1 a2) ?_
  unfold Gla.col
  idx_ext

/-- Their sums. -/
theorem sums_at (h : Fin 4) (n : Fin 256) (j d : Fin 64) :
    A_main_v12 (F := Ideal) a0 a1 a2 (ix4 h n j d) = Gla.bAt (L a0 a1 a2) n.val j (Gla.col h d) := by
  unfold A_main_v12
  refine (RefSum.sum_at _ _ _ _ ?_ h n j d).trans ?_
  · pointwise [K_main_call1_call0_v0, K_main_call1_call0_cst]
  · simp only [chunk_at]
    rfl

/-- The decay of a whole chunk. -/
theorem last_at (n : Fin 256) (h : Fin 4) (d : Fin 64) :
    A_main_v28 (F := Ideal) a0 a1 a2 (ix3 n h d) = Ideal.exp (Gla.bAt (L a0 a1 a2) n.val 63 (Gla.col h d)) := by
  rw [← sums_at]
  pointwise [A_main_v28, A_main_v26, A_main_v25, A_main_v13]

/-- The keys. -/
theorem k_at (h : Fin 4) (n : Fin 256) (j d : Fin 64) :
    A_main_v16 (F := Ideal) a0 a1 a2 (ix4 h n j d) = Gla.kAt (X a0) n.val j (Gla.col h d) := by
  unfold Gla.kAt
  rw [X_at a0 ⟨64 * n.val + j.val, by omega⟩]
  pointwise [A_main_v16, A_main_v15, A_main_v14]
  refine congrArg a0 ?_
  unfold Gla.col
  idx_ext

/-- The values. -/
theorem v_at (h : Fin 4) (n : Fin 256) (j : Fin 64) (x : Fin 128) :
    A_main_v19 (F := Ideal) a0 a1 a2 (ix4 h n j x) = Gla.vAt (X a0) h n.val j x := by
  unfold Gla.vAt
  rw [X_at a0 ⟨64 * n.val + j.val, by omega⟩]
  pointwise [A_main_v19, A_main_v18, A_main_v17]
  refine congrArg a0 ?_
  idx_ext

/-- What a chunk adds to the state. -/
theorem kv_at (n : Fin 256) (h : Fin 4) (d : Fin 64) (x : Fin 128) :
    A_main_v29 (F := Ideal) a0 a1 a2 (ix4 n h d x)
      = Gla.kv (Gla.kAt (X a0) n.val) (Gla.bAt (L a0 a1 a2) n.val) (Gla.vAt (X a0) h n.val) h x d := by
  unfold Gla.kv Gla.ke
  simp only [← sums_at, ← k_at, ← v_at]
  pointwise [A_main_v29, A_main_v24, A_main_v23, A_main_v22, A_main_v21, A_main_v20, A_main_v13]
  simp only [k_at, v_at, mul_comm]

end Cert.RefDecay

end
-- ==== Proof.RefState.lean ====
module

public import proofs.«01_k».proof.Proof.RefDecay

@[expose] public section

/-! The states the reference's loop carries and collects, read at an entry. -/

set_option maxRecDepth 16384

noncomputable section

namespace Cert.RefState

open Idealize.ShloMosaic Idealize.ShloMosaic.TcCoe Idealize.SL.Sem
open Cert.ReferenceIdeal Cert.ReferenceIdeal.Step Cert.RefDecay

variable (s : State Ideal)

/-- A trip's number as an index. -/
theorem toInt_trip (n : Fin 256) : (BitVec.ofNat 32 n.val).toInt = (n.val : ℤ) := by
  rw [BitVec.toInt_eq_toNat_of_lt (by rw [BitVec.toNat_ofNat]; omega), BitVec.toNat_ofNat]
  omega

/-- Where a slice starts on an axis on which it fits. -/
theorem start_at {S T : Shape} (h : T.rank = S.rank) (k : ℕ) (start : Fin S.rank → ℤ) (a : Fin S.rank) (hs : start a = k)
    (hf : k + T.size (a.cast h.symm) ≤ S.size a) : Host.clampedStart S T h start a = k := by
  unfold Host.clampedStart
  rw [hs]
  omega

/-- Where a trip's slice of a three axis array starts. -/
theorem start3 (n : Fin 256) : Host.clampedStart S256x4x64 S1x4x64 rfl (fun k => BitVec.toInt ((![constantI S_ 32 (BitVec.ofNat 32 n.val),
    constantI S_ 32 0#32, constantI S_ 32 0#32] : Fin 3 → IVec S_ 32) k (Shape.Idx.first Gen.h_S_))) = ![n.val, 0, 0] := by
  funext a
  match a with
  | ⟨0, _⟩ =>
    refine (start_at (S := S256x4x64) (T := S1x4x64) (a := 0) (hs := ?_) (k := n.val) rfl _ ?_).trans ?_
    · exact toInt_trip n
    · change n.val + 1 ≤ 256
      omega
    · rfl
  | ⟨1, _⟩ =>
    refine (start_at (S := S256x4x64) (T := S1x4x64) (a := 1) (hs := ?_) (k := 0) rfl _ ?_).trans ?_
    · change (0#32 : BitVec 32).toInt = 0
      decide
    · change 0 + 4 ≤ 4
      omega
    · rfl
  | ⟨2, _⟩ =>
    refine (start_at (S := S256x4x64) (T := S1x4x64) (a := 2) (hs := ?_) (k := 0) rfl _ ?_).trans ?_
    · change (0#32 : BitVec 32).toInt = 0
      decide
    · change 0 + 64 ≤ 64
      omega
    · rfl

/-- Where a trip's slice of a four axis array starts. -/
theorem start4 (n : Fin 256) : Host.clampedStart S256x4x64x128 S1x4x64x128 rfl (fun k => BitVec.toInt ((![constantI S_ 32 (BitVec.ofNat 32 n.val),
    constantI S_ 32 0#32, constantI S_ 32 0#32, constantI S_ 32 0#32] : Fin 4 → IVec S_ 32) k (Shape.Idx.first Gen.h_S_))) = ![n.val, 0, 0, 0] := by
  funext a
  match a with
  | ⟨0, _⟩ =>
    refine (start_at (S := S256x4x64x128) (T := S1x4x64x128) (a := 0) (hs := ?_) (k := n.val) rfl _ ?_).trans ?_
    · exact toInt_trip n
    · change n.val + 1 ≤ 256
      omega
    · rfl
  | ⟨1, _⟩ =>
    refine (start_at (S := S256x4x64x128) (T := S1x4x64x128) (a := 1) (hs := ?_) (k := 0) rfl _ ?_).trans ?_
    · change (0#32 : BitVec 32).toInt = 0
      decide
    · change 0 + 4 ≤ 4
      omega
    · rfl
  | ⟨2, _⟩ =>
    refine (start_at (S := S256x4x64x128) (T := S1x4x64x128) (a := 2) (hs := ?_) (k := 0) rfl _ ?_).trans ?_
    · change (0#32 : BitVec 32).toInt = 0
      decide
    · change 0 + 64 ≤ 64
      omega
    · rfl
  | ⟨3, _⟩ =>
    refine (start_at (S := S256x4x64x128) (T := S1x4x64x128) (a := 3) (hs := ?_) (k := 0) rfl _ ?_).trans ?_
    · change (0#32 : BitVec 32).toInt = 0
      decide
    · change 0 + 128 ≤ 128
      omega
    · rfl

/-- The running state after trip `n`. -/
theorem next_at (n : Fin 256) (h : Fin 4) (d : Fin 64) (x : Fin 128) :
    (step n.val s).main_v31_3 (ix3 h d x)
      = s.main_v31_0 (ix3 n h d) * s.main_v31_3 (ix3 h d x) + s.main_v31_1 (ix4 n h d x) := by
  rw [step_main_v31_3]
  pointwise [b12, b11, b10, b9, b8, b7, b3, b2]
  refine congrArg₂ (fun p q : EReal => p * s.main_v31_3 (ix3 h d x) + q) (congrArg s.main_v31_0 ?_) (congrArg s.main_v31_1 ?_)
  · funext a
    refine Fin.ext ?_
    match a with
    | ⟨0, _⟩ => exact congrFun (start3 n) 0
    | ⟨1, _⟩ => exact (congrArg (· + h.val) (congrFun (start3 n) 1)).trans (Nat.zero_add _)
    | ⟨2, _⟩ => exact (congrArg (· + d.val) (congrFun (start3 n) 2)).trans (Nat.zero_add _)
  · funext a
    refine Fin.ext ?_
    match a with
    | ⟨0, _⟩ => exact congrFun (start4 n) 0
    | ⟨1, _⟩ => exact (congrArg (· + h.val) (congrFun (start4 n) 1)).trans (Nat.zero_add _)
    | ⟨2, _⟩ => exact (congrArg (· + d.val) (congrFun (start4 n) 2)).trans (Nat.zero_add _)
    | ⟨3, _⟩ => exact (congrArg (· + x.val) (congrFun (start4 n) 3)).trans (Nat.zero_add _)

/-- The collected states after trip `n`. -/
theorem seen_at (n n' : Fin 256) (h : Fin 4) (d : Fin 64) (x : Fin 128) :
    (step n.val s).main_v31_4 (ix4 n' h d x)
      = if n' = n then s.main_v31_3 (ix3 h d x) else s.main_v31_4 (ix4 n' h d x) := by
  rw [step_main_v31_4]
  pointwise [b17, b13]
  have e : ∀ a, Host.clampedStart S256x4x64x128 S1x4x64x128 rfl (fun k => BitVec.toInt ((![constantI S_ 32 (BitVec.ofNat 32 n.val),
    b14 n.val s, b15 n.val s, b16 n.val s] : Fin 4 → IVec S_ 32) k (Shape.Idx.first Gen.h_S_))) a = (![n.val, 0, 0, 0] : Fin 4 → ℕ) a :=
    congrFun (start4 n)
  by_cases hn : n' = n
  · rw [if_pos hn, dif_pos]
    · refine congrArg s.main_v31_3 (funext fun a => Fin.ext ?_)
      match a with
      | ⟨0, _⟩ => exact (congrArg (h.val - ·) (e 1)).trans (Nat.sub_zero _)
      | ⟨1, _⟩ => exact (congrArg (d.val - ·) (e 2)).trans (Nat.sub_zero _)
      | ⟨2, _⟩ => exact (congrArg (x.val - ·) (e 3)).trans (Nat.sub_zero _)
    · have e0 := e 0
      have e1 := e 1
      have e2 := e 2
      have e3 := e 3
      subst hn
      exact ⟨⟨e0.le, Nat.lt_succ_of_le e0.ge⟩, e1.le.trans (Nat.zero_le _), e2.le.trans (Nat.zero_le _), e3.le.trans (Nat.zero_le _)⟩
  · rw [if_neg hn, dif_neg]
    rintro ⟨⟨g, g'⟩, -⟩
    have e0 : _ = n.val := e 0
    rw [e0] at g g'
    exact hn (Fin.ext (by omega))

/-! The loop's states from the arguments. -/

variable (a0 : FVec Ideal S16384x1664 .f32) (a1 : FVec Ideal S16x256 .f32) (a2 : FVec Ideal S256 .f32)

/-- What holds before trip `n`. -/
structure Before (n : ℕ) (s : State Ideal) : Prop where
  decay : s.main_v31_0 = A_main_v28 a0 a1 a2
  update : s.main_v31_1 = A_main_v29 a0 a1 a2
  state : ∀ h d x, s.main_v31_3 (ix3 h d x) = Gla.state (X a0) (L a0 a1 a2) h n x d
  seen : ∀ (n' : Fin 256) h d x, n'.val < n → s.main_v31_4 (ix4 n' h d x) = Gla.state (X a0) (L a0 a1 a2) h n'.val x d

/-- The first trip starts from a state of zeros. -/
theorem before_zero : Before a0 a1 a2 0 (init a0 a1 a2) where
  decay := rfl
  update := rfl
  state h d x := by
    change K_main_v27 (F := Ideal) (ix3 h d x) = (0 : EReal)
    pointwise [K_main_v27, K_main_cst_0]
  seen _ _ _ _ h := absurd h (Nat.not_lt_zero _)

/-- One trip makes the next state and keeps the one it found. -/
theorem before_next (n : Fin 256) (s : State Ideal) (B : Before a0 a1 a2 n.val s) : Before a0 a1 a2 (n.val + 1) (step n.val s) where
  decay := B.decay
  update := B.update
  state h d x := by
    rw [next_at, B.decay, B.update, last_at, kv_at, B.state, mul_comm]
    rfl
  seen n' h d x hn := by
    rw [seen_at]
    by_cases e : n' = n
    · rw [if_pos e, B.state, e]
    · rw [if_neg e]
      exact B.seen n' h d x (by have : n'.val ≠ n.val := fun g => e (Fin.ext g); omega)

end Cert.RefState

end
-- ==== Proof.RefOut.lean ====
module

public import proofs.«01_k».proof.Proof.RefState
public import Idealize.ShloMosaic.Lib.WordCmp

@[expose] public section

/-! What the reference makes of the collected states: scores, results, norm and gate, read at an entry. -/

set_option maxRecDepth 16384

noncomputable section

namespace Cert.RefOut

open Idealize.ShloMosaic Idealize.ShloMosaic.TcCoe Idealize.SL.Sem
open Cert.ReferenceIdeal Cert.ReferenceIdeal.Gen Cert.ReferenceIdeal.Step Cert.RefDecay

variable (a0 : FVec Ideal S16384x1664 .f32) (a1 : FVec Ideal S16x256 .f32) (a2 : FVec Ideal S256 .f32) (a3 : FVec Ideal S512 .f32)
  (s : FVec Ideal S256x4x64x128 .f32)

/-- The queries with their decay. -/
def qD : FVec Ideal S4x256x64x64 .f32 :=
  mulf (mulf (transpose S4x256x64x64 [2, 0, 1, 3] (shapeCast _ (extractStridedSlice S16384x256 ![0, 0] a0 slices_S16384x1664_S16384x256_0_0)
      shapeCasts_S16384x256_S256x64x4x64) transposes_S256x64x4x64_S4x256x64x64_2_0_1_3)
    (broadcastInDim S4x256x64x64 ![] bcast_S_S4x256x64x64 (constant S_ .f32 0x3E000000#32))) (Host.exp (A_main_v12 (F := Ideal) a0 a1 a2))

/-- The keys with their decay taken out. -/
def kD : FVec Ideal S4x256x64x64 .f32 :=
  mulf (A_main_v16 (F := Ideal) a0 a1 a2) (Host.exp (Host.negf (A_main_v12 (F := Ideal) a0 a1 a2)))

/-- The causal scores. -/
def attD : FVec Ideal S4x256x64x64 .f32 :=
  select (broadcastInDim S4x256x64x64 ![2, 3] bcast_S64x64_S4x256x64x64_2_3 (select (cmpi .sge (addi (iotaInDim S64x64 32 0)
      (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1))))
    (Host.dotGeneral dot_S4x256x64x64_S4x256x64x64_S4x256x64x64_3_3_2_2_01_01 none (qD a0 a1 a2) (kD a0 a1 a2))
    (broadcastInDim S4x256x64x64 ![] bcast_S_S4x256x64x64 (id (constant S_ .f32 0x00000000#32)))

/-- The results before norm and gate, by head, chunk and row. -/
def outD : FVec Ideal S4x256x64x128 .f32 :=
  addf (Host.dotGeneral (φ₂ := .f32) dot_S4x256x64x64_S4x256x64x128_S4x256x64x128_3_2_2_3_01_01 none (attD a0 a1 a2)
      (A_main_v19 (F := Ideal) a0 a1 a2 : FVec Ideal S4x256x64x128 .f32))
    (Host.dotGeneral dot_S4x256x64x64_S4x256x64x128_S4x256x64x128_3_2_2_3_01_01 none (qD a0 a1 a2)
      (transpose S4x256x64x128 [1, 0, 2, 3] s transposes_S256x4x64x128_S4x256x64x128_1_0_2_3))

/-- The same by row and head. -/
def oD : FVec Ideal S16384x4x128 .f32 :=
  shapeCast _ (transpose S256x64x4x128 [1, 2, 0, 3] (outD a0 a1 a2 s) transposes_S4x256x64x128_S256x64x4x128_1_2_0_3)
    shapeCasts_S256x64x4x128_S16384x4x128

/-- The gate. -/
def gD : FVec Ideal S16384x4x128 .f32 :=
  shapeCast _ (extractStridedSlice S16384x512 ![0, 1024] a0 slices_S16384x1664_S16384x512_0_1024) shapeCasts_S16384x512_S16384x4x128

/-- Norm and gate. -/
def normD (o g : FVec Ideal S16384x4x128 .f32) : FVec Ideal S16384x512 .bf16 :=
  truncf .bf16 (shapeCast _ (mulf (mulf (mulf o (broadcastInDim S16384x4x128 ![0, 1, 2] bcast_S16384x4x1_S16384x4x128_0_1_2 (Host.rsqrt
    (addf (Host.divf (broadcastInDim S16384x4x1 ![0, 1] bcast_S16384x4_S16384x4x1_0_1 (Host.reduceAdd (mulf o o) (constant S_ .f32 0x00000000#32)
      reducesTo_S16384x4x128_S16384x4_d2 h_S_)) (broadcastInDim S16384x4x1 ![] bcast_S_S16384x4x1 (constant S_ .f32 0x43000000#32)))
      (broadcastInDim S16384x4x1 ![] bcast_S_S16384x4x1 (constant S_ .f32 0x3727C5AC#32))))))
    (broadcastInDim S16384x4x128 ![0, 1, 2] bcast_S1x4x128_S16384x4x128_0_1_2 (broadcastInDim S1x4x128 ![1, 2] bcast_S4x128_S1x4x128_1_2
      (shapeCast _ a3 shapeCasts_S512_S4x128))))
    (mulf g (Host.divf (broadcastInDim S16384x4x128 ![] bcast_S_S16384x4x128 (constant S_ .f32 0x3F800000#32))
      (addf (broadcastInDim S16384x4x128 ![] bcast_S_S16384x4x128 (constant S_ .f32 0x3F800000#32)) (Host.exp (Host.negf g))))))
    shapeCasts_S16384x4x128_S16384x512) bitsLt_bf16_f32

/-- The reference's result in these terms. -/
theorem result_eq (t : State Ideal) : R_main_v90 (F := Ideal) t a0 a1 a2 a3 = normD a3 (oD a0 a1 a2 t.main_v31_4) (gD a0) := by
  unfold R_main_v90 normD oD gD outD attD kD qD
  rfl

/-- A query entry. -/
theorem qD_at (h : Fin 4) (n : Fin 256) (j d : Fin 64) :
    qD a0 a1 a2 (ix4 h n j d) = Gla.qd (Gla.qAt (X a0) n.val) (Gla.bAt (L a0 a1 a2) n.val) j (Gla.col h d) := by
  unfold Gla.qd Gla.qAt
  rw [X_at a0 ⟨64 * n.val + j.val, by omega⟩, ← sums_at]
  pointwise [qD]
  refine congrArg (fun z : EReal => z * Ideal.ofBits .f32 0x3E000000#32 * Ideal.exp (A_main_v12 (F := Ideal) a0 a1 a2 (ix4 h n j d)))
    (congrArg a0 ?_)
  unfold Gla.col
  idx_ext

/-- A key entry. -/
theorem kD_at (h : Fin 4) (n : Fin 256) (j d : Fin 64) :
    kD a0 a1 a2 (ix4 h n j d) = Gla.kd (Gla.kAt (X a0) n.val) (Gla.bAt (L a0 a1 a2) n.val) j (Gla.col h d) := by
  unfold Gla.kd
  rw [← sums_at, ← k_at a0 a1 a2]
  pointwise [kD]

/-- A score. -/
theorem attD_at (h : Fin 4) (n : Fin 256) (j j' : Fin 64) :
    attD a0 a1 a2 (ix4 h n j j')
      = Gla.att (Gla.qAt (X a0) n.val) (Gla.kAt (X a0) n.val) (Gla.bAt (L a0 a1 a2) n.val) h j j' := by
  unfold Gla.att
  simp only [← qD_at, ← kD_at]
  pointwise [attD]
  have e : IntOp.addi (BitVec.ofNat 32 j.val) 0#32 = BitVec.ofNat 32 j.val := BitVec.add_zero _
  rw [e, WordCmp.cmpi_sge_ofNat (by omega) (by omega)]
  by_cases hj : j' ≤ j
  · rw [if_pos hj, decide_eq_true (show j'.val ≤ j.val from hj)]
    rfl
  · rw [if_neg hj, decide_eq_false (show ¬j'.val ≤ j.val from hj)]
    change (constant (F := Ideal) S_ .f32 0#32) ix0 = _
    pointwise

/-- A result before norm and gate. -/
theorem outD_at (n : Fin 256) (hs : ∀ h d x, s (ix4 n h d x) = Gla.state (X a0) (L a0 a1 a2) h n.val x d) (h : Fin 4) (j : Fin 64)
    (x : Fin 128) : outD a0 a1 a2 s (ix4 h n j x) = Gla.outAt (X a0) (L a0 a1 a2) h n.val j x := by
  unfold Gla.outAt Gla.out
  simp only [← hs, ← attD_at, ← qD_at, ← v_at a0 a1 a2]
  pointwise [outD]

/-- The same by row and head. -/
theorem oD_at (r : Fin 16384) (h : Fin 4) (x : Fin 128) :
    oD a0 a1 a2 s (ix3 r h x) = outD a0 a1 a2 s (ix4 h ⟨r.val / 64, by omega⟩ ⟨r.val % 64, by omega⟩ x) := by
  pointwise [oD]

/-- The gate by row and head. -/
theorem gD_at (r : Fin 16384) (h : Fin 4) (x : Fin 128) : gD a0 (ix3 r h x) = Gla.gAt (X a0) h r.val x := by
  unfold Gla.gAt
  rw [X_at]
  pointwise [gD]
  refine congrArg a0 ?_
  idx_ext

/-- Norm and gate at an entry. -/
theorem normD_at (o g : FVec Ideal S16384x4x128 .f32) (r : Fin 16384) (h : Fin 4) (x : Fin 128) (hx : 128 * h.val + x.val < 512) :
    normD a3 o g (ix2 r ⟨128 * h.val + x.val, hx⟩)
      = Gla.fin (fun l => o (ix3 r h l)) (g (ix3 r h x)) (a3 (ix1 ⟨128 * h.val + x.val, hx⟩)) x := by
  unfold Gla.fin
  pointwise [normD]
  rw [show (⟨h.val * 128 + x.val, by omega⟩ : Fin 512) = ⟨128 * h.val + x.val, hx⟩ from Fin.ext (by dsimp only; omega)]

end Cert.RefOut

end
-- ==== Proof.RefTrips.lean ====
/- The reference's run as a sequence of states: the valuation its loop carries holds, before each trip, the state of the
   sequence that starts at `init` and goes on by `step`. -/
module

public import proofs.«01_k».proof.ReferenceIdeal
public import proofs.«01_k».proof.Proof.Gen.ReferenceIdeal
public import proofs.«01_k».proof.Proof.Gen.ReferenceIdeal.Run
public import proofs.«01_k».proof.Proof.Gen.ReferenceIdeal.Step

@[expose] public section

set_option maxRecDepth 16384

noncomputable section

namespace Cert.RefTrips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v90)

variable {F : FTy → Type} [FloatOps F]

/-- The loop's valuation holds state `s` and stands before trip `j`. -/
structure At (V : Valuation τ sig (Elt F)) (s : State F) (j : ℕ) : Prop where
  state : V (Proc.devRef .tc main_v31_3) = s.main_v31_3
  seen : V (Proc.devRef .tc main_v31_4) = s.main_v31_4
  decay : V (Proc.devRef .tc main_v31_0) = s.main_v31_0
  update : V (Proc.devRef .tc main_v31_1) = s.main_v31_1
  trip : V (Proc.devRef .tc main_v31_2) = constantI S_ 32 (BitVec.ofNat 32 j)

variable {V : Valuation τ sig (Elt F)} {s : State F} {j : ℕ}

/-- The running state after a trip. -/
theorem state_next (h : At V s j) : step_main_v31_3 V = (step j s).main_v31_3 := by
  unfold step_main_v31_3
  rw [h.decay, h.trip, h.state, h.update]
  rfl

/-- The collected states after a trip. -/
theorem seen_next (h : At V s j) : step_main_v31_4 V = (step j s).main_v31_4 := by
  unfold step_main_v31_4
  rw [h.seen, h.trip, h.state]
  rfl

/-- The trip's number after a trip. -/
theorem trip_next (h : At V s j) : step_main_v31_2 V = constantI S_ 32 (BitVec.ofNat 32 (j + 1)) := by
  unfold step_main_v31_2
  rw [h.trip]
  funext i
  exact (BitVec.ofNat_add ..).symm

/-- One trip of the loop is one `step`. -/
theorem At.next (h : At V s j) : At (STEP V) (step j s) (j + 1) where
  state := (STEP_main_v31_3 V).trans (state_next h)
  seen := (STEP_main_v31_4 V).trans (seen_next h)
  decay := (STEP_main_v31_0 V).trans h.decay
  update := (STEP_main_v31_1 V).trans h.update
  trip := (STEP_main_v31_2 V).trans (trip_next h)

variable (m : (ℓ : Loc nD τ sig) → Buf (Elt F) ℓ) (c : Dev nD)

/-- The state the first trip starts from. -/
abbrev start : State F :=
  init (m ((c.tc : Thread nD τ).loc main_arg0)) (m ((c.tc : Thread nD τ).loc main_arg1))
    (m ((c.tc : Thread nD τ).loc main_arg2))

/-- The state before trip `n`. -/
def states : ℕ → State F
  | 0 => start m c
  | n + 1 => step n (states n)

set_option maxRecDepth 65536 in
/-- What runs before the loop leaves the first state. -/
theorem at_start : At (entryContents preI m c) (start m c) 0 := by
  constructor <;> (simp only [entryContents, afterL_cons, afterL_nil]; after_reads_simp) <;> rfl

/-- After `k` trips the loop holds state `k`. -/
theorem at_states : ∀ k, At (STEP^[k] (entryContents preI m c)) (states m c k) k
  | 0 => at_start m c
  | k + 1 => by
    rw [Function.iterate_succ_apply']
    exact (at_states k).next

/-- What runs after the loop makes the result of the collected states and of the arguments. -/
theorem result_eq (h : At V s j) {a0 : (⟨S16384x1664, .f32⟩ : BufTy).Contents (Elt F)}
    (h0 : V (Proc.devRef .tc main_arg0) = a0) {a1 : (⟨S16x256, .f32⟩ : BufTy).Contents (Elt F)}
    (h1 : V (Proc.devRef .tc main_arg1) = a1) {a2 : (⟨S256, .f32⟩ : BufTy).Contents (Elt F)}
    (h2 : V (Proc.devRef .tc main_arg2) = a2) {a3 : (⟨S512, .f32⟩ : BufTy).Contents (Elt F)}
    (h3 : V (Proc.devRef .tc main_arg3) = a3) : out_main_v90 V = R_main_v90 s a0 a1 a2 a3 := by
  unfold out_main_v90 R_main_v90
  rw [h.seen, h0, h1, h2, h3]
  try rfl

/-- Every run of the reference ends with the result read off the last state of `states`, and the arguments as they were. -/
theorem run_states (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v90)
          = R_main_v90 (states m c 256) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (result_eq (at_states m c 256) (iter_main_arg0 m c 256) (iter_main_arg1 m c 256)
      (iter_main_arg2 m c 256) (iter_main_arg3 m c 256)), (h c).2⟩) (Value.run m ρ)

end Cert.RefTrips

end
-- ==== Proof.RefValue.lean ====
module

public import proofs.«01_k».proof.Proof.RefOut
public import proofs.«01_k».proof.Proof.RefTrips
public import proofs.«01_k».proof.Proof.GlaIn

@[expose] public section

/-! The reference's result at an entry: gated linear attention as `Gla.wholeOf` states it. -/

set_option maxRecDepth 16384

noncomputable section

namespace Cert.RefValue

open Idealize.ShloMosaic Idealize.ShloMosaic.TcCoe Idealize.SL.Sem
open Cert.ReferenceIdeal Cert.ReferenceIdeal.Gen Cert.ReferenceIdeal.Step

variable (m : (ℓ : Loc nD τ sig) → Buf (Elt Ideal) ℓ) (c : Dev nD)

/-- Before every trip, what `RefState.Before` says holds. -/
theorem before : ∀ n, n ≤ 256 → RefState.Before (m ((c.tc : Thread nD τ).loc main_arg0)) (m ((c.tc : Thread nD τ).loc main_arg1))
    (m ((c.tc : Thread nD τ).loc main_arg2)) n (RefTrips.states m c n)
  | 0, _ => RefState.before_zero _ _ _
  | n + 1, h => RefState.before_next _ _ _ (⟨n, h⟩ : Fin 256) (RefTrips.states m c n) (before n (Nat.le_of_succ_le h))

/-- The result's entry at row `r`, head `h`, column `x`. -/
theorem final (a0 : FVec Ideal S16384x1664 .f32) (a1 : FVec Ideal S16x256 .f32) (a2 : FVec Ideal S256 .f32) (a3 : FVec Ideal S512 .f32)
    (t : State Ideal) (B : RefState.Before a0 a1 a2 256 t) (r : Fin 16384) (h : Fin 4) (x : Fin 128) (hx : 128 * h.val + x.val < 512) :
    R_main_v90 (F := Ideal) t a0 a1 a2 a3 (ix2 r ⟨128 * h.val + x.val, hx⟩)
      = Gla.wholeOf (fun r k => a0 (ix2 r k)) (fun i k => a1 (ix2 i k)) (fun k => a2 (ix1 k)) (fun k => a3 (ix1 k)) h r.val x := by
  rw [RefOut.result_eq, RefOut.normD_at, RefOut.gD_at]
  unfold Gla.wholeOf Gla.result
  simp only [RefOut.oD_at]
  refine congrArg (fun o => Gla.fin o _ _ x) (funext fun l => ?_)
  exact RefOut.outD_at a0 a1 a2 _ ⟨r.val / 64, by omega⟩ (fun h d x => B.seen _ h d x (by dsimp only; omega)) h _ l

end Cert.RefValue

end
-- ==== Proof.GlaClaim.lean ====
module

public import proofs.«01_k».proof.Defs
public import proofs.«01_k».proof.Proof.GlaFold
public import proofs.«01_k».proof.Proof.RefValue
public import Idealize.ShloMosaic.Lib.Claim

@[expose] public section

/-! The two programs of the gated linear attention end with equal results: both are `Gla.wholeOf` of the arguments. -/

set_option maxRecDepth 16384

noncomputable section

namespace Cert.GlaClaim

open Idealize.ShloMosaic Idealize.ShloMosaic.TcCoe Idealize.SL.Sem

/-- The reference's frame: its run leaves the arguments as they were, and it has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result array is the reference's, when the arguments agree. -/
theorem equal (m : (ℓ : Loc Cert.KernelIdeal.nD Cert.KernelIdeal.τ Cert.KernelIdeal.sig) → Buf (Elt Ideal) ℓ) (c : Dev Cert.KernelIdeal.nD)
    (t : Cert.ReferenceIdeal.Step.State Ideal) (a0 : FVec Ideal Cert.ReferenceIdeal.S16384x1664 .f32)
    (a1 : FVec Ideal Cert.ReferenceIdeal.S16x256 .f32) (a2 : FVec Ideal Cert.ReferenceIdeal.S256 .f32)
    (a3 : FVec Ideal Cert.ReferenceIdeal.S512 .f32) (B : RefState.Before a0 a1 a2 256 t)
    (h0 : a0 = m ((c.tc : Thread Cert.KernelIdeal.nD Cert.KernelIdeal.τ).loc Cert.KernelIdeal.main_arg0))
    (h1 : a1 = m ((c.tc : Thread Cert.KernelIdeal.nD Cert.KernelIdeal.τ).loc Cert.KernelIdeal.main_arg1))
    (h2 : a2 = m ((c.tc : Thread Cert.KernelIdeal.nD Cert.KernelIdeal.τ).loc Cert.KernelIdeal.main_arg2))
    (h3 : a3 = m ((c.tc : Thread Cert.KernelIdeal.nD Cert.KernelIdeal.τ).loc Cert.KernelIdeal.main_arg3)) :
    Cert.ReferenceIdeal.Step.R_main_v90 (F := Ideal) t a0 a1 a2 a3 = Cert.KernelIdeal.Value.G4 m c := by
  funext y
  obtain ⟨r, k, rfl⟩ : ∃ (r : Fin 16384) (k : Fin 512), y = ix2 r k := ⟨y 0, y 1, eq_ix2 y⟩
  have hk : 128 * (⟨k.val / 128, by omega⟩ : Fin 4).val + (⟨k.val % 128, by omega⟩ : Fin 128).val < 512 := by
    dsimp only; omega
  have ek : k = ⟨_, hk⟩ := Fin.ext (by dsimp only; omega)
  rw [ek]
  refine (RefValue.final a0 a1 a2 a3 t B r _ _ hk).trans ?_
  refine Eq.trans ?_ (GlaFold.final m c r _ _ hk).symm
  subst h0 h1 h2 h3
  rfl

/-- The two programs compute the same. -/
theorem algebraic : Cert.algebraic_KernelIdeal_ReferenceIdeal := by
  intro m ρ m' ρ' _ hagree
  refine ⟨fun c => Cert.KernelIdeal.Value.G4 m c, Cert.KernelIdeal.Value.run m ρ, ?_⟩
  refine (θ_run _ _ _).mono (fun _ h c => ⟨(h c).1.trans ?_, (h c).2⟩) (RefTrips.run_states m' ρ')
  obtain ⟨h0, h1, h2, h3⟩ := hagree c
  exact equal m c _ _ _ _ _ (RefValue.before m' c 256 le_rfl) h0 h1 h2 h3

end Cert.GlaClaim

end
-- ==== Proof.DnSpec.lean ====
module

public import Idealize.ShloMosaic.Lib.Pointwise

@[expose] public section

/-! The norm over the 1024 columns of a row, written entry by entry, and the weight of the residual. -/

set_option maxRecDepth 16384

noncomputable section

namespace Cert.Dn

open Idealize.ShloMosaic

/-- The weight of the residual: the square root of two. -/
def alpha : EReal := ((Real.sqrt 2 : ℝ) : EReal)

/-- The mean of 1024 entries. -/
def mean (y : Fin 1024 → EReal) : EReal := Ideal.div (∑ k : Fin 1024, y k) (Ideal.ofBits .f32 0x44800000#32)

/-- The norm of a row `y` with weights `g` and `b`, at column `k`. -/
def lnorm (y g b : Fin 1024 → EReal) (k : Fin 1024) : EReal :=
  (y k - mean y) * Ideal.rsqrt (mean (fun l => (y l - mean y) * (y l - mean y)) + Ideal.ofBits .f32 0x3727C5AC#32) * g k + b k

/-- The pattern of two denotes the real two. -/
theorem ofBits_two : Ideal.ofBits .f32 0x40000000#32 = ((2 : ℝ) : EReal) := by
  simp [Ideal.ofBits, Ideal.ieee, -EReal.coe_mul]; norm_num

/-- The root of two. -/
theorem sqrt_two : Ideal.sqrt (Ideal.ofBits .f32 0x40000000#32) = alpha := by
  rw [ofBits_two, Ideal.sqrt_coe, if_neg (by norm_num)]
  rfl

end Cert.Dn

end
-- ==== Proof.FfnSpec.lean ====
module

public import proofs.«01_k».proof.Proof.DnSpec

@[expose] public section

/-! The gated feed-forward part of a row, written entry by entry. -/

set_option maxRecDepth 16384

noncomputable section

namespace Cert.Ffn

open Idealize.ShloMosaic

/-- `z` times its logistic. -/
def silu (z : EReal) : EReal := z * Ideal.div 1 (1 + Ideal.exp (-z))

/-- Hidden entry `f` of a row `x`. -/
def hid {n : ℕ} (x : Fin 1024 → EReal) (wg wu : Fin 1024 → Fin n → EReal) (f : Fin n) : EReal :=
  silu (∑ i : Fin 1024, x i * wg i f) * ∑ i : Fin 1024, x i * wu i f

/-- What `n` hidden columns add to entry `k` of the row's result. -/
def part {n : ℕ} (x : Fin 1024 → EReal) (wg wu : Fin 1024 → Fin n → EReal) (wd : Fin n → Fin 1024 → EReal) (k : Fin 1024) : EReal :=
  ∑ f : Fin n, hid x wg wu f * wd f k

/-- A row of the whole: residual and feed-forward part, then the norm. -/
def row (x : Fin 1024 → EReal) (wg wu : Fin 1024 → Fin 2816 → EReal) (wd : Fin 2816 → Fin 1024 → EReal) (g b : Fin 1024 → EReal)
    (k : Fin 1024) : EReal :=
  Dn.lnorm (fun l => Dn.alpha * x l + part x wg wu wd l) g b k

/-- Hidden column `f` of half `j`. -/
def at_ (j : Fin 2) (f : Fin 1408) : Fin 2816 := ⟨1408 * j.val + f.val, by omega⟩

/-- What half `j` of the hidden columns adds. -/
def half (j : Fin 2) (x : Fin 1024 → EReal) (wg wu : Fin 1024 → Fin 2816 → EReal) (wd : Fin 2816 → Fin 1024 → EReal) (k : Fin 1024) : EReal :=
  part x (fun i f => wg i (at_ j f)) (fun i f => wu i (at_ j f)) (fun f l => wd (at_ j f) l) k

/-- The two halves make the whole. -/
theorem halves (x : Fin 1024 → EReal) (wg wu : Fin 1024 → Fin 2816 → EReal) (wd : Fin 2816 → Fin 1024 → EReal) (k : Fin 1024) :
    half 0 x wg wu wd k + half 1 x wg wu wd k = part x wg wu wd k := by
  refine Eq.trans ?_ (Fin.sum_univ_two_halves 1408 1408 rfl fun f => hid x wg wu f * wd f k).symm
  have e0 (f : Fin 1408) (h : f.val < 2816) : (⟨f.val, h⟩ : Fin 2816) = at_ 0 f := Fin.ext (by simp [at_])
  have e1 (f : Fin 1408) (h : 1408 + f.val < 2816) : (⟨1408 + f.val, h⟩ : Fin 2816) = at_ 1 f := Fin.ext (by simp [at_])
  simp only [e0, e1]
  rfl

end Cert.Ffn

end
-- ==== Proof.FfnBlocks.lean ====
module

public import proofs.«01_k».proof.Proof.FfnSpec
public import proofs.«01_k».proof.Proof.Gen.Kernel2Ideal.Value
public import Idealize.ShloMosaic.Lib.Pipeline.ValueKit

@[expose] public section

/-! What the feed-forward kernel's blocks hold and what its payloads make of them, entry by entry. -/

set_option maxRecDepth 16384

noncomputable section

namespace Cert.FfnBlocks

open Idealize.ShloMosaic Idealize.ShloMosaic.TcCoe Idealize.SL.Sem
open Cert.Kernel2Ideal Cert.Kernel2Ideal.Gen

variable (v0 : FVec Ideal S512x1024 .f32) (v2 v13 : FVec Ideal S1024x1408 .bf16) (v17 : FVec Ideal S1408x1024 .bf16)
  (acc : FVec Ideal S512x1024 .f32) (g b : FVec Ideal S1x1024 .f32)

/-- The named constant is the root of two. -/
theorem alpha_named : Named.named (F := Ideal) κ "alpha" (φ := .f32) 0x3FB504F3#32 = Dn.alpha :=
  IdealRules.named_const.ideal_named_scalar _ _ _ _ rfl

/-- The product of the body: half of the hidden columns. -/
theorem part_at (r : Fin 512) (k : Fin 1024) :
    k0_pay1 (F := Ideal) v0 v2 v13 v17 (ix2 r k)
      = Ffn.part (fun i => v0 (ix2 r i)) (fun i f => v2 (ix2 i f)) (fun i f => v13 (ix2 i f)) (fun f l => v17 (ix2 f l)) k := by
  unfold Ffn.part Ffn.hid Ffn.silu
  pointwise [k0_pay1]
  simp only [zero_sub]

/-- The first point of a pair leaves the residual and its half. -/
theorem first_at (r : Fin 512) (k : Fin 1024) :
    k0_pay2 (F := Ideal) v0 v2 v13 v17 (ix2 r k) = Dn.alpha * v0 (ix2 r k)
      + Ffn.part (fun i => v0 (ix2 r i)) (fun i f => v2 (ix2 i f)) (fun i f => v13 (ix2 i f)) (fun f l => v17 (ix2 f l)) k := by
  rw [← part_at, ← alpha_named]
  pointwise [k0_pay2]

/-- The second point of a pair adds its half and takes the norm. -/
theorem second_at (r : Fin 512) (k : Fin 1024) :
    k0_pay4 (F := Ideal) v0 v2 v13 v17 acc g b (ix2 r k) = Dn.lnorm (fun l => acc (ix2 r l)
      + Ffn.part (fun i => v0 (ix2 r i)) (fun i f => v2 (ix2 i f)) (fun i f => v13 (ix2 i f)) (fun f l => v17 (ix2 f l)) l)
      (fun l => g (ix2 0 l)) (fun l => b (ix2 0 l)) k := by
  simp only [← part_at]
  unfold Dn.lnorm Dn.mean
  pointwise [k0_pay4]

variable (m : (ℓ : Loc nD τ sig) → Buf (Elt Ideal) ℓ) (c : Dev nD)

/-- The rows. -/
def X : Fin 16384 → Fin 1024 → EReal := fun r k => (m ((c : Thread nD τ).loc main_arg0) : FVec Ideal S16384x1024 .f32) (ix2 r k)
/-- The gate's weights. -/
def Wg : Fin 1024 → Fin 2816 → EReal := fun i f => (m ((c : Thread nD τ).loc main_arg1) : FVec Ideal S1024x2816 .f32) (ix2 i f)
/-- The weights up. -/
def Wu : Fin 1024 → Fin 2816 → EReal := fun i f => (m ((c : Thread nD τ).loc main_arg2) : FVec Ideal S1024x2816 .f32) (ix2 i f)
/-- The weights down. -/
def Wd : Fin 2816 → Fin 1024 → EReal := fun f k => (m ((c : Thread nD τ).loc main_arg3) : FVec Ideal S2816x1024 .f32) (ix2 f k)
/-- The norm's weights. -/
def Gn : Fin 1024 → EReal := fun k => (m ((c : Thread nD τ).loc main_arg4) : FVec Ideal S1024 .f32) (ix1 k)
/-- The norm's bias. -/
def Bn : Fin 1024 → EReal := fun k => (m ((c : Thread nD τ).loc main_arg5) : FVec Ideal S1024 .f32) (ix1 k)

/-- The blocks of the input windows at each point. -/
theorem idx : ∀ t : Fin cfg0.N, win0_0.index t = ![t.val / 2, 0] ∧ win0_1.index t = ![0, t.val % 2] ∧ win0_2.index t = ![0, t.val % 2]
    ∧ win0_3.index t = ![t.val % 2, 0] ∧ win0_4.index t = ![0, 0] ∧ win0_5.index t = ![0, 0] :=
  (by decide +kernel : ∀ t : Fin grid0.N, _)

/-- The half a point works on. -/
def hf (t : Fin cfg0.N) : Fin 2 := ⟨t.val % 2, Nat.mod_lt _ (by omega)⟩

/-- Row `r` of the rows' block. -/
theorem rows (t : Fin cfg0.N) (r : Fin 512) (k : Fin 1024) (h : 512 * (t.val / 2) + r.val < 16384) :
    (iblk m c 0 t : FVec Ideal S512x1024 .f32) (ix2 r k) = X m c ⟨512 * (t.val / 2) + r.val, h⟩ k := by
  unfold X
  blk_ext [iblk, V, idx t]

/-- The weights when the grid starts: cast, which changes nothing. -/
theorem entry_w : (V m c main_v0 : FVec Ideal S1024x2816 .bf16) = (truncf .bf16 (m ((c : Thread nD τ).loc main_arg1) : FVec Ideal S1024x2816 .f32) bitsLt_bf16_f32 : FVec Ideal S1024x2816 .bf16)
    ∧ (V m c main_v1 : FVec Ideal S1024x2816 .bf16) = (truncf .bf16 (m ((c : Thread nD τ).loc main_arg2) : FVec Ideal S1024x2816 .f32) bitsLt_bf16_f32 : FVec Ideal S1024x2816 .bf16)
    ∧ (V m c main_v2 : FVec Ideal S2816x1024 .bf16) = (truncf .bf16 (m ((c : Thread nD τ).loc main_arg3) : FVec Ideal S2816x1024 .f32) bitsLt_bf16_f32 : FVec Ideal S2816x1024 .bf16)
    ∧ (V m c main_v3 : FVec Ideal S1x1024 .f32) = shapeCast S1x1024 (m ((c : Thread nD τ).loc main_arg4) : FVec Ideal S1024 .f32) shapeCasts_S1024_S1x1024
    ∧ (V m c main_v4 : FVec Ideal S1x1024 .f32) = shapeCast S1x1024 (m ((c : Thread nD τ).loc main_arg5) : FVec Ideal S1024 .f32) shapeCasts_S1024_S1x1024 := by
  simp only [V, hostOps0, List.flatten_cons, List.flatten_nil, List.append_nil, List.cons_append, List.nil_append]
  refine ⟨?_, ?_, ?_, ?_, ?_⟩
  all_goals
    entry_read
    rfl

/-- The gate's weights of a point. -/
theorem gate (t : Fin cfg0.N) (i : Fin 1024) (f : Fin 1408) :
    (iblk m c 1 t : FVec Ideal S1024x1408 .bf16) (ix2 i f) = Wg m c i (Ffn.at_ (hf t) f) := by
  have e : (iblk m c 1 t : FVec Ideal S1024x1408 .bf16) (ix2 i f) = (V m c main_v0 : FVec Ideal S1024x2816 .bf16) (ix2 i (Ffn.at_ (hf t) f)) := by
    unfold Ffn.at_ hf
    blk_ext [iblk, idx t]
  rw [e, (entry_w m c).1]
  rfl

/-- The weights up of a point. -/
theorem up (t : Fin cfg0.N) (i : Fin 1024) (f : Fin 1408) :
    (iblk m c 2 t : FVec Ideal S1024x1408 .bf16) (ix2 i f) = Wu m c i (Ffn.at_ (hf t) f) := by
  have e : (iblk m c 2 t : FVec Ideal S1024x1408 .bf16) (ix2 i f) = (V m c main_v1 : FVec Ideal S1024x2816 .bf16) (ix2 i (Ffn.at_ (hf t) f)) := by
    unfold Ffn.at_ hf
    blk_ext [iblk, idx t]
  rw [e, (entry_w m c).2.1]
  rfl

/-- The weights down of a point. -/
theorem down (t : Fin cfg0.N) (f : Fin 1408) (k : Fin 1024) :
    (iblk m c 3 t : FVec Ideal S1408x1024 .bf16) (ix2 f k) = Wd m c (Ffn.at_ (hf t) f) k := by
  have e : (iblk m c 3 t : FVec Ideal S1408x1024 .bf16) (ix2 f k) = (V m c main_v2 : FVec Ideal S2816x1024 .bf16) (ix2 (Ffn.at_ (hf t) f) k) := by
    unfold Ffn.at_ hf
    blk_ext [iblk, idx t]
  rw [e, (entry_w m c).2.2.1]
  rfl

/-- The norm's weights at a point. -/
theorem gn (t : Fin cfg0.N) (k : Fin 1024) : (iblk m c 4 t : FVec Ideal S1x1024 .f32) (ix2 0 k) = Gn m c k := by
  have e : (iblk m c 4 t : FVec Ideal S1x1024 .f32) (ix2 0 k) = (V m c main_v3 : FVec Ideal S1x1024 .f32) (ix2 0 k) := by
    blk_ext [iblk, idx t]
  rw [e, (entry_w m c).2.2.2.1]
  unfold Gn
  pointwise

/-- The norm's bias at a point. -/
theorem bn (t : Fin cfg0.N) (k : Fin 1024) : (iblk m c 5 t : FVec Ideal S1x1024 .f32) (ix2 0 k) = Bn m c k := by
  have e : (iblk m c 5 t : FVec Ideal S1x1024 .f32) (ix2 0 k) = (V m c main_v4 : FVec Ideal S1x1024 .f32) (ix2 0 k) := by
    blk_ext [iblk, idx t]
  rw [e, (entry_w m c).2.2.2.2]
  unfold Bn
  pointwise

/-- The product of a point's body: its half for the point's row. -/
theorem half_at (t : Fin cfg0.N) (r : Fin 512) (k : Fin 1024) (h : 512 * (t.val / 2) + r.val < 16384) :
    Ffn.part (fun i => (iblk m c 0 t : FVec Ideal S512x1024 .f32) (ix2 r i)) (fun i f => (iblk m c 1 t : FVec Ideal S1024x1408 .bf16) (ix2 i f))
        (fun i f => (iblk m c 2 t : FVec Ideal S1024x1408 .bf16) (ix2 i f)) (fun f l => (iblk m c 3 t : FVec Ideal S1408x1024 .bf16) (ix2 f l)) k
      = Ffn.half (hf t) (X m c ⟨512 * (t.val / 2) + r.val, h⟩) (Wg m c) (Wu m c) (Wd m c) k := by
  unfold Ffn.half
  simp only [rows m c t r _ h, gate, up, down]

end Cert.FfnBlocks

end
-- ==== Proof.FfnFold.lean ====
module

public import proofs.«01_k».proof.Proof.FfnBlocks
public import Idealize.ShloMosaic.Lib.Pipeline.ReadBack

@[expose] public section

/-! The feed-forward kernel's grid: pairs of points, the first of which leaves residual and first half, the second the norm of the whole. -/

set_option maxRecDepth 16384

noncomputable section

namespace Cert.FfnFold

open Idealize.ShloMosaic Idealize.ShloMosaic.TcCoe Idealize.SL.Sem
open Cert.Kernel2Ideal Cert.Kernel2Ideal.Gen Cert.Kernel2Ideal.Value Cert.FfnBlocks

variable (m : (ℓ : Loc nD τ sig) → Buf (Elt Ideal) ℓ) (c : Dev nD)

/-- What the first point of a pair leaves in the scratch. -/
theorem kept (t : Fin cfg0.N) (h0 : t.val % 2 = 0) (h2 : ¬t.val % 2 = 1) :
    (outsAt0 m c t.val t.isLt).2 = k0_pay2 (F := Ideal) (iblk m c 0 t) (iblk m c 1 t) (iblk m c 2 t) (iblk m c 3 t) := by
  rw [outsAt0_A m c t h0 h2]
  dsimp only
  frame_out

/-- What the second point of a pair writes, from what the first left. -/
theorem wrote (t : Fin cfg0.N) (h0 : ¬t.val % 2 = 0) (h2 : t.val % 2 = 1) :
    (outsAt0 m c t.val t.isLt).1 = k0_pay4 (F := Ideal) (iblk m c 0 t) (iblk m c 1 t) (iblk m c 2 t) (iblk m c 3 t)
      (outsAt0 m c (t.val - 1) (Nat.lt_of_le_of_lt (Nat.sub_le _ _) t.isLt)).2 (iblk m c 4 t) (iblk m c 5 t) := by
  rw [outsAt0_B m c t h0 h2]
  dsimp only
  frame_out
  rw [read_unread_whole]

/-- The block of results the second point of pair `n` leaves. -/
theorem pair (n : ℕ) (hn : 2 * n + 1 < cfg0.N) (r : Fin 512) (k : Fin 1024) (h : 512 * n + r.val < 16384) :
    (outsAt0 m c (2 * n + 1) hn).1 (ix2 r k)
      = Ffn.row (X m c ⟨512 * n + r.val, h⟩) (Wg m c) (Wu m c) (Wd m c) (Gn m c) (Bn m c) k := by
  have hn' : 2 * n < cfg0.N := by omega
  have e0 : hf ⟨2 * n, hn'⟩ = 0 := Fin.ext (by simp [hf])
  have e1 : hf ⟨2 * n + 1, hn⟩ = 1 := Fin.ext (by change (2 * n + 1) % 2 = 1; omega)
  have d0 : 512 * ((⟨2 * n, hn'⟩ : Fin cfg0.N).val / 2) + r.val = 512 * n + r.val := by dsimp only; omega
  have d1 : 512 * ((⟨2 * n + 1, hn⟩ : Fin cfg0.N).val / 2) + r.val = 512 * n + r.val := by dsimp only; omega
  have A := wrote m c ⟨2 * n + 1, hn⟩ (by change ¬(2 * n + 1) % 2 = 0; omega) (by change (2 * n + 1) % 2 = 1; omega)
  have B : (outsAt0 m c (2 * n + 1 - 1) (Nat.lt_of_le_of_lt (Nat.sub_le _ _) hn)).2 = _ := kept m c ⟨2 * n, hn'⟩ (by change 2 * n % 2 = 0; omega) (by change ¬2 * n % 2 = 1; omega)
  dsimp only at A
  rw [A, B, second_at]
  unfold Ffn.row
  simp only [first_at, gn, bn, half_at m c _ r _ (lt_of_eq_of_lt d0 h), half_at m c _ r _ (lt_of_eq_of_lt d1 h), e0, e1]
  simp only [rows m c _ r _ (lt_of_eq_of_lt d0 h), d0, d1, add_assoc, Ffn.halves]

/-- The result array of the kernel, entry by entry. -/
theorem final (r : Fin 16384) (k : Fin 1024) :
    (G6 m c : FVec Ideal S16384x1024 .f32) (ix2 r k) = Ffn.row (X m c r) (Wg m c) (Wu m c) (Wd m c) (Gn m c) (Bn m c) k := by
  have hp : pt6Of (ix2 r k : S16384x1024.Idx) = 2 * (r.val / 512) + 1 := by
    change 2 * (1 * (r.val / 512 - 0) + 1 * (k.val / 1024 - 0)) + 1 = _
    omega
  have hq : pt6Of (ix2 r k : S16384x1024.Idx) < cfg0.N := by
    rw [hp]; exact lt_of_lt_of_eq (by omega) N_0.symm
  have hl : loc6Of (ix2 r k : S16384x1024.Idx) = ix2 (⟨r.val % 512, by omega⟩ : Fin 512) k := by
    idx_ext
  unfold G6
  rw [dif_pos hq, ← outsAt0_sweep m c _ hq, hl]
  have e : ∀ (p : ℕ) (hp : p < cfg0.N), p = 2 * (r.val / 512) + 1 → outsAt0 m c p hp
      = outsAt0 m c (2 * (r.val / 512) + 1) (lt_of_lt_of_eq (by omega) N_0.symm) := by
    rintro p hp rfl; rfl
  rw [e _ hq hp, pair m c _ _ _ k (by dsimp only; omega)]
  congr 2
  exact Fin.ext (by dsimp only; omega)

end Cert.FfnFold

end
-- ==== Proof.DnRef.lean ====
module

public import proofs.«01_k».proof.Proof.DnSpec
public import proofs.«01_k».proof.Proof.Gen.Reference2Ideal.Run

@[expose] public section

/-! The norm as the references compute it, read at an entry. -/

set_option maxRecDepth 16384

noncomputable section

namespace Cert.DnRef

open Idealize.ShloMosaic Idealize.ShloMosaic.TcCoe Idealize.SL.Sem
open Cert.Reference2Ideal Cert.Reference2Ideal.Gen

/-- The means of the rows, one column. -/
def meanD (y : FVec Ideal S16384x1024 .f32) : FVec Ideal S16384x1 .f32 :=
  Host.divf (broadcastInDim S16384x1 ![0] bcast_S16384_S16384x1_0 (Host.reduceAdd y (constant S_ .f32 0x00000000#32)
    reducesTo_S16384x1024_S16384_d1 h_S_)) (broadcastInDim S16384x1 ![] bcast_S_S16384x1 (constant S_ .f32 0x44800000#32))

/-- The rows less their means. -/
def devD (y : FVec Ideal S16384x1024 .f32) : FVec Ideal S16384x1024 .f32 :=
  subf y (broadcastInDim S16384x1024 ![0, 1] bcast_S16384x1_S16384x1024_0_1 (meanD y))

/-- The norm of the rows. -/
def normD (y : FVec Ideal S16384x1024 .f32) (g b : FVec Ideal S1024 .f32) : FVec Ideal S16384x1024 .f32 :=
  addf (mulf (mulf (devD y) (broadcastInDim S16384x1024 ![0, 1] bcast_S16384x1_S16384x1024_0_1 (Host.rsqrt (addf (meanD (mulf (devD y) (devD y)))
      (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

/-- The mean of a row. -/
theorem meanD_at (y : FVec Ideal S16384x1024 .f32) (r : Fin 16384) : meanD y (ix2 r 0) = Dn.mean fun l => y (ix2 r l) := by
  unfold Dn.mean
  pointwise [meanD]

/-- An entry less its row's mean. -/
theorem devD_at (y : FVec Ideal S16384x1024 .f32) (r : Fin 16384) (k : Fin 1024) :
    devD y (ix2 r k) = y (ix2 r k) - Dn.mean fun l => y (ix2 r l) := by
  rw [← meanD_at]
  pointwise [devD]

/-- The norm at an entry. -/
theorem normD_at (y : FVec Ideal S16384x1024 .f32) (g b : FVec Ideal S1024 .f32) (r : Fin 16384) (k : Fin 1024) :
    normD y g b (ix2 r k) = Dn.lnorm (fun l => y (ix2 r l)) (fun l => g (ix1 l)) (fun l => b (ix1 l)) k := by
  unfold Dn.lnorm
  simp only [← devD_at]
  rw [show (fun l => devD y (ix2 r l) * devD y (ix2 r l)) = fun l => mulf (devD y) (devD y) (ix2 r l) from rfl, ← meanD_at]
  pointwise [normD]

end Cert.DnRef

end
-- ==== Proof.FfnRef.lean ====
module

public import proofs.«01_k».proof.Proof.FfnSpec
public import proofs.«01_k».proof.Proof.DnRef
public import proofs.«01_k».proof.Proof.Gen.Reference2Ideal.Run

@[expose] public section

/-! What the feed-forward reference computes, entry by entry. -/

set_option maxRecDepth 16384

noncomputable section

namespace Cert.FfnRef

open Idealize.ShloMosaic Idealize.ShloMosaic.TcCoe Idealize.SL.Sem
open Cert.Reference2Ideal Cert.Reference2Ideal.Gen Cert.Reference2Ideal.Value

variable (x : FVec Ideal S16384x1024 .f32) (wg wu : FVec Ideal S1024x2816 .f32) (wd : FVec Ideal S2816x1024 .f32)
  (g b : FVec Ideal S1024 .f32)

/-- The gate's and the upward product. -/
def proj (w : FVec Ideal S1024x2816 .f32) : FVec Ideal S16384x2816 .f32 :=
  Host.dotGeneral dot_S16384x1024_S1024x2816_S16384x2816_1_0_0_1_n_n none x w

/-- Residual and feed-forward part. -/
def sumD : FVec Ideal S16384x1024 .f32 :=
  addf (mulf (broadcastInDim S16384x1024 ![] bcast_S_S16384x1024 (Host.sqrt (constant S_ .f32 0x40000000#32))) x)
    (Host.dotGeneral dot_S16384x2816_S2816x1024_S16384x1024_1_0_0_1_n_n none
      (mulf (mulf (proj x wg) (Host.divf (broadcastInDim S16384x2816 ![] bcast_S_S16384x2816 (constant S_ .f32 0x3F800000#32))
        (addf (broadcastInDim S16384x2816 ![] bcast_S_S16384x2816 (constant S_ .f32 0x3F800000#32)) (Host.exp (Host.negf (proj x wg))))))
        (proj x wu)) wd)

/-- The reference's result in these terms. -/
theorem result_eq (m : (ℓ : Loc nD τ sig) → Buf (Elt Ideal) ℓ) (c : Dev nD) :
    res_main_v32 (F := Ideal) m c = DnRef.normD (sumD (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4))
      (m ((c.tc : Thread nD τ).loc main_arg5)) := by
  unfold res_main_v32 DnRef.normD sumD proj
  rfl

/-- An entry of the two projections. -/
theorem proj_at (w : FVec Ideal S1024x2816 .f32) (r : Fin 16384) (f : Fin 2816) :
    proj x w (ix2 r f) = ∑ i : Fin 1024, x (ix2 r i) * w (ix2 i f) := by
  pointwise [proj]

/-- Residual and feed-forward part at an entry. -/
theorem sumD_at (r : Fin 16384) (k : Fin 1024) :
    sumD x wg wu wd (ix2 r k) = Dn.alpha * x (ix2 r k)
      + Ffn.part (fun i => x (ix2 r i)) (fun i f => wg (ix2 i f)) (fun i f => wu (ix2 i f)) (fun f l => wd (ix2 f l)) k := by
  unfold Ffn.part Ffn.hid Ffn.silu
  simp only [← proj_at, ← Dn.sqrt_two]
  pointwise [sumD]

/-- The reference's result at an entry. -/
theorem result_at (r : Fin 16384) (k : Fin 1024) :
    DnRef.normD (sumD x wg wu wd) g b (ix2 r k) = Ffn.row (fun i => x (ix2 r i)) (fun i f => wg (ix2 i f)) (fun i f => wu (ix2 i f))
      (fun f l => wd (ix2 f l)) (fun l => g (ix1 l)) (fun l => b (ix1 l)) k := by
  unfold Ffn.row
  rw [DnRef.normD_at]
  simp only [sumD_at]

end Cert.FfnRef

end
-- ==== Proof.FfnClaim.lean ====
module

public import proofs.«01_k».proof.Defs
public import proofs.«01_k».proof.Proof.FfnFold
public import proofs.«01_k».proof.Proof.FfnRef
public import Idealize.ShloMosaic.Lib.Claim

@[expose] public section

/-! The two programs of the feed-forward part end with equal results: both are `Ffn.row` of the arguments. -/

set_option maxRecDepth 16384

noncomputable section

namespace Cert.FfnClaim

open Idealize.ShloMosaic Idealize.ShloMosaic.TcCoe Idealize.SL.Sem

/-- The reference's frame: its run leaves the arguments as they were, and it has no semaphore. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The named constant is the root of two. -/
theorem preserves : Cert.preserves_Kernel2_Kernel2Ideal :=
  IdealRules.named_const.statement Cert.Kernel2Ideal.κ "alpha" .f32 0x3FB504F3#32 ((Real.sqrt 2 : ℝ) : EReal) rfl

/-- The two programs compute the same. -/
theorem algebraic : Cert.algebraic_Kernel2Ideal_Reference2Ideal := by
  intro m ρ m' ρ' _ hagree
  refine ⟨fun c => Cert.Kernel2Ideal.Value.G6 m c, Cert.Kernel2Ideal.Value.run m ρ, ?_⟩
  refine (θ_run _ _ _).mono (fun _ h c => ⟨(h c).1.trans ?_, (h c).2⟩) (Cert.Reference2Ideal.Value.run (F := Ideal) m' ρ')
  obtain ⟨h0, h1, h2, h3, h4, h5⟩ := hagree c
  rw [FfnRef.result_eq, h0, h1, h2, h3, h4, h5]
  funext y
  obtain ⟨r, k, rfl⟩ : ∃ (r : Fin 16384) (k : Fin 1024), y = ix2 r k := ⟨y 0, y 1, eq_ix2 y⟩
  exact (FfnRef.result_at _ _ _ _ _ _ r k).trans (FfnFold.final m c r k).symm

end Cert.FfnClaim

end
-- ==== Proof.XattnSpec.lean ====
module

public import proofs.«01_k».proof.Proof.DnSpec

@[expose] public section

/-! The cross attention of a row over 256 memory entries with four heads, written entry by entry. -/

set_option maxRecDepth 16384

noncomputable section

namespace Cert.Xattn

open Idealize.ShloMosaic

/-- Where the maximum starts from. -/
def low : EReal := Ideal.ofBits .f32 0xFF800000#32

/-- The largest of 256 scores. -/
def top (s : Fin 256 → EReal) : EReal := Finset.univ.fold max low s

/-- The share of memory entry `j` under the scores `s`. -/
def soft (s : Fin 256 → EReal) (j : Fin 256) : EReal :=
  Ideal.div (Ideal.exp (s j - top s)) (∑ l : Fin 256, Ideal.exp (s l - top s))

/-- Column `d` of head `h`. -/
def at_ (h : Fin 4) (d : Fin 256) : Fin 1024 := ⟨h.val * 256 + d.val, by omega⟩

/-- The score of memory entry `j` for a query. -/
def score (q : Fin 256 → EReal) (K : Fin 256 → Fin 256 → EReal) (j : Fin 256) : EReal := ∑ d : Fin 256, q d * K j d

/-- Entry `d` of what a head reads out under the scores `s`. -/
def out (s : Fin 256 → EReal) (V : Fin 256 → Fin 256 → EReal) (d : Fin 256) : EReal := ∑ j : Fin 256, soft s j * V j d

/-- The root of the head's width, turned over: one sixteenth. -/
def unit : EReal := Ideal.ofBits .f32 0x3D800000#32

/-- Query entry `k` of a row. -/
def query (x : Fin 1024 → EReal) (w : Fin 1024 → Fin 1024 → EReal) (k : Fin 1024) : EReal := ∑ i : Fin 1024, x i * w i k

/-- What head `h` reads out for a row, at its entry `d`. -/
def head (x : Fin 1024 → EReal) (w : Fin 1024 → Fin 1024 → EReal) (K V : Fin 256 → Fin 1024 → EReal) (h : Fin 4) (d : Fin 256) : EReal :=
  out (fun j => score (fun e => query x w (at_ h e)) (fun l e => K l (at_ h e)) j * unit) (fun l e => V l (at_ h e)) d

/-- The four heads side by side. -/
def side (a : Fin 4 → Fin 256 → EReal) (k : Fin 1024) : EReal := a ⟨k.val / 256, by omega⟩ ⟨k.val % 256, by omega⟩

/-- A row of the whole: residual and attention, then the norm. -/
def row (x : Fin 1024 → EReal) (w : Fin 1024 → Fin 1024 → EReal) (K V : Fin 256 → Fin 1024 → EReal) (wo : Fin 1024 → Fin 1024 → EReal)
    (g b : Fin 1024 → EReal) (k : Fin 1024) : EReal :=
  Dn.lnorm (fun l => Dn.alpha * x l + ∑ i : Fin 1024, side (head x w K V) i * wo i l) g b k

/-- The pattern is one sixteenth. -/
theorem unit_eq : unit = ((1 / 16 : ℝ) : EReal) := by
  unfold unit
  simp [Ideal.ofBits, Ideal.ieee, -EReal.coe_mul]; norm_num

/-- A factor of one sixteenth may be taken out of a sum. -/
theorem sum_unit {ι : Type} (s : Finset ι) (f : ι → EReal) : ∑ i ∈ s, f i * unit = (∑ i ∈ s, f i) * unit := by
  have h0 : (0 : EReal) ≤ unit := by rw [unit_eq]; exact EReal.coe_nonneg.2 (by norm_num)
  have h1 : unit ≠ ⊤ := by rw [unit_eq]; exact EReal.coe_ne_top _
  classical
  induction s using Finset.induction_on with
  | empty => simp
  | insert a t ha ih => rw [Finset.sum_insert ha, Finset.sum_insert ha, ih, mul_comm _ unit, mul_comm _ unit, mul_comm _ unit,
      EReal.left_distrib_of_nonneg_of_ne_top h0 h1]

/-- A query with scaled weights. -/
theorem query_unit (x : Fin 1024 → EReal) (w : Fin 1024 → Fin 1024 → EReal) (k : Fin 1024) :
    query x (fun i e => w i e * unit) k = query x w k * unit := by
  unfold query
  simp only [← mul_assoc, sum_unit]

/-- A score with a scaled query. -/
theorem score_unit (q : Fin 256 → EReal) (K : Fin 256 → Fin 256 → EReal) (j : Fin 256) :
    score (fun d => q d * unit) K j = score q K j * unit := by
  unfold score
  rw [← sum_unit]
  exact Finset.sum_congr rfl fun d _ => mul_right_comm _ _ _

/-- Head `h` with the scale in the weights of the query. -/
theorem head_scaled (x : Fin 1024 → EReal) (w : Fin 1024 → Fin 1024 → EReal) (K V : Fin 256 → Fin 1024 → EReal) (h : Fin 4) (d : Fin 256) :
    out (score (fun e => query x (fun i k => w i k * unit) (at_ h e)) (fun l e => K l (at_ h e))) (fun l e => V l (at_ h e)) d
      = head x w K V h d := by
  unfold head
  congr 1
  funext j
  simp only [query_unit, score_unit]

/-- The start of the maximum is below it. -/
theorem max_low (s : Fin 256 → EReal) : max low (top s) = top s :=
  max_eq_right ((Finset.le_fold_max _).2 (Or.inl le_rfl))

/-- The heads side by side, at a head's column. -/
theorem side_at (a : Fin 4 → Fin 256 → EReal) (h : Fin 4) (d : Fin 256) : side a (at_ h d) = a h d := by
  unfold side at_
  congr 1 <;> exact Fin.ext (by dsimp only; omega)

/-- Every column is one of a head's. -/
theorem at_all (k : Fin 1024) : ∃ (h : Fin 4) (d : Fin 256), k = at_ h d :=
  ⟨⟨k.val / 256, by omega⟩, ⟨k.val % 256, by omega⟩, Fin.ext (by simp only [at_]; omega)⟩

end Cert.Xattn

end
-- ==== Proof.XattnBody.lean ====
module

public import proofs.«01_k».proof.Proof.XattnSpec
public import proofs.«01_k».proof.Proof.Gen.Kernel3Ideal.Value

@[expose] public section

/-! What the payloads of the cross attention's kernel compute, entry by entry. -/

set_option maxRecDepth 16384

noncomputable section

namespace Cert.XattnBody

open Idealize.ShloMosaic Idealize.ShloMosaic.TcCoe Idealize.SL.Sem
open Cert.Kernel3Ideal Cert.Kernel3Ideal.Gen

/-- The named constant is the root of two. -/
theorem alpha_named : Named.named (F := Ideal) κ "alpha" (φ := .f32) 0x3FB504F3#32 = Dn.alpha :=
  IdealRules.named_const.ideal_named_scalar _ _ _ _ rfl

variable (x : FVec Ideal S1024x1024 .f32) (w wo : FVec Ideal S1024x1024 .bf16) (q y : FVec Ideal S1024x256 .f32) (k v : FVec Ideal S256x256 .bf16)

/-- The scores of a head's queries. -/
def scores : FVec Ideal S1024x256 .f32 :=
  matmul dot_S1024x256_S256x256_S1024x256_1_1_0_0_n_n none (truncf .bf16 q bitsLt_bf16_f32) k (constant S1024x256 .f32 0x00000000#32)

/-- The scores less the largest of their row, exponentiated. -/
def exps (s : FVec Ideal S1024x256 .f32) : FVec Ideal S1024x256 .f32 :=
  exp (subf s (broadcastTo S1024x256 (shapeCast S1024x1 (multiReduction .maximumf [1] S1024 s 0xFF800000#32 reduces_S1024x256_S1024 (.inl rfl) rfl)
    shapeCasts_S1024_S1024x1) broadcasts_S1024x1_S1024x256))

/-- What a head reads out. -/
def headA : FVec Ideal S1024x256 .f32 :=
  matmul dot_S1024x256_S256x256_S1024x256_1_0_0_1_n_n none (truncf .bf16 (divf (exps (scores q k)) (broadcastTo S1024x256 (shapeCast S1024x1
    (multiReduction .add [1] S1024 (exps (scores q k)) 0x00000000#32 reduces_S1024x256_S1024 (.inl rfl) rfl)
    shapeCasts_S1024_S1024x1) broadcasts_S1024x1_S1024x256)) bitsLt_bf16_f32) v (constant S1024x256 .f32 0x00000000#32)

/-- A score. -/
theorem scores_at (r : Fin 1024) (j : Fin 256) :
    scores q k (ix2 r j) = Xattn.score (fun d => q (ix2 r d)) (fun l d => k (ix2 l d)) j := by
  unfold Xattn.score
  pointwise [scores]

/-- A score less the largest, exponentiated. -/
theorem exps_at (s : FVec Ideal S1024x256 .f32) (r : Fin 1024) (j : Fin 256) :
    exps s (ix2 r j) = Ideal.exp (s (ix2 r j) - Xattn.top fun l => s (ix2 r l)) := by
  unfold Xattn.top Xattn.low
  pointwise [exps]

/-- What a head reads out, at an entry. -/
theorem headA_at (r : Fin 1024) (d : Fin 256) :
    headA q k v (ix2 r d) = Xattn.out (Xattn.score (fun d => q (ix2 r d)) fun l d => k (ix2 l d)) (fun l d => v (ix2 l d)) d := by
  have e : (Xattn.score (fun d => q (ix2 r d)) fun l d => k (ix2 l d)) = fun j => scores q k (ix2 r j) := funext fun j => (scores_at q k r j).symm
  rw [e]
  unfold Xattn.out Xattn.soft
  simp only [← exps_at]
  pointwise [headA]

/-- The queries. -/
theorem query_at (r j : Fin 1024) : k0_pay2 (F := Ideal) x w (ix2 r j) = Xattn.query (fun i => x (ix2 r i)) (fun i e => w (ix2 i e)) j := by
  unfold Xattn.query
  pointwise [k0_pay2]

/-- Head `h` of the queries. -/
def cutQ (p : FVec Ideal S1024x1024 .f32) : Fin 4 → FVec Ideal S1024x256 .f32
  | 0 => extractStridedSlice S1024x256 ![0, 0] p slices_S1024x1024_o0_0_S1024x256
  | 1 => extractStridedSlice S1024x256 ![0, 256] p slices_S1024x1024_o0_256_S1024x256
  | 2 => extractStridedSlice S1024x256 ![0, 512] p slices_S1024x1024_o0_512_S1024x256
  | 3 => extractStridedSlice S1024x256 ![0, 768] p slices_S1024x1024_o0_768_S1024x256

/-- A query's entry of head `h`. -/
theorem cutQ_at (p : FVec Ideal S1024x1024 .f32) (h : Fin 4) (r : Fin 1024) (d : Fin 256) :
    cutQ p h (ix2 r d) = p (ix2 r (Xattn.at_ h d)) := by
  fin_cases h
  all_goals
    pointwise [cutQ]
    congr 2
  exact Fin.ext (by simp [Xattn.at_])

/-- Four heads side by side. -/
def cat (a : Fin 4 → FVec Ideal S1024x256 .f32) : FVec Ideal S1024x1024 .f32 :=
  concatenate S1024x1024 1 [⟨S1024x256, a 0⟩, ⟨S1024x256, a 1⟩, ⟨S1024x256, a 2⟩, ⟨S1024x256, a 3⟩]
    concatenates_S1024x256_S1024x256_S1024x256_S1024x256_S1024x1024_d1

/-- Four heads side by side, at an entry. -/
theorem cat_at (a : Fin 4 → FVec Ideal S1024x256 .f32) (r j : Fin 1024) :
    cat a (ix2 r j) = Xattn.side (fun h d => a h (ix2 r d)) j := by
  obtain ⟨h, d, rfl⟩ := Xattn.at_all j
  rw [Xattn.side_at]
  fin_cases h
  · pointwise [cat, Xattn.at_]
  · pointwise [cat, Xattn.at_]
  · pointwise [cat, Xattn.at_]
    rw [dif_neg (by omega), dif_neg (by omega), dif_pos (by omega)]
    congr 2
    exact Fin.ext (by dsimp only; omega)
  · pointwise [cat, Xattn.at_]
    rw [dif_neg (by omega), dif_neg (by omega), dif_neg (by omega)]
    congr 2
    exact Fin.ext (by dsimp only; omega)

/-- The product of the body: residual and attention. -/
theorem sum_eq (k0 v0 k1 v1 k2 v2 k3 v3 : FVec Ideal S256x256 .bf16) :
    k0_pay6 (F := Ideal) x (k0_pay2 x w) (k0_pay3 x w k0 v0) (k0_pay4 x w k1 v1) (k0_pay5 x w) k2 v2 k3 v3 wo
      = addf (mulf (broadcast S1024x1024 (Named.named (F := Ideal) κ "alpha" (φ := .f32) 0x3FB504F3#32)) x)
          (matmul dot_S1024x1024_S1024x1024_S1024x1024_1_0_0_1_n_n none
            (truncf .bf16 (cat fun h => headA (cutQ (k0_pay2 x w) h) (![k0, k1, k2, k3] h) (![v0, v1, v2, v3] h)) bitsLt_bf16_f32)
            (shapeCast S1024x1024 wo shapeCasts_S1024x1024_S1024x1024) (constant S1024x1024 .f32 0x00000000#32)) := rfl

/-- The body's last payload takes the norm. -/
theorem norm_at (s : FVec Ideal S1024x1024 .f32) (g b : FVec Ideal S1x1024 .f32) (r j : Fin 1024) :
    k0_pay1 (F := Ideal) s g b (ix2 r j) = Dn.lnorm (fun l => s (ix2 r l)) (fun l => g (ix2 0 l)) (fun l => b (ix2 0 l)) j := by
  unfold Dn.lnorm Dn.mean
  pointwise [k0_pay1]

/-- Residual and attention at an entry. -/
theorem sum_at (K V : Fin 4 → FVec Ideal S256x256 .bf16) (r j : Fin 1024) :
    k0_pay6 (F := Ideal) x (k0_pay2 x w) (k0_pay3 x w (K 0) (V 0)) (k0_pay4 x w (K 1) (V 1)) (k0_pay5 x w) (K 2) (V 2) (K 3) (V 3) wo (ix2 r j)
      = Dn.alpha * x (ix2 r j) + ∑ i : Fin 1024, Xattn.side (fun h d => Xattn.out (Xattn.score
          (fun e => Xattn.query (fun i => x (ix2 r i)) (fun i e => w (ix2 i e)) (Xattn.at_ h e)) fun l e => K h (ix2 l e))
          (fun l e => V h (ix2 l e)) d) i * wo (ix2 i j) := by
  have eK : (fun h => headA (cutQ (k0_pay2 x w) h) (![K 0, K 1, K 2, K 3] h) (![V 0, V 1, V 2, V 3] h))
      = fun h => headA (cutQ (k0_pay2 x w) h) (K h) (V h) := by
    funext h; fin_cases h <;> rfl
  rw [sum_eq, eK, ← alpha_named]
  simp only [← query_at, ← cutQ_at, ← headA_at, ← cat_at]
  pointwise

end Cert.XattnBody

end
-- ==== Proof.XattnFold.lean ====
module

public import proofs.«01_k».proof.Proof.XattnBody
public import Idealize.ShloMosaic.Lib.Pipeline.ValueKit

@[expose] public section

/-! What the cross attention's kernel leaves in its result: every row, once the grid has gone by. -/

set_option maxRecDepth 16384

noncomputable section

namespace Cert.XattnFold

open Idealize.ShloMosaic Idealize.ShloMosaic.TcCoe Idealize.SL.Sem
open Cert.Kernel3Ideal Cert.Kernel3Ideal.Gen Cert.Kernel3Ideal.Value

variable (m : (ℓ : Loc nD τ sig) → Buf (Elt Ideal) ℓ) (c : Dev nD)

/-- The rows. -/
def X : Fin 16384 → Fin 1024 → EReal := fun r k => (m ((c : Thread nD τ).loc main_arg0) : FVec Ideal S16384x1024 .f32) (ix2 r k)
/-- The queries' weights. -/
def Wq : Fin 1024 → Fin 1024 → EReal := fun i k => (m ((c : Thread nD τ).loc main_arg1) : FVec Ideal S1024x1024 .f32) (ix2 i k)
/-- The memory's keys. -/
def Km : Fin 256 → Fin 1024 → EReal := fun j k => (m ((c : Thread nD τ).loc main_arg2) : FVec Ideal S256x1024 .bf16) (ix2 j k)
/-- The memory's values. -/
def Vm : Fin 256 → Fin 1024 → EReal := fun j k => (m ((c : Thread nD τ).loc main_arg3) : FVec Ideal S256x1024 .bf16) (ix2 j k)
/-- The weights of the way out. -/
def Wo : Fin 1024 → Fin 1024 → EReal := fun i k => (m ((c : Thread nD τ).loc main_arg4) : FVec Ideal S1024x1024 .f32) (ix2 i k)
/-- The norm's weights. -/
def Gn : Fin 1024 → EReal := fun k => (m ((c : Thread nD τ).loc main_arg5) : FVec Ideal S1024 .f32) (ix1 k)
/-- The norm's bias. -/
def Bn : Fin 1024 → EReal := fun k => (m ((c : Thread nD τ).loc main_arg6) : FVec Ideal S1024 .f32) (ix1 k)

/-- The blocks of the windows at each point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

/-- Row `r` of the rows' block. -/
theorem rows (t : Fin cfg0.N) (r k : Fin 1024) (h : 1024 * t.val + r.val < 16384) :
    (iblk m c 0 t : FVec Ideal S1024x1024 .f32) (ix2 r k) = X m c ⟨1024 * t.val + r.val, h⟩ k := by
  unfold X
  blk_ext [iblk, V, idx t]

/-- The keys of a point. -/
theorem keys (t : Fin cfg0.N) (j : Fin 256) (k : Fin 1024) : (iblk m c 2 t : FVec Ideal S256x1024 .bf16) (ix2 j k) = Km m c j k := by
  unfold Km
  blk_ext [iblk, V, idx t]

/-- The values of a point. -/
theorem vals (t : Fin cfg0.N) (j : Fin 256) (k : Fin 1024) : (iblk m c 3 t : FVec Ideal S256x1024 .bf16) (ix2 j k) = Vm m c j k := by
  unfold Vm
  blk_ext [iblk, V, idx t]

/-- What the host makes of the weights before the grid starts. -/
theorem entry_w : (V m c main_v2 : FVec Ideal S1024x1024 .bf16) = (truncf .bf16 (mulf (m ((c : Thread nD τ).loc main_arg1) : FVec Ideal S1024x1024 .f32)
      (broadcastInDim S1024x1024 ![] bcast_S_S1024x1024 (constant S_ .f32 0x3D800000#32))) bitsLt_bf16_f32 : FVec Ideal S1024x1024 .bf16)
    ∧ (V m c main_v3 : FVec Ideal S1024x1024 .bf16) = (truncf .bf16 (m ((c : Thread nD τ).loc main_arg4) : FVec Ideal S1024x1024 .f32) bitsLt_bf16_f32 : FVec Ideal S1024x1024 .bf16)
    ∧ (V m c main_v4 : FVec Ideal S1x1024 .f32) = shapeCast S1x1024 (m ((c : Thread nD τ).loc main_arg5) : FVec Ideal S1024 .f32) shapeCasts_S1024_S1x1024
    ∧ (V m c main_v5 : FVec Ideal S1x1024 .f32) = shapeCast S1x1024 (m ((c : Thread nD τ).loc main_arg6) : FVec Ideal S1024 .f32) shapeCasts_S1024_S1x1024 := by
  simp only [V, hostOps0, List.flatten_cons, List.flatten_nil, List.append_nil, List.cons_append, List.nil_append]
  refine ⟨?_, ?_, ?_, ?_⟩
  all_goals
    entry_read
    rfl

/-- The queries' weights at a point: scaled. -/
theorem wq (t : Fin cfg0.N) (i k : Fin 1024) : (iblk m c 1 t : FVec Ideal S1024x1024 .bf16) (ix2 i k) = Wq m c i k * Xattn.unit := by
  have e : (iblk m c 1 t : FVec Ideal S1024x1024 .bf16) (ix2 i k) = (V m c main_v2 : FVec Ideal S1024x1024 .bf16) (ix2 i k) := by
    blk_ext [iblk, idx t]
  rw [e, (entry_w m c).1]
  unfold Wq Xattn.unit
  pointwise

/-- The weights of the way out at a point. -/
theorem wo (t : Fin cfg0.N) (i k : Fin 1024) : (iblk m c 4 t : FVec Ideal S1024x1024 .bf16) (ix2 i k) = Wo m c i k := by
  have e : (iblk m c 4 t : FVec Ideal S1024x1024 .bf16) (ix2 i k) = (V m c main_v3 : FVec Ideal S1024x1024 .bf16) (ix2 i k) := by
    blk_ext [iblk, idx t]
  rw [e, (entry_w m c).2.1]
  rfl

/-- The norm's weights at a point. -/
theorem gn (t : Fin cfg0.N) (k : Fin 1024) : (iblk m c 5 t : FVec Ideal S1x1024 .f32) (ix2 0 k) = Gn m c k := by
  have e : (iblk m c 5 t : FVec Ideal S1x1024 .f32) (ix2 0 k) = (V m c main_v4 : FVec Ideal S1x1024 .f32) (ix2 0 k) := by
    blk_ext [iblk, idx t]
  rw [e, (entry_w m c).2.2.1]
  unfold Gn
  pointwise

/-- The norm's bias at a point. -/
theorem bn (t : Fin cfg0.N) (k : Fin 1024) : (iblk m c 6 t : FVec Ideal S1x1024 .f32) (ix2 0 k) = Bn m c k := by
  have e : (iblk m c 6 t : FVec Ideal S1x1024 .f32) (ix2 0 k) = (V m c main_v5 : FVec Ideal S1x1024 .f32) (ix2 0 k) := by
    blk_ext [iblk, idx t]
  rw [e, (entry_w m c).2.2.2]
  unfold Bn
  pointwise

/-- Head `h` of a memory block. -/
def cutM (p : Vec Ideal S256x1024 .bf16) : Fin 4 → Vec Ideal S256x256 .bf16
  | 0 => View.ld p r0_1
  | 1 => View.ld p r0_2
  | 2 => View.ld p r0_3
  | 3 => View.ld p r0_4

/-- An entry of head `h` of a memory block. -/
theorem cutM_at (p : Vec Ideal S256x1024 .bf16) (h : Fin 4) (j d : Fin 256) : cutM p h (ix2 j d) = p (ix2 j (Xattn.at_ h d)) := by
  have e : ∀ (i : S256x1024.Idx), (i 0).val = j.val → (i 1).val = h.val * 256 + d.val → i = ix2 j (Xattn.at_ h d) := by
    intro i e0 e1
    funext a
    match a with
    | ⟨0, _⟩ => exact Fin.ext e0
    | ⟨1, _⟩ => exact Fin.ext e1
  match h with
  | 0 => exact congrArg p (e _ (by change 0 + 1 * j.val = _; omega) (by change 0 + 1 * d.val = 0 * 256 + d.val; omega))
  | 1 => exact congrArg p (e _ (by change 0 + 1 * j.val = _; omega) (by change 256 + 1 * d.val = 1 * 256 + d.val; omega))
  | 2 => exact congrArg p (e _ (by change 0 + 1 * j.val = _; omega) (by change 512 + 1 * d.val = 2 * 256 + d.val; omega))
  | 3 => exact congrArg p (e _ (by change 0 + 1 * j.val = _; omega) (by change 768 + 1 * d.val = 3 * 256 + d.val; omega))

/-- What a point leaves in its block, in these terms. -/
theorem out_eq (x0 : Vec Ideal S1024x1024 .f32) (x1 : Vec Ideal S1024x1024 .bf16) (x2 x3 : Vec Ideal S256x1024 .bf16) (x4 : Vec Ideal S1024x1024 .bf16)
    (x5 x6 : Vec Ideal S1x1024 .f32) :
    out0_7 x0 x1 x2 x3 x4 x5 x6 = (k0_pay1 (F := Ideal) (k0_pay6 x0 (k0_pay2 x0 x1) (k0_pay3 x0 x1 (cutM x2 0) (cutM x3 0))
      (k0_pay4 x0 x1 (cutM x2 1) (cutM x3 1)) (k0_pay5 x0 x1) (cutM x2 2) (cutM x3 2) (cutM x2 3) (cutM x3 3) x4) x5 x6 : FVec Ideal S1024x1024 .f32) := by
  unfold cutM
  frame_out [out0_7]

/-- What a point leaves in its block. -/
theorem point (x0 : FVec Ideal S1024x1024 .f32) (x1 : FVec Ideal S1024x1024 .bf16) (x2 x3 : FVec Ideal S256x1024 .bf16) (x4 : FVec Ideal S1024x1024 .bf16)
    (x5 x6 : FVec Ideal S1x1024 .f32) (r k : Fin 1024) :
    out0_7 (F := Ideal) x0 x1 x2 x3 x4 x5 x6 (ix2 r k) = Dn.lnorm (fun l => Dn.alpha * x0 (ix2 r l) + ∑ i : Fin 1024, Xattn.side
      (fun h d => Xattn.out (Xattn.score (fun e => Xattn.query (fun i => x0 (ix2 r i)) (fun i e => x1 (ix2 i e)) (Xattn.at_ h e))
        fun l e => x2 (ix2 l (Xattn.at_ h e))) (fun l e => x3 (ix2 l (Xattn.at_ h e))) d) i * x4 (ix2 i l))
      (fun l => x5 (ix2 0 l)) (fun l => x6 (ix2 0 l)) k := by
  rw [out_eq]
  refine (XattnBody.norm_at _ _ _ r k).trans ?_
  simp only [XattnBody.sum_at, cutM_at]

/-- The result, once the grid has gone by. -/
theorem final (r : Fin 16384) (k : Fin 1024) : ((dats m 0 c).arrAt 7 cfg0.N : FVec Ideal S16384x1024 .f32) (ix2 r k)
    = Xattn.row (X m c r) (Wq m c) (Km m c) (Vm m c) (Wo m c) (Gn m c) (Bn m c) k := by
  have ht : r.val / 1024 < cfg0.N := lt_of_lt_of_eq (by omega) N_0.symm
  have hr : 1024 * (r.val / 1024) + r.val % 1024 < 16384 := by omega
  have b := congrFun (blocks7 m c ⟨r.val / 1024, ht⟩ (flush0_7 _)) (ix2 (⟨r.val % 1024, by omega⟩ : Fin 1024) k : S1024x1024.Idx)
  have e : ∀ A : FVec Ideal S16384x1024 .f32, (((cfg0.win 7).blk ⟨r.val / 1024, ht⟩).view.read (Elt Ideal) A : FVec Ideal S1024x1024 .f32)
      (ix2 (⟨r.val % 1024, by omega⟩ : Fin 1024) k) = A (ix2 r k) := by
    intro A
    blk_ext [idx ⟨r.val / 1024, ht⟩]
  have er : (⟨1024 * (r.val / 1024) + r.val % 1024, hr⟩ : Fin 16384) = r := Fin.ext (by dsimp only; omega)
  have ex : ∀ l : Fin 1024, (iblk m c 0 ⟨r.val / 1024, ht⟩ : FVec Ideal S1024x1024 .f32) (ix2 (⟨r.val % 1024, by omega⟩ : Fin 1024) l) = X m c r l :=
    fun l => (rows m c ⟨r.val / 1024, ht⟩ ⟨r.val % 1024, by omega⟩ l hr).trans (congrFun (congrArg (X m c) er) l)
  refine (e _).symm.trans (b.trans ?_)
  rw [flushed7]
  refine (point _ _ _ _ _ _ _ _ k).trans ?_
  unfold Xattn.row
  simp only [ex, wq, keys, vals, wo, gn, bn, Xattn.head_scaled]

end Cert.XattnFold

end
-- ==== Proof.XattnRefParts.lean ====
module

public import proofs.«01_k».proof.Proof.XattnSpec
public import proofs.«01_k».proof.Proof.DnRef
public import proofs.«01_k».proof.Proof.Gen.Reference3Ideal.Run

@[expose] public section

/-! The parts of the cross attention's reference, entry by entry. -/

set_option maxRecDepth 16384

noncomputable section

namespace Cert.XattnRef

open Idealize.ShloMosaic Idealize.ShloMosaic.TcCoe Idealize.SL.Sem
open Cert.Reference3Ideal Cert.Reference3Ideal.Gen Cert.Reference3Ideal.Value

variable (x : FVec Ideal S16384x1024 .f32) (w wo : FVec Ideal S1024x1024 .f32) (km vm : FVec Ideal S256x1024 .bf16)
  (g b : FVec Ideal S1024 .f32)

/-- The memory, head by head. -/
def memD : FVec Ideal S256x4x256 .f32 := shapeCast _ (extf .f32 km bitsLt_bf16_f32 : FVec Ideal S256x1024 .f32) shapeCasts_S256x1024_S256x4x256

/-- The queries, head by head. -/
def queryD : FVec Ideal S16384x4x256 .f32 :=
  shapeCast _ (Host.dotGeneral (φ₂ := .f32) dot_S16384x1024_S1024x1024_S16384x1024_1_0_0_1_n_n none x w) shapeCasts_S16384x1024_S16384x4x256

/-- The scores. -/
def scoreD : FVec Ideal S4x16384x256 .f32 :=
  mulf (Host.dotGeneral (φ₂ := .f32) dot_S16384x4x256_S256x4x256_S4x16384x256_2_2_0_0_1_1 none (queryD x w) (memD km))
    (broadcastInDim S4x16384x256 ![] bcast_S_S4x16384x256 (constant S_ .f32 0x3D800000#32))

/-- The largest of each row's scores. -/
def topD (s : FVec Ideal S4x16384x256 .f32) : FVec Ideal S4x16384 .f32 :=
  Host.reduce FloatOps.maximumf s (constant S_ .f32 0xFF800000#32) reducesTo_S4x16384x256_S4x16384_d2 h_S_

/-- The scores less `t`, or less the maximum's start where that is above, exponentiated. -/
def lessD (s : FVec Ideal S4x16384x256 .f32) (t : FVec Ideal S4x16384 .f32) : FVec Ideal S4x16384x256 .f32 :=
  Host.exp (subf s (broadcastInDim S4x16384x256 ![0, 1, 2] bcast_S4x16384x1_S4x16384x256_0_1_2
    (broadcastInDim S4x16384x1 ![0, 1] bcast_S4x16384_S4x16384x1_0_1
      (maximumf (broadcastInDim S4x16384 ![] bcast_S_S4x16384 (constant S_ .f32 0xFF800000#32)) t))))

/-- The scores less the largest of their row, exponentiated. -/
def expD (s : FVec Ideal S4x16384x256 .f32) : FVec Ideal S4x16384x256 .f32 := lessD s (topD s)

/-- The shares. -/
def softD (s : FVec Ideal S4x16384x256 .f32) : FVec Ideal S4x16384x256 .f32 :=
  Host.divf (expD s) (broadcastInDim S4x16384x256 ![0, 1, 2] bcast_S4x16384x1_S4x16384x256_0_1_2
    (broadcastInDim S4x16384x1 ![0, 1] bcast_S4x16384_S4x16384x1_0_1
      (Host.reduceAdd (expD s) (constant S_ .f32 0x00000000#32) reducesTo_S4x16384x256_S4x16384_d2 h_S_)))

/-- What the heads read out. -/
def outD (p : FVec Ideal S4x16384x256 .f32) : FVec Ideal S4x256x16384 .f32 :=
  Host.dotGeneral (φ₂ := .f32) dot_S256x4x256_S4x16384x256_S4x256x16384_0_2_2_1_1_0 none (memD vm) p

/-- The heads side by side. -/
def sideD (o : FVec Ideal S4x256x16384 .f32) : FVec Ideal S16384x1024 .f32 :=
  shapeCast _ (transpose S16384x4x256 [2, 0, 1] o transposes_S4x256x16384_S16384x4x256_2_0_1) shapeCasts_S16384x4x256_S16384x1024

/-- Residual and attention. -/
def sumD (o : FVec Ideal S16384x1024 .f32) : FVec Ideal S16384x1024 .f32 :=
  addf (mulf (broadcastInDim S16384x1024 ![] bcast_S_S16384x1024 (Host.sqrt (constant S_ .f32 0x40000000#32))) x)
    (Host.dotGeneral (φ₂ := .f32) dot_S16384x1024_S1024x1024_S16384x1024_1_0_0_1_n_n none o wo)

/-- A memory entry. -/
theorem memD_at (j : Fin 256) (h : Fin 4) (d : Fin 256) : memD km (ix3 j h d) = km (ix2 j (Xattn.at_ h d)) := by
  pointwise [memD]
  rfl

/-- A query entry. -/
theorem queryD_at (r : Fin 16384) (h : Fin 4) (d : Fin 256) :
    queryD x w (ix3 r h d) = Xattn.query (fun i => x (ix2 r i)) (fun i e => w (ix2 i e)) (Xattn.at_ h d) := by
  unfold Xattn.query
  pointwise [queryD]
  rfl

/-- A score. -/
theorem scoreD_at (h : Fin 4) (r : Fin 16384) (j : Fin 256) :
    scoreD x w km (ix3 h r j) = Xattn.score (fun e => Xattn.query (fun i => x (ix2 r i)) (fun i e => w (ix2 i e)) (Xattn.at_ h e))
      (fun l e => km (ix2 l (Xattn.at_ h e))) j * Xattn.unit := by
  unfold Xattn.score Xattn.unit
  simp only [← queryD_at, ← memD_at]
  pointwise [scoreD]

/-- The largest of a row's scores. -/
theorem topD_at (s : FVec Ideal S4x16384x256 .f32) (h : Fin 4) (r : Fin 16384) : topD s (ix2 h r) = Xattn.top fun l => s (ix3 h r l) := by
  unfold Xattn.top Xattn.low
  pointwise [topD]

/-- A score less `t`, exponentiated. -/
theorem lessD_at (s : FVec Ideal S4x16384x256 .f32) (t : FVec Ideal S4x16384 .f32) (h : Fin 4) (r : Fin 16384) (j : Fin 256) :
    lessD s t (ix3 h r j) = Ideal.exp (s (ix3 h r j) - max Xattn.low (t (ix2 h r))) := by
  unfold Xattn.low
  pointwise [lessD]

/-- A score less the largest, exponentiated. -/
theorem expD_at (s : FVec Ideal S4x16384x256 .f32) (h : Fin 4) (r : Fin 16384) (j : Fin 256) :
    expD s (ix3 h r j) = Ideal.exp (s (ix3 h r j) - Xattn.top fun l => s (ix3 h r l)) := by
  unfold expD
  rw [lessD_at, topD_at, Xattn.max_low]

/-- A share. -/
theorem softD_at (s : FVec Ideal S4x16384x256 .f32) (h : Fin 4) (r : Fin 16384) (j : Fin 256) :
    softD s (ix3 h r j) = Xattn.soft (fun l => s (ix3 h r l)) j := by
  unfold Xattn.soft
  simp only [← expD_at]
  pointwise [softD]

/-- What a head reads out. -/
theorem outD_at (p : FVec Ideal S4x16384x256 .f32) (h : Fin 4) (d : Fin 256) (r : Fin 16384) :
    outD vm p (ix3 h d r) = ∑ j : Fin 256, p (ix3 h r j) * vm (ix2 j (Xattn.at_ h d)) := by
  simp only [← memD_at, mul_comm (p _)]
  pointwise [outD]

/-- The heads side by side. -/
theorem sideD_at (o : FVec Ideal S4x256x16384 .f32) (r : Fin 16384) (k : Fin 1024) :
    sideD o (ix2 r k) = Xattn.side (fun h d => o (ix3 h d r)) k := by
  unfold Xattn.side
  pointwise [sideD]

/-- Residual and attention. -/
theorem sumD_at (o : FVec Ideal S16384x1024 .f32) (r : Fin 16384) (k : Fin 1024) :
    sumD x wo o (ix2 r k) = Dn.alpha * x (ix2 r k) + ∑ i : Fin 1024, o (ix2 r i) * wo (ix2 i k) := by
  rw [← Dn.sqrt_two]
  pointwise [sumD]

end Cert.XattnRef

end
-- ==== Proof.XattnRef.lean ====
module

public import proofs.«01_k».proof.Proof.XattnRefParts
public import proofs.«01_k».proof.Proof.DnRef

@[expose] public section

/-! What the cross attention's reference computes, entry by entry. -/

set_option maxRecDepth 16384

noncomputable section

namespace Cert.XattnRef

open Idealize.ShloMosaic Idealize.ShloMosaic.TcCoe Idealize.SL.Sem
open Cert.Reference3Ideal Cert.Reference3Ideal.Gen Cert.Reference3Ideal.Value

variable (x : FVec Ideal S16384x1024 .f32) (w wo : FVec Ideal S1024x1024 .f32) (km vm : FVec Ideal S256x1024 .bf16)
  (g b : FVec Ideal S1024 .f32)

/-- The reference's result in these terms. -/
theorem result_eq (m : (ℓ : Loc nD τ sig) → Buf (Elt Ideal) ℓ) (c : Dev nD) :
    res_main_v51 (F := Ideal) m c = DnRef.normD (sumD (m ((c.tc : Thread nD τ).loc main_arg0)) (m ((c.tc : Thread nD τ).loc main_arg4))
      (sideD (outD (m ((c.tc : Thread nD τ).loc main_arg3)) (softD (scoreD (m ((c.tc : Thread nD τ).loc main_arg0)) (m ((c.tc : Thread nD τ).loc main_arg1))
        (m ((c.tc : Thread nD τ).loc main_arg2))))))) (m ((c.tc : Thread nD τ).loc main_arg5))
      (m ((c.tc : Thread nD τ).loc main_arg6)) := by
  unfold res_main_v51 DnRef.normD sumD sideD outD softD expD lessD topD scoreD queryD memD
  rfl

/-- The reference's result at an entry. -/
theorem result_at (r : Fin 16384) (k : Fin 1024) :
    DnRef.normD (sumD x wo (sideD (outD vm (softD (scoreD x w km))))) g b (ix2 r k)
      = Xattn.row (fun i => x (ix2 r i)) (fun i e => w (ix2 i e)) (fun j e => km (ix2 j e)) (fun j e => vm (ix2 j e))
          (fun i e => wo (ix2 i e)) (fun l => g (ix1 l)) (fun l => b (ix1 l)) k := by
  unfold Xattn.row
  rw [DnRef.normD_at]
  simp only [sumD_at, sideD_at, outD_at, softD_at, scoreD_at]
  rfl

end Cert.XattnRef

end
-- ==== Proof.XattnClaim.lean ====
module

public import proofs.«01_k».proof.Defs
public import proofs.«01_k».proof.Proof.XattnFold
public import proofs.«01_k».proof.Proof.XattnRef
public import Idealize.ShloMosaic.Lib.Claim

@[expose] public section

/-! The two programs of the cross attention end with equal results: both are `Xattn.row` of the arguments. -/

set_option maxRecDepth 16384

noncomputable section

namespace Cert.XattnClaim

open Idealize.ShloMosaic Idealize.ShloMosaic.TcCoe Idealize.SL.Sem

/-- The reference's frame: its run leaves the arguments as they were, and it has no semaphore. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The named constant is the root of two. -/
theorem preserves : Cert.preserves_Kernel3_Kernel3Ideal :=
  IdealRules.named_const.statement Cert.Kernel3Ideal.κ "alpha" .f32 0x3FB504F3#32 ((Real.sqrt 2 : ℝ) : EReal) rfl

/-- The two programs compute the same. -/
theorem algebraic : Cert.algebraic_Kernel3Ideal_Reference3Ideal := by
  intro m ρ m' ρ' _ hagree
  refine ⟨fun c => (Cert.Kernel3Ideal.Gen.dats m 0 c).arrAt 7 Cert.Kernel3Ideal.cfg0.N, Cert.Kernel3Ideal.Value.run_blocks m ρ, ?_⟩
  refine (θ_run _ _ _).mono (fun _ h c => ⟨(h c).1.trans ?_, (h c).2⟩) (Cert.Reference3Ideal.Value.run (F := Ideal) m' ρ')
  obtain ⟨h0, h1, h2, h3, h4, h5, h6⟩ := hagree c
  rw [XattnRef.result_eq, h0, h1, h2, h3, h4, h5, h6]
  funext y
  obtain ⟨r, k, rfl⟩ : ∃ (r : Fin 16384) (k : Fin 1024), y = ix2 r k := ⟨y 0, y 1, eq_ix2 y⟩
  exact (XattnRef.result_at _ _ _ _ _ _ _ r k).trans (XattnFold.final m c r k).symm

end Cert.XattnClaim

end
-- ==== Proof.MmSpec.lean ====
module

public import Idealize.ShloMosaic.Lib.Pointwise

@[expose] public section

/-! The products of a projection, written entry by entry. -/

set_option maxRecDepth 16384

noncomputable section

namespace Cert.Mm

open Idealize.ShloMosaic

/-- The product of a row of 1024 entries and column `k` of the weights. -/
def dot {n : ℕ} (x : Fin 1024 → EReal) (w : Fin 1024 → Fin n → EReal) (k : Fin n) : EReal := ∑ i : Fin 1024, x i * w i k

/-- The products with the first `p` columns, and zeros behind them. -/
def padded {n : ℕ} (p : ℕ) (hp : p ≤ n) (x : Fin 1024 → EReal) (w : Fin 1024 → Fin n → EReal) (k : ℕ) : EReal :=
  if h : k < p then dot x w ⟨k, lt_of_lt_of_le h hp⟩ else 0

/-- Products with weights that have been padded with zero columns. -/
theorem padded_sum {n : ℕ} (p : ℕ) (hp : p ≤ n) (x : Fin 1024 → EReal) (w : Fin 1024 → Fin n → EReal) (k : ℕ) :
    ∑ i : Fin 1024, x i * (if h : k < p then w i ⟨k, lt_of_lt_of_le h hp⟩ else (0 : EReal)) = padded p hp x w k := by
  unfold padded dot
  by_cases h : k < p
  · simp only [dif_pos h]
  · simp only [dif_neg h, mul_zero, Finset.sum_const_zero]

end Cert.Mm

end
-- ==== Proof.SsdInClaim.lean ====
module

public import proofs.«01_k».proof.Defs
public import proofs.«01_k».proof.Proof.MmSpec
public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

/-! The projections into the state-space scan: both programs end with the products of the rows and the weights' first 2576 columns, and zeros behind them. -/

set_option maxRecDepth 16384

noncomputable section

namespace Cert.SsdInClaim

open Idealize.ShloMosaic Idealize.ShloMosaic.TcCoe Idealize.SL.Sem

section
open Cert.Kernel4Ideal Cert.Kernel4Ideal.Gen Cert.Kernel4Ideal.Value

variable (m : (ℓ : Loc nD τ sig) → Buf (Elt Ideal) ℓ) (c : Dev nD)

/-- The rows. -/
def X : Fin 16384 → Fin 1024 → EReal := fun r k => (m ((c : Thread nD τ).loc main_arg0) : FVec Ideal S16384x1024 .f32) (ix2 r k)
/-- The weights. -/
def W : Fin 1024 → Fin 4112 → EReal := fun i k => (m ((c : Thread nD τ).loc main_arg1) : FVec Ideal S1024x4112 .f32) (ix2 i k)

/-- The blocks of the windows at each point. -/
theorem idx : ∀ t : Fin cfg0.N, win0_0.index t = ![t.val, 0] ∧ win0_1.index t = ![0, 0] ∧ win0_2.index t = ![t.val, 0] :=
  (by decide +kernel : ∀ t : Fin grid0.N, _)

/-- Row `r` of the rows' block. -/
theorem rows (t : Fin cfg0.N) (r k : Fin 1024) (h : 1024 * t.val + r.val < 16384) :
    (iblk m c 0 t : FVec Ideal S1024x1024 .f32) (ix2 r k) = X m c ⟨1024 * t.val + r.val, h⟩ k := by
  unfold X
  blk_ext [iblk, V, idx t]

/-- What the host makes of the weights before the grid starts. -/
theorem entry : (V m c main_v2 : FVec Ideal S1024x2688 .bf16) = (truncf .bf16 (pad S1024x2688 ![0, 0] ![0, 112] ![0, 0]
    (extractStridedSlice S1024x2576 ![0, 0] (m ((c : Thread nD τ).loc main_arg1) : FVec Ideal S1024x4112 .f32) slices_S1024x4112_S1024x2576_0_0)
    (sitofp .f32 (constantI S_ 32 0#32) : FVec Ideal S_ .f32) pads_S1024x2576_S1024x2688_000_01120 h_S_ : FVec Ideal S1024x2688 .f32) bitsLt_bf16_f32 : FVec Ideal S1024x2688 .bf16) := by
  simp only [V, hostOps0, hostOps0_1, hostOps0_2, List.flatten_cons, List.flatten_nil, List.append_nil, List.cons_append, List.nil_append]
  entry_read
  rfl

/-- The weights at a point: zero in the last columns. -/
theorem weights (t : Fin cfg0.N) (i : Fin 1024) (k : Fin 2688) :
    (iblk m c 1 t : FVec Ideal S1024x2688 .bf16) (ix2 i k) = if h : k.val < 2576 then W m c i ⟨k.val, lt_of_lt_of_le h (by omega)⟩ else (0 : EReal) := by
  have e : (iblk m c 1 t : FVec Ideal S1024x2688 .bf16) (ix2 i k) = (V m c main_v2 : FVec Ideal S1024x2688 .bf16) (ix2 i k) := by
    blk_ext [iblk, idx t]
  rw [e, entry]
  unfold W
  pointwise
  by_cases h : k.val < 2576
  · rw [dif_pos h, dif_pos h]
  · rw [dif_neg h, dif_neg h]
    change (((0#32 : BitVec 32).toInt : ℝ) : EReal) = 0
    simp

/-- What a point leaves in its block. -/
theorem point (x : FVec Ideal S1024x1024 .f32) (w : FVec Ideal S1024x2688 .bf16) (r : Fin 1024) (k : Fin 2688) :
    out0_2 (F := Ideal) x w (ix2 r k) = ∑ i : Fin 1024, x (ix2 r i) * w (ix2 i k) := by
  have o : out0_2 (F := Ideal) x w = k0_pay1 (F := Ideal) x w := by
    frame_out [out0_2]
  rw [o]
  pointwise [k0_pay1]

/-- The result, once the grid has gone by. -/
theorem final (r : Fin 16384) (k : Fin 2688) : ((dats m 0 c).arrAt 2 cfg0.N : FVec Ideal S16384x2688 .f32) (ix2 r k)
    = Mm.padded 2576 (by norm_num) (X m c r) (W m c) k.val := by
  have ht : r.val / 1024 < cfg0.N := lt_of_lt_of_eq (by omega) N_0.symm
  have hr : 1024 * (r.val / 1024) + r.val % 1024 < 16384 := by omega
  have b := congrFun (blocks2 m c ⟨r.val / 1024, ht⟩ (flush0_2 _)) (ix2 (⟨r.val % 1024, by omega⟩ : Fin 1024) k : S1024x2688.Idx)
  have e : ∀ A : FVec Ideal S16384x2688 .f32, (((cfg0.win 2).blk ⟨r.val / 1024, ht⟩).view.read (Elt Ideal) A : FVec Ideal S1024x2688 .f32)
      (ix2 (⟨r.val % 1024, by omega⟩ : Fin 1024) k) = A (ix2 r k) := by
    intro A
    blk_ext [idx ⟨r.val / 1024, ht⟩]
  have er : (⟨1024 * (r.val / 1024) + r.val % 1024, hr⟩ : Fin 16384) = r := Fin.ext (by dsimp only; omega)
  have ex : ∀ l : Fin 1024, (iblk m c 0 ⟨r.val / 1024, ht⟩ : FVec Ideal S1024x1024 .f32) (ix2 (⟨r.val % 1024, by omega⟩ : Fin 1024) l) = X m c r l :=
    fun l => (rows m c ⟨r.val / 1024, ht⟩ ⟨r.val % 1024, by omega⟩ l hr).trans (congrFun (congrArg (X m c) er) l)
  refine (e _).symm.trans (b.trans ?_)
  rw [flushed2]
  refine (point _ _ _ k).trans ?_
  simp only [ex, weights]
  exact Mm.padded_sum 2576 (by norm_num) (X m c r) (W m c) k.val

end

/-- The reference's frame: its run leaves the arguments as they were, and it has no semaphore. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

section
open Cert.Reference4Ideal Cert.Reference4Ideal.Gen

/-- The reference's result at an entry. -/
theorem result_at (x : FVec Ideal S16384x1024 .f32) (w : FVec Ideal S1024x4112 .f32) (r : Fin 16384) (k : Fin 2688) :
    pad S16384x2688 ![0, 0] ![0, 112] ![0, 0] (extractStridedSlice S16384x2576 ![0, 0]
      (Host.dotGeneral dot_S16384x1024_S1024x4112_S16384x4112_1_0_0_1_n_n none x w : FVec Ideal S16384x4112 .f32) slices_S16384x4112_S16384x2576_0_0)
      (sitofp .f32 (constantI S_ 32 0#32) : FVec Ideal S_ .f32) pads_S16384x2576_S16384x2688_000_01120 h_S_ (ix2 r k)
      = Mm.padded 2576 (by norm_num) (fun i => x (ix2 r i)) (fun i l => w (ix2 i l)) k.val := by
  unfold Mm.padded Mm.dot
  pointwise
  by_cases h : k.val < 2576
  · rw [dif_pos h, dif_pos h]
  · rw [dif_neg h, dif_neg h]
    change (((0#32 : BitVec 32).toInt : ℝ) : EReal) = 0
    simp

end

/-- The two programs compute the same. -/
theorem algebraic : Cert.algebraic_Kernel4Ideal_Reference4Ideal := by
  intro m ρ m' ρ' _ hagree
  refine ⟨fun c => (Cert.Kernel4Ideal.Gen.dats m 0 c).arrAt 2 Cert.Kernel4Ideal.cfg0.N, Cert.Kernel4Ideal.Value.run_blocks m ρ, ?_⟩
  refine (θ_run _ _ _).mono (fun _ h c => ⟨(h c).1.trans ?_, (h c).2⟩) (Cert.Reference4Ideal.Value.run (F := Ideal) m' ρ')
  obtain ⟨h0, h1⟩ := hagree c
  rw [h0, h1]
  funext y
  obtain ⟨r, k, rfl⟩ : ∃ (r : Fin 16384) (k : Fin 2688), y = ix2 r k := ⟨y 0, y 1, eq_ix2 y⟩
  exact (result_at _ _ r k).trans (final m c r k).symm

end Cert.SsdInClaim

end
-- ==== Proof.RwkvInClaim.lean ====
module

public import proofs.«01_k».proof.Defs
public import proofs.«01_k».proof.Proof.MmSpec
public import proofs.«01_k».proof.Proof.Gen.Kernel5Ideal.Value
public import proofs.«01_k».proof.Proof.Gen.Reference5Ideal.Run
public import Idealize.ShloMosaic.Lib.Pipeline.ValueKit
public import Idealize.ShloMosaic.Lib.Claim

@[expose] public section

/-! The projections into the RWKV: both programs end with the products of the rows and the weights' columns from 1552 on. -/

set_option maxRecDepth 16384

noncomputable section

namespace Cert.RwkvInClaim

open Idealize.ShloMosaic Idealize.ShloMosaic.TcCoe Idealize.SL.Sem

section
open Cert.Kernel5Ideal Cert.Kernel5Ideal.Gen Cert.Kernel5Ideal.Value

variable (m : (ℓ : Loc nD τ sig) → Buf (Elt Ideal) ℓ) (c : Dev nD)

/-- The rows. -/
def X : Fin 16384 → Fin 1024 → EReal := fun r k => (m ((c : Thread nD τ).loc main_arg0) : FVec Ideal S16384x1024 .f32) (ix2 r k)
/-- The weights. -/
def W : Fin 1024 → Fin 3344 → EReal := fun i k => (m ((c : Thread nD τ).loc main_arg1) : FVec Ideal S1024x3344 .f32) (ix2 i k)

/-- The blocks of the windows at each point. -/
theorem idx : ∀ t : Fin cfg0.N, win0_0.index t = ![t.val, 0] ∧ win0_1.index t = ![0, 0] ∧ win0_2.index t = ![t.val, 0] :=
  (by decide +kernel : ∀ t : Fin grid0.N, _)

/-- Row `r` of the rows' block. -/
theorem rows (t : Fin cfg0.N) (r k : Fin 1024) (h : 1024 * t.val + r.val < 16384) :
    (iblk m c 0 t : FVec Ideal S1024x1024 .f32) (ix2 r k) = X m c ⟨1024 * t.val + r.val, h⟩ k := by
  unfold X
  blk_ext [iblk, V, idx t]

/-- What the host makes of the weights before the grid starts. -/
theorem entry : (V m c main_v1 : FVec Ideal S1024x1792 .bf16) = (truncf .bf16 (extractStridedSlice S1024x1792 ![0, 1552]
    (m ((c : Thread nD τ).loc main_arg1) : FVec Ideal S1024x3344 .f32) slices_S1024x3344_S1024x1792_0_1552) bitsLt_bf16_f32 : FVec Ideal S1024x1792 .bf16) := by
  simp only [V, hostOps0, List.flatten_cons, List.flatten_nil, List.append_nil, List.cons_append, List.nil_append]
  entry_read
  rfl

/-- The weights at a point. -/
theorem weights (t : Fin cfg0.N) (i : Fin 1024) (k : Fin 1792) :
    (iblk m c 1 t : FVec Ideal S1024x1792 .bf16) (ix2 i k) = W m c i ⟨1552 + k.val, by omega⟩ := by
  have e : (iblk m c 1 t : FVec Ideal S1024x1792 .bf16) (ix2 i k) = (V m c main_v1 : FVec Ideal S1024x1792 .bf16) (ix2 i k) := by
    blk_ext [iblk, idx t]
  rw [e, entry]
  unfold W
  pointwise

/-- What a point leaves in its block. -/
theorem point (x : FVec Ideal S1024x1024 .f32) (w : FVec Ideal S1024x1792 .bf16) (r : Fin 1024) (k : Fin 1792) :
    out0_2 (F := Ideal) x w (ix2 r k) = ∑ i : Fin 1024, x (ix2 r i) * w (ix2 i k) := by
  have o : out0_2 (F := Ideal) x w = k0_pay1 (F := Ideal) x w := by
    frame_out [out0_2]
  rw [o]
  pointwise [k0_pay1]

/-- The result, once the grid has gone by. -/
theorem final (r : Fin 16384) (k : Fin 1792) : ((dats m 0 c).arrAt 2 cfg0.N : FVec Ideal S16384x1792 .f32) (ix2 r k)
    = Mm.dot (X m c r) (W m c) ⟨1552 + k.val, by omega⟩ := by
  have ht : r.val / 1024 < cfg0.N := lt_of_lt_of_eq (by omega) N_0.symm
  have hr : 1024 * (r.val / 1024) + r.val % 1024 < 16384 := by omega
  have b := congrFun (blocks2 m c ⟨r.val / 1024, ht⟩ (flush0_2 _)) (ix2 (⟨r.val % 1024, by omega⟩ : Fin 1024) k : S1024x1792.Idx)
  have e : ∀ A : FVec Ideal S16384x1792 .f32, (((cfg0.win 2).blk ⟨r.val / 1024, ht⟩).view.read (Elt Ideal) A : FVec Ideal S1024x1792 .f32)
      (ix2 (⟨r.val % 1024, by omega⟩ : Fin 1024) k) = A (ix2 r k) := by
    intro A
    blk_ext [idx ⟨r.val / 1024, ht⟩]
  have er : (⟨1024 * (r.val / 1024) + r.val % 1024, hr⟩ : Fin 16384) = r := Fin.ext (by dsimp only; omega)
  have ex : ∀ l : Fin 1024, (iblk m c 0 ⟨r.val / 1024, ht⟩ : FVec Ideal S1024x1024 .f32) (ix2 (⟨r.val % 1024, by omega⟩ : Fin 1024) l) = X m c r l :=
    fun l => (rows m c ⟨r.val / 1024, ht⟩ ⟨r.val % 1024, by omega⟩ l hr).trans (congrFun (congrArg (X m c) er) l)
  refine (e _).symm.trans (b.trans ?_)
  rw [flushed2]
  refine (point _ _ _ k).trans ?_
  simp only [ex, weights]
  rfl

end

/-- The reference's frame: its run leaves the arguments as they were, and it has no semaphore. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

section
open Cert.Reference5Ideal Cert.Reference5Ideal.Gen

/-- The reference's result at an entry. -/
theorem result_at (x : FVec Ideal S16384x1024 .f32) (w : FVec Ideal S1024x3344 .f32) (r : Fin 16384) (k : Fin 1792) :
    extractStridedSlice S16384x1792 ![0, 1552] (Host.dotGeneral dot_S16384x1024_S1024x3344_S16384x3344_1_0_0_1_n_n none x w : FVec Ideal S16384x3344 .f32)
      slices_S16384x3344_S16384x1792_0_1552 (ix2 r k) = Mm.dot (fun i => x (ix2 r i)) (fun i l => w (ix2 i l)) ⟨1552 + k.val, by omega⟩ := by
  unfold Mm.dot
  pointwise

end

/-- The two programs compute the same. -/
theorem algebraic : Cert.algebraic_Kernel5Ideal_Reference5Ideal := by
  intro m ρ m' ρ' _ hagree
  refine ⟨fun c => (Cert.Kernel5Ideal.Gen.dats m 0 c).arrAt 2 Cert.Kernel5Ideal.cfg0.N, Cert.Kernel5Ideal.Value.run_blocks m ρ, ?_⟩
  refine (θ_run _ _ _).mono (fun _ h c => ⟨(h c).1.trans ?_, (h c).2⟩) (Cert.Reference5Ideal.Value.run (F := Ideal) m' ρ')
  obtain ⟨h0, h1⟩ := hagree c
  rw [h0, h1]
  funext y
  obtain ⟨r, k, rfl⟩ : ∃ (r : Fin 16384) (k : Fin 1792), y = ix2 r k := ⟨y 0, y 1, eq_ix2 y⟩
  exact (result_at _ _ r k).trans (final m c r k).symm

end Cert.RwkvInClaim

end
-- ==== Proof.GlaInClaim.lean ====
module

public import proofs.«01_k».proof.Defs
public import proofs.«01_k».proof.Proof.MmSpec
public import proofs.«01_k».proof.Proof.Gen.Kernel6Ideal.Value
public import proofs.«01_k».proof.Proof.Gen.Reference6Ideal.Run
public import Idealize.ShloMosaic.Lib.Pipeline.ValueKit
public import Idealize.ShloMosaic.Lib.Claim

@[expose] public section

/-! The projections into the gated linear attention: both programs end with the products of the rows and the weights' first 1552 columns, and zeros
    behind them. -/

set_option maxRecDepth 16384

noncomputable section

namespace Cert.GlaInClaim

open Idealize.ShloMosaic Idealize.ShloMosaic.TcCoe Idealize.SL.Sem

section
open Cert.Kernel6Ideal Cert.Kernel6Ideal.Gen Cert.Kernel6Ideal.Value

variable (m : (ℓ : Loc nD τ sig) → Buf (Elt Ideal) ℓ) (c : Dev nD)

/-- The rows. -/
def X : Fin 16384 → Fin 1024 → EReal := fun r k => (m ((c : Thread nD τ).loc main_arg0) : FVec Ideal S16384x1024 .f32) (ix2 r k)
/-- The weights. -/
def W : Fin 1024 → Fin 3344 → EReal := fun i k => (m ((c : Thread nD τ).loc main_arg1) : FVec Ideal S1024x3344 .f32) (ix2 i k)

/-- The blocks of the windows at each point. -/
theorem idx : ∀ t : Fin cfg0.N, win0_0.index t = ![t.val, 0] ∧ win0_1.index t = ![0, 0] ∧ win0_2.index t = ![t.val, 0] :=
  (by decide +kernel : ∀ t : Fin grid0.N, _)

/-- Row `r` of the rows' block. -/
theorem rows (t : Fin cfg0.N) (r k : Fin 1024) (h : 1024 * t.val + r.val < 16384) :
    (iblk m c 0 t : FVec Ideal S1024x1024 .f32) (ix2 r k) = X m c ⟨1024 * t.val + r.val, h⟩ k := by
  unfold X
  blk_ext [iblk, V, idx t]

/-- What the host makes of the weights before the grid starts. -/
theorem entry : (V m c main_v2 : FVec Ideal S1024x1664 .bf16) = (truncf .bf16 (pad S1024x1664 ![0, 0] ![0, 112] ![0, 0]
    (extractStridedSlice S1024x1552 ![0, 0] (m ((c : Thread nD τ).loc main_arg1) : FVec Ideal S1024x3344 .f32) slices_S1024x3344_S1024x1552_0_0)
    (sitofp .f32 (constantI S_ 32 0#32) : FVec Ideal S_ .f32) pads_S1024x1552_S1024x1664_000_01120 h_S_ : FVec Ideal S1024x1664 .f32) bitsLt_bf16_f32 : FVec Ideal S1024x1664 .bf16) := by
  simp only [V, hostOps0, hostOps0_1, hostOps0_2, List.flatten_cons, List.flatten_nil, List.append_nil, List.cons_append, List.nil_append]
  entry_read
  rfl

/-- The weights at a point: zero in the last columns. -/
theorem weights (t : Fin cfg0.N) (i : Fin 1024) (k : Fin 1664) :
    (iblk m c 1 t : FVec Ideal S1024x1664 .bf16) (ix2 i k) = if h : k.val < 1552 then W m c i ⟨k.val, lt_of_lt_of_le h (by omega)⟩ else (0 : EReal) := by
  have e : (iblk m c 1 t : FVec Ideal S1024x1664 .bf16) (ix2 i k) = (V m c main_v2 : FVec Ideal S1024x1664 .bf16) (ix2 i k) := by
    blk_ext [iblk, idx t]
  rw [e, entry]
  unfold W
  pointwise
  by_cases h : k.val < 1552
  · rw [dif_pos h, dif_pos h]
  · rw [dif_neg h, dif_neg h]
    change (((0#32 : BitVec 32).toInt : ℝ) : EReal) = 0
    simp

/-- What a point leaves in its block. -/
theorem point (x : FVec Ideal S1024x1024 .f32) (w : FVec Ideal S1024x1664 .bf16) (r : Fin 1024) (k : Fin 1664) :
    out0_2 (F := Ideal) x w (ix2 r k) = ∑ i : Fin 1024, x (ix2 r i) * w (ix2 i k) := by
  have o : out0_2 (F := Ideal) x w = k0_pay1 (F := Ideal) x w := by
    frame_out [out0_2]
  rw [o]
  pointwise [k0_pay1]

/-- The result, once the grid has gone by. -/
theorem final (r : Fin 16384) (k : Fin 1664) : ((dats m 0 c).arrAt 2 cfg0.N : FVec Ideal S16384x1664 .f32) (ix2 r k)
    = Mm.padded 1552 (by norm_num) (X m c r) (W m c) k.val := by
  have ht : r.val / 1024 < cfg0.N := lt_of_lt_of_eq (by omega) N_0.symm
  have hr : 1024 * (r.val / 1024) + r.val % 1024 < 16384 := by omega
  have b := congrFun (blocks2 m c ⟨r.val / 1024, ht⟩ (flush0_2 _)) (ix2 (⟨r.val % 1024, by omega⟩ : Fin 1024) k : S1024x1664.Idx)
  have e : ∀ A : FVec Ideal S16384x1664 .f32, (((cfg0.win 2).blk ⟨r.val / 1024, ht⟩).view.read (Elt Ideal) A : FVec Ideal S1024x1664 .f32)
      (ix2 (⟨r.val % 1024, by omega⟩ : Fin 1024) k) = A (ix2 r k) := by
    intro A
    blk_ext [idx ⟨r.val / 1024, ht⟩]
  have er : (⟨1024 * (r.val / 1024) + r.val % 1024, hr⟩ : Fin 16384) = r := Fin.ext (by dsimp only; omega)
  have ex : ∀ l : Fin 1024, (iblk m c 0 ⟨r.val / 1024, ht⟩ : FVec Ideal S1024x1024 .f32) (ix2 (⟨r.val % 1024, by omega⟩ : Fin 1024) l) = X m c r l :=
    fun l => (rows m c ⟨r.val / 1024, ht⟩ ⟨r.val % 1024, by omega⟩ l hr).trans (congrFun (congrArg (X m c) er) l)
  refine (e _).symm.trans (b.trans ?_)
  rw [flushed2]
  refine (point _ _ _ k).trans ?_
  simp only [ex, weights]
  exact Mm.padded_sum 1552 (by norm_num) (X m c r) (W m c) k.val

end

/-- The reference's frame: its run leaves the arguments as they were, and it has no semaphore. -/
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

section
open Cert.Reference6Ideal Cert.Reference6Ideal.Gen

/-- The reference's result at an entry. -/
theorem result_at (x : FVec Ideal S16384x1024 .f32) (w : FVec Ideal S1024x3344 .f32) (r : Fin 16384) (k : Fin 1664) :
    pad S16384x1664 ![0, 0] ![0, 112] ![0, 0] (extractStridedSlice S16384x1552 ![0, 0]
      (Host.dotGeneral dot_S16384x1024_S1024x3344_S16384x3344_1_0_0_1_n_n none x w : FVec Ideal S16384x3344 .f32) slices_S16384x3344_S16384x1552_0_0)
      (sitofp .f32 (constantI S_ 32 0#32) : FVec Ideal S_ .f32) pads_S16384x1552_S16384x1664_000_01120 h_S_ (ix2 r k)
      = Mm.padded 1552 (by norm_num) (fun i => x (ix2 r i)) (fun i l => w (ix2 i l)) k.val := by
  unfold Mm.padded Mm.dot
  pointwise
  by_cases h : k.val < 1552
  · rw [dif_pos h, dif_pos h]
  · rw [dif_neg h, dif_neg h]
    change (((0#32 : BitVec 32).toInt : ℝ) : EReal) = 0
    simp

end

/-- The two programs compute the same. -/
theorem algebraic : Cert.algebraic_Kernel6Ideal_Reference6Ideal := by
  intro m ρ m' ρ' _ hagree
  refine ⟨fun c => (Cert.Kernel6Ideal.Gen.dats m 0 c).arrAt 2 Cert.Kernel6Ideal.cfg0.N, Cert.Kernel6Ideal.Value.run_blocks m ρ, ?_⟩
  refine (θ_run _ _ _).mono (fun _ h c => ⟨(h c).1.trans ?_, (h c).2⟩) (Cert.Reference6Ideal.Value.run (F := Ideal) m' ρ')
  obtain ⟨h0, h1⟩ := hagree c
  rw [h0, h1]
  funext y
  obtain ⟨r, k, rfl⟩ : ∃ (r : Fin 16384) (k : Fin 1664), y = ix2 r k := ⟨y 0, y 1, eq_ix2 y⟩
  exact (result_at _ _ r k).trans (final m c r k).symm

end Cert.GlaInClaim

end
-- ==== Proof.OutSpec.lean ====
module

public import proofs.«01_k».proof.Proof.DnSpec

@[expose] public section

/-! The way out of a mixing part, written entry by entry: two halves times their weights, the residual, the norm. -/

set_option maxRecDepth 16384

noncomputable section

namespace Cert.Out

open Idealize.ShloMosaic

/-- Column `l` of the residual `x` and the products of `a` with the upper rows of `w` and of `b` with the lower. -/
def total {p n : ℕ} (hp : p + 512 = n) (x : Fin 1024 → EReal) (a : Fin p → EReal) (b : Fin 512 → EReal) (w : Fin n → Fin 1024 → EReal) (l : Fin 1024) : EReal :=
  Dn.alpha * x l + ∑ i : Fin p, a i * w ⟨i.val, by omega⟩ l + ∑ i : Fin 512, b i * w ⟨p + i.val, by omega⟩ l

/-- A row of the result at column `k`. -/
def row {p n : ℕ} (hp : p + 512 = n) (x : Fin 1024 → EReal) (a : Fin p → EReal) (b : Fin 512 → EReal) (w : Fin n → Fin 1024 → EReal)
    (g h : Fin 1024 → EReal) (k : Fin 1024) : EReal := Dn.lnorm (total hp x a b w) g h k

/-- One sum over all rows of the weights comes apart into the upper and the lower. -/
theorem total_of_sum {p n : ℕ} (hp : p + 512 = n) (x : Fin 1024 → EReal) (a : Fin p → EReal) (b : Fin 512 → EReal) (w : Fin n → Fin 1024 → EReal) (l : Fin 1024)
    (u : Fin n → EReal) (hu : ∀ i : Fin p, u ⟨i.val, by omega⟩ = a i) (hv : ∀ i : Fin 512, u ⟨p + i.val, by omega⟩ = b i) :
    Dn.alpha * x l + ∑ i : Fin n, u i * w i l = total hp x a b w l := by
  subst hp
  unfold total
  rw [add_assoc, Fin.sum_univ_add]
  simp only [← hu, ← hv]
  rfl

end Cert.Out

end
-- ==== Proof.OutAClaim.lean ====
module

public import proofs.«01_k».proof.Defs
public import proofs.«01_k».proof.Proof.OutSpec
public import proofs.«01_k».proof.Proof.DnRef
public import proofs.«01_k».proof.Proof.Gen.Kernel7Ideal.Value
public import proofs.«01_k».proof.Proof.Gen.Reference7Ideal.Run
public import Idealize.ShloMosaic.Lib.Pipeline.ValueKit
public import Idealize.ShloMosaic.Lib.Claim

@[expose] public section

/-! The way out of layer 0's mixing part: both programs end with `Out.row` of the arguments; both halves come as rows. -/

set_option maxRecDepth 16384

noncomputable section

namespace Cert.OutAClaim

open Idealize.ShloMosaic Idealize.ShloMosaic.TcCoe Idealize.SL.Sem

section
open Cert.Kernel7Ideal Cert.Kernel7Ideal.Gen Cert.Kernel7Ideal.Value

variable (m : (ℓ : Loc nD τ sig) → Buf (Elt Ideal) ℓ) (c : Dev nD)

/-- The first half. -/
def A : Fin 16384 → Fin 512 → EReal := fun r i => (m ((c : Thread nD τ).loc main_arg0) : FVec Ideal S16384x512 .bf16) (ix2 r i)
/-- The second half. -/
def B : Fin 16384 → Fin 512 → EReal := fun r i => (m ((c : Thread nD τ).loc main_arg1) : FVec Ideal S16384x512 .bf16) (ix2 r i)
/-- The residual. -/
def X : Fin 16384 → Fin 1024 → EReal := fun r k => (m ((c : Thread nD τ).loc main_arg2) : FVec Ideal S16384x1024 .f32) (ix2 r k)
/-- The weights. -/
def W : Fin 1024 → Fin 1024 → EReal := fun i k => (m ((c : Thread nD τ).loc main_arg3) : FVec Ideal S1024x1024 .f32) (ix2 i k)
/-- The norm's weights. -/
def Gn : Fin 1024 → EReal := fun k => (m ((c : Thread nD τ).loc main_arg4) : FVec Ideal S1024 .f32) (ix1 k)
/-- The norm's bias. -/
def Bn : Fin 1024 → EReal := fun k => (m ((c : Thread nD τ).loc main_arg5) : FVec Ideal S1024 .f32) (ix1 k)

/-- The blocks of the windows at each point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0] ∧ win0_7.index t = ![t.val, 0] :=
  (by decide +kernel : ∀ t : Fin grid0.N, _)

/-- Row `r` of the first half's block. -/
theorem blkA (t : Fin cfg0.N) (r : Fin 1024) (i : Fin 512) (h : 1024 * t.val + r.val < 16384) :
    (iblk m c 0 t : FVec Ideal S1024x512 .bf16) (ix2 r i) = A m c ⟨1024 * t.val + r.val, h⟩ i := by
  unfold A
  blk_ext [iblk, V, idx t]

/-- Row `r` of the second half's block. -/
theorem blkB (t : Fin cfg0.N) (r : Fin 1024) (i : Fin 512) (h : 1024 * t.val + r.val < 16384) :
    (iblk m c 1 t : FVec Ideal S1024x512 .bf16) (ix2 r i) = B m c ⟨1024 * t.val + r.val, h⟩ i := by
  unfold B
  blk_ext [iblk, V, idx t]

/-- Row `r` of the residual's block. -/
theorem blkX (t : Fin cfg0.N) (r k : Fin 1024) (h : 1024 * t.val + r.val < 16384) :
    (iblk m c 4 t : FVec Ideal S1024x1024 .f32) (ix2 r k) = X m c ⟨1024 * t.val + r.val, h⟩ k := by
  unfold X
  blk_ext [iblk, V, idx t]

/-- What the host makes of the weights before the grid starts. -/
theorem entry : (V m c main_v1 : FVec Ideal S512x1024 .bf16) = (truncf .bf16 (extractStridedSlice S512x1024 ![0, 0]
      (m ((c : Thread nD τ).loc main_arg3) : FVec Ideal S1024x1024 .f32) slices_S1024x1024_S512x1024_0_0) bitsLt_bf16_f32 : FVec Ideal S512x1024 .bf16)
    ∧ (V m c main_v3 : FVec Ideal S512x1024 .bf16) = (truncf .bf16 (extractStridedSlice S512x1024 ![512, 0]
      (m ((c : Thread nD τ).loc main_arg3) : FVec Ideal S1024x1024 .f32) slices_S1024x1024_S512x1024_512_0) bitsLt_bf16_f32 : FVec Ideal S512x1024 .bf16)
    ∧ (V m c main_v4 : FVec Ideal S1x1024 .f32) = shapeCast S1x1024 (m ((c : Thread nD τ).loc main_arg4) : FVec Ideal S1024 .f32) shapeCasts_S1024_S1x1024
    ∧ (V m c main_v5 : FVec Ideal S1x1024 .f32) = shapeCast S1x1024 (m ((c : Thread nD τ).loc main_arg5) : FVec Ideal S1024 .f32) shapeCasts_S1024_S1x1024 := by
  simp only [V, hostOps0, List.flatten_cons, List.flatten_nil, List.append_nil, List.cons_append, List.nil_append]
  refine ⟨?_, ?_, ?_, ?_⟩
  all_goals
    entry_read
    rfl

/-- The upper weights at a point. -/
theorem blkW (t : Fin cfg0.N) (i : Fin 512) (k : Fin 1024) : (iblk m c 2 t : FVec Ideal S512x1024 .bf16) (ix2 i k) = W m c ⟨i.val, by omega⟩ k := by
  have e : (iblk m c 2 t : FVec Ideal S512x1024 .bf16) (ix2 i k) = (V m c main_v1 : FVec Ideal S512x1024 .bf16) (ix2 i k) := by
    blk_ext [iblk, idx t]
  rw [e, (entry m c).1]
  unfold W
  pointwise

/-- The lower weights at a point. -/
theorem blkU (t : Fin cfg0.N) (i : Fin 512) (k : Fin 1024) : (iblk m c 3 t : FVec Ideal S512x1024 .bf16) (ix2 i k) = W m c ⟨512 + i.val, by omega⟩ k := by
  have e : (iblk m c 3 t : FVec Ideal S512x1024 .bf16) (ix2 i k) = (V m c main_v3 : FVec Ideal S512x1024 .bf16) (ix2 i k) := by
    blk_ext [iblk, idx t]
  rw [e, (entry m c).2.1]
  unfold W
  pointwise

/-- The norm's weights at a point. -/
theorem blkG (t : Fin cfg0.N) (k : Fin 1024) : (iblk m c 5 t : FVec Ideal S1x1024 .f32) (ix2 0 k) = Gn m c k := by
  have e : (iblk m c 5 t : FVec Ideal S1x1024 .f32) (ix2 0 k) = (V m c main_v4 : FVec Ideal S1x1024 .f32) (ix2 0 k) := by
    blk_ext [iblk, idx t]
  rw [e, (entry m c).2.2.1]
  unfold Gn
  pointwise

/-- The norm's bias at a point. -/
theorem blkN (t : Fin cfg0.N) (k : Fin 1024) : (iblk m c 6 t : FVec Ideal S1x1024 .f32) (ix2 0 k) = Bn m c k := by
  have e : (iblk m c 6 t : FVec Ideal S1x1024 .f32) (ix2 0 k) = (V m c main_v5 : FVec Ideal S1x1024 .f32) (ix2 0 k) := by
    blk_ext [iblk, idx t]
  rw [e, (entry m c).2.2.2]
  unfold Bn
  pointwise

/-- The named constant is the root of two. -/
theorem alpha_named : Named.named (F := Ideal) κ "alpha" (φ := .f32) 0x3FB504F3#32 = Dn.alpha :=
  IdealRules.named_const.ideal_named_scalar _ _ _ _ rfl

/-- What a point leaves in its block. -/
theorem point (a : FVec Ideal S1024x512 .bf16) (b : FVec Ideal S1024x512 .bf16) (w : FVec Ideal S512x1024 .bf16) (u : FVec Ideal S512x1024 .bf16)
    (x : FVec Ideal S1024x1024 .f32) (g h : FVec Ideal S1x1024 .f32) (r k : Fin 1024) :
    out0_7 (F := Ideal) a b w u x g h (ix2 r k) = Dn.lnorm (fun l => Dn.alpha * x (ix2 r l)
      + ∑ i : Fin 512, a (ix2 r i) * w (ix2 i l) + ∑ i : Fin 512, b (ix2 r i) * u (ix2 i l)) (fun l => g (ix2 0 l)) (fun l => h (ix2 0 l)) k := by
  have o : out0_7 (F := Ideal) a b w u x g h = k0_pay1 (F := Ideal) x a w b u g h := by
    frame_out [out0_7]
  rw [o, ← alpha_named]
  unfold Dn.lnorm Dn.mean
  pointwise [k0_pay1]

/-- The result, once the grid has gone by. -/
theorem final (r : Fin 16384) (k : Fin 1024) : ((dats m 0 c).arrAt 7 cfg0.N : FVec Ideal S16384x1024 .f32) (ix2 r k)
    = Out.row (rfl : 512 + 512 = 1024) (X m c r) (A m c r) (B m c r) (W m c) (Gn m c) (Bn m c) k := by
  have ht : r.val / 1024 < cfg0.N := lt_of_lt_of_eq (by omega) N_0.symm
  have hr : 1024 * (r.val / 1024) + r.val % 1024 < 16384 := by omega
  have b := congrFun (blocks7 m c ⟨r.val / 1024, ht⟩ (flush0_7 _)) (ix2 (⟨r.val % 1024, by omega⟩ : Fin 1024) k : S1024x1024.Idx)
  have e : ∀ A : FVec Ideal S16384x1024 .f32, (((cfg0.win 7).blk ⟨r.val / 1024, ht⟩).view.read (Elt Ideal) A : FVec Ideal S1024x1024 .f32)
      (ix2 (⟨r.val % 1024, by omega⟩ : Fin 1024) k) = A (ix2 r k) := by
    intro A
    blk_ext [idx ⟨r.val / 1024, ht⟩]
  have er : (⟨1024 * (r.val / 1024) + r.val % 1024, hr⟩ : Fin 16384) = r := Fin.ext (by dsimp only; omega)
  have ea := fun l => (blkA m c ⟨r.val / 1024, ht⟩ ⟨r.val % 1024, by omega⟩ l hr).trans (congrFun (congrArg (A m c) er) l)
  have eb := fun l => (blkB m c ⟨r.val / 1024, ht⟩ ⟨r.val % 1024, by omega⟩ l hr).trans (congrFun (congrArg (B m c) er) l)
  have ex := fun l => (blkX m c ⟨r.val / 1024, ht⟩ ⟨r.val % 1024, by omega⟩ l hr).trans (congrFun (congrArg (X m c) er) l)
  refine (e _).symm.trans (b.trans ?_)
  rw [flushed7]
  refine (point _ _ _ _ _ _ _ _ k).trans ?_
  simp only [ea, eb, ex, blkW, blkU, blkG, blkN]
  rfl

end

/-- The reference's frame: its run leaves the arguments as they were, and it has no semaphore. -/
theorem frame_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

section
open Cert.Reference7Ideal Cert.Reference7Ideal.Gen Cert.Reference7Ideal.Value

/-- The two halves side by side. -/
def catD (a : FVec Ideal S16384x512 .bf16) (b : FVec Ideal S16384x512 .bf16) : FVec Ideal S16384x1024 .bf16 :=
  concatenate S16384x1024 1 [⟨S16384x512, a⟩, ⟨S16384x512, b⟩] concatenates_S16384x512_S16384x512_S16384x1024_d1

/-- The residual and the product. -/
def sumD (a : FVec Ideal S16384x512 .bf16) (b : FVec Ideal S16384x512 .bf16) (x : FVec Ideal S16384x1024 .f32) (w : FVec Ideal S1024x1024 .f32) : FVec Ideal S16384x1024 .f32 :=
  addf (mulf (broadcastInDim S16384x1024 ![] bcast_S_S16384x1024 (Host.sqrt (constant S_ .f32 0x40000000#32))) x)
    (Host.dotGeneral dot_S16384x1024_S1024x1024_S16384x1024_1_0_0_1_n_n none (extf .f32 (catD a b) bitsLt_bf16_f32) w)

/-- The reference's result in these terms. -/
theorem result_eq (m : (ℓ : Loc nD τ sig) → Buf (Elt Ideal) ℓ) (c : Dev nD) :
    res_main_v30 (F := Ideal) m c = DnRef.normD (sumD (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4))
      (m ((c.tc : Thread nD τ).loc main_arg5)) := by
  unfold res_main_v30 DnRef.normD sumD catD
  rfl

/-- The first half's columns come first. -/
theorem catD_left (a : FVec Ideal S16384x512 .bf16) (b : FVec Ideal S16384x512 .bf16) (r : Fin 16384) (i : Fin 512) :
    catD a b (ix2 r ⟨i.val, by omega⟩) = a (ix2 r i) := by
  pointwise [catD]

/-- The second half's columns come behind them. -/
theorem catD_right (a : FVec Ideal S16384x512 .bf16) (b : FVec Ideal S16384x512 .bf16) (r : Fin 16384) (i : Fin 512) :
    catD a b (ix2 r ⟨512 + i.val, by omega⟩) = b (ix2 r i) := by
  pointwise [catD]

/-- The residual and the product at an entry. -/
theorem sumD_at (a : FVec Ideal S16384x512 .bf16) (b : FVec Ideal S16384x512 .bf16) (x : FVec Ideal S16384x1024 .f32) (w : FVec Ideal S1024x1024 .f32)
    (r : Fin 16384) (k : Fin 1024) : sumD a b x w (ix2 r k)
      = Out.total (rfl : 512 + 512 = 1024) (fun l => x (ix2 r l)) (fun i => a (ix2 r i)) (fun i => b (ix2 r i)) (fun i l => w (ix2 i l)) k := by
  refine Eq.trans ?_ (Out.total_of_sum _ _ _ _ _ k (fun i => catD a b (ix2 r i)) (catD_left a b r) (catD_right a b r))
  rw [← Dn.sqrt_two]
  unfold sumD
  generalize catD a b = u
  pointwise

end

/-- The named constant is the root of two. -/
theorem preserves : Cert.preserves_Kernel7_Kernel7Ideal :=
  IdealRules.named_const.statement Cert.Kernel7Ideal.κ "alpha" .f32 0x3FB504F3#32 ((Real.sqrt 2 : ℝ) : EReal) rfl

/-- The two programs compute the same. -/
theorem algebraic : Cert.algebraic_Kernel7Ideal_Reference7Ideal := by
  intro m ρ m' ρ' _ hagree
  refine ⟨fun c => (Cert.Kernel7Ideal.Gen.dats m 0 c).arrAt 7 Cert.Kernel7Ideal.cfg0.N, Cert.Kernel7Ideal.Value.run_blocks m ρ, ?_⟩
  refine (θ_run _ _ _).mono (fun _ h c => ⟨(h c).1.trans ?_, (h c).2⟩) (Cert.Reference7Ideal.Value.run (F := Ideal) m' ρ')
  obtain ⟨h0, h1, h2, h3, h4, h5⟩ := hagree c
  rw [result_eq, h0, h1, h2, h3, h4, h5]
  funext y
  obtain ⟨r, k, rfl⟩ : ∃ (r : Fin 16384) (k : Fin 1024), y = ix2 r k := ⟨y 0, y 1, eq_ix2 y⟩
  refine (DnRef.normD_at _ _ _ r k).trans (Eq.trans ?_ (final m c r k).symm)
  simp only [sumD_at]
  rfl

end Cert.OutAClaim

end
-- ==== Proof.OutBClaim.lean ====
module

public import proofs.«01_k».proof.Defs
public import proofs.«01_k».proof.Proof.OutSpec
public import proofs.«01_k».proof.Proof.DnRef
public import proofs.«01_k».proof.Proof.Gen.Kernel8Ideal.Value
public import proofs.«01_k».proof.Proof.Gen.Reference8Ideal.Run
public import Idealize.ShloMosaic.Lib.Pipeline.ValueKit
public import Idealize.ShloMosaic.Lib.Claim

@[expose] public section

/-! The way out of layer 1's mixing part: both programs end with `Out.row` of the arguments; the second half comes with its rows and columns swapped. -/

set_option maxRecDepth 16384

noncomputable section

namespace Cert.OutBClaim

open Idealize.ShloMosaic Idealize.ShloMosaic.TcCoe Idealize.SL.Sem

section
open Cert.Kernel8Ideal Cert.Kernel8Ideal.Gen Cert.Kernel8Ideal.Value

variable (m : (ℓ : Loc nD τ sig) → Buf (Elt Ideal) ℓ) (c : Dev nD)

/-- The first half. -/
def A : Fin 16384 → Fin 1024 → EReal := fun r i => (m ((c : Thread nD τ).loc main_arg0) : FVec Ideal S16384x1024 .bf16) (ix2 r i)
/-- The second half. -/
def B : Fin 16384 → Fin 512 → EReal := fun r i => (m ((c : Thread nD τ).loc main_arg1) : FVec Ideal S512x16384 .bf16) (ix2 i r)
/-- The residual. -/
def X : Fin 16384 → Fin 1024 → EReal := fun r k => (m ((c : Thread nD τ).loc main_arg2) : FVec Ideal S16384x1024 .f32) (ix2 r k)
/-- The weights. -/
def W : Fin 1536 → Fin 1024 → EReal := fun i k => (m ((c : Thread nD τ).loc main_arg3) : FVec Ideal S1536x1024 .f32) (ix2 i k)
/-- The norm's weights. -/
def Gn : Fin 1024 → EReal := fun k => (m ((c : Thread nD τ).loc main_arg4) : FVec Ideal S1024 .f32) (ix1 k)
/-- The norm's bias. -/
def Bn : Fin 1024 → EReal := fun k => (m ((c : Thread nD τ).loc main_arg5) : FVec Ideal S1024 .f32) (ix1 k)

/-- The blocks of the windows at each point. -/
theorem idx : ∀ t : Fin cfg0.N, win0_0.index t = ![t.val, 0] ∧ win0_1.index t = ![0, t.val] ∧ win0_2.index t = ![0, 0]
    ∧ win0_3.index t = ![0, 0] ∧ win0_4.index t = ![t.val, 0] ∧ win0_5.index t = ![0, 0] ∧ win0_6.index t = ![0, 0] ∧ win0_7.index t = ![t.val, 0] :=
  (by decide +kernel : ∀ t : Fin grid0.N, _)

/-- Row `r` of the first half's block. -/
theorem blkA (t : Fin cfg0.N) (r : Fin 1024) (i : Fin 1024) (h : 1024 * t.val + r.val < 16384) :
    (iblk m c 0 t : FVec Ideal S1024x1024 .bf16) (ix2 r i) = A m c ⟨1024 * t.val + r.val, h⟩ i := by
  unfold A
  blk_ext [iblk, V, idx t]

/-- Row `r` of the second half's block. -/
theorem blkB (t : Fin cfg0.N) (r : Fin 1024) (i : Fin 512) (h : 1024 * t.val + r.val < 16384) :
    (iblk m c 1 t : FVec Ideal S512x1024 .bf16) (ix2 i r) = B m c ⟨1024 * t.val + r.val, h⟩ i := by
  unfold B
  blk_ext [iblk, V, idx t]

/-- Row `r` of the residual's block. -/
theorem blkX (t : Fin cfg0.N) (r k : Fin 1024) (h : 1024 * t.val + r.val < 16384) :
    (iblk m c 4 t : FVec Ideal S1024x1024 .f32) (ix2 r k) = X m c ⟨1024 * t.val + r.val, h⟩ k := by
  unfold X
  blk_ext [iblk, V, idx t]

/-- What the host makes of the weights before the grid starts. -/
theorem entry : (V m c main_v1 : FVec Ideal S1024x1024 .bf16) = (truncf .bf16 (extractStridedSlice S1024x1024 ![0, 0]
      (m ((c : Thread nD τ).loc main_arg3) : FVec Ideal S1536x1024 .f32) slices_S1536x1024_S1024x1024_0_0) bitsLt_bf16_f32 : FVec Ideal S1024x1024 .bf16)
    ∧ (V m c main_v3 : FVec Ideal S512x1024 .bf16) = (truncf .bf16 (extractStridedSlice S512x1024 ![1024, 0]
      (m ((c : Thread nD τ).loc main_arg3) : FVec Ideal S1536x1024 .f32) slices_S1536x1024_S512x1024_1024_0) bitsLt_bf16_f32 : FVec Ideal S512x1024 .bf16)
    ∧ (V m c main_v4 : FVec Ideal S1x1024 .f32) = shapeCast S1x1024 (m ((c : Thread nD τ).loc main_arg4) : FVec Ideal S1024 .f32) shapeCasts_S1024_S1x1024
    ∧ (V m c main_v5 : FVec Ideal S1x1024 .f32) = shapeCast S1x1024 (m ((c : Thread nD τ).loc main_arg5) : FVec Ideal S1024 .f32) shapeCasts_S1024_S1x1024 := by
  simp only [V, hostOps0, List.flatten_cons, List.flatten_nil, List.append_nil, List.cons_append, List.nil_append]
  refine ⟨?_, ?_, ?_, ?_⟩
  all_goals
    entry_read
    rfl

/-- The upper weights at a point. -/
theorem blkW (t : Fin cfg0.N) (i : Fin 1024) (k : Fin 1024) : (iblk m c 2 t : FVec Ideal S1024x1024 .bf16) (ix2 i k) = W m c ⟨i.val, by omega⟩ k := by
  have e : (iblk m c 2 t : FVec Ideal S1024x1024 .bf16) (ix2 i k) = (V m c main_v1 : FVec Ideal S1024x1024 .bf16) (ix2 i k) := by
    blk_ext [iblk, idx t]
  rw [e, (entry m c).1]
  unfold W
  pointwise

/-- The lower weights at a point. -/
theorem blkU (t : Fin cfg0.N) (i : Fin 512) (k : Fin 1024) : (iblk m c 3 t : FVec Ideal S512x1024 .bf16) (ix2 i k) = W m c ⟨1024 + i.val, by omega⟩ k := by
  have e : (iblk m c 3 t : FVec Ideal S512x1024 .bf16) (ix2 i k) = (V m c main_v3 : FVec Ideal S512x1024 .bf16) (ix2 i k) := by
    blk_ext [iblk, idx t]
  rw [e, (entry m c).2.1]
  unfold W
  pointwise

/-- The norm's weights at a point. -/
theorem blkG (t : Fin cfg0.N) (k : Fin 1024) : (iblk m c 5 t : FVec Ideal S1x1024 .f32) (ix2 0 k) = Gn m c k := by
  have e : (iblk m c 5 t : FVec Ideal S1x1024 .f32) (ix2 0 k) = (V m c main_v4 : FVec Ideal S1x1024 .f32) (ix2 0 k) := by
    blk_ext [iblk, idx t]
  rw [e, (entry m c).2.2.1]
  unfold Gn
  pointwise

/-- The norm's bias at a point. -/
theorem blkN (t : Fin cfg0.N) (k : Fin 1024) : (iblk m c 6 t : FVec Ideal S1x1024 .f32) (ix2 0 k) = Bn m c k := by
  have e : (iblk m c 6 t : FVec Ideal S1x1024 .f32) (ix2 0 k) = (V m c main_v5 : FVec Ideal S1x1024 .f32) (ix2 0 k) := by
    blk_ext [iblk, idx t]
  rw [e, (entry m c).2.2.2]
  unfold Bn
  pointwise

/-- The named constant is the root of two. -/
theorem alpha_named : Named.named (F := Ideal) κ "alpha" (φ := .f32) 0x3FB504F3#32 = Dn.alpha :=
  IdealRules.named_const.ideal_named_scalar _ _ _ _ rfl

/-- What a point leaves in its block. -/
theorem point (a : FVec Ideal S1024x1024 .bf16) (b : FVec Ideal S512x1024 .bf16) (w : FVec Ideal S1024x1024 .bf16) (u : FVec Ideal S512x1024 .bf16)
    (x : FVec Ideal S1024x1024 .f32) (g h : FVec Ideal S1x1024 .f32) (r k : Fin 1024) :
    out0_7 (F := Ideal) a b w u x g h (ix2 r k) = Dn.lnorm (fun l => Dn.alpha * x (ix2 r l)
      + ∑ i : Fin 1024, a (ix2 r i) * w (ix2 i l) + ∑ i : Fin 512, b (ix2 i r) * u (ix2 i l)) (fun l => g (ix2 0 l)) (fun l => h (ix2 0 l)) k := by
  have o : out0_7 (F := Ideal) a b w u x g h = k0_pay1 (F := Ideal) x a w b u g h := by
    frame_out [out0_7]
  rw [o, ← alpha_named]
  unfold Dn.lnorm Dn.mean
  pointwise [k0_pay1]

/-- The result, once the grid has gone by. -/
theorem final (r : Fin 16384) (k : Fin 1024) : ((dats m 0 c).arrAt 7 cfg0.N : FVec Ideal S16384x1024 .f32) (ix2 r k)
    = Out.row (rfl : 1024 + 512 = 1536) (X m c r) (A m c r) (B m c r) (W m c) (Gn m c) (Bn m c) k := by
  have ht : r.val / 1024 < cfg0.N := lt_of_lt_of_eq (by omega) N_0.symm
  have hr : 1024 * (r.val / 1024) + r.val % 1024 < 16384 := by omega
  have b := congrFun (blocks7 m c ⟨r.val / 1024, ht⟩ (flush0_7 _)) (ix2 (⟨r.val % 1024, by omega⟩ : Fin 1024) k : S1024x1024.Idx)
  have e : ∀ A : FVec Ideal S16384x1024 .f32, (((cfg0.win 7).blk ⟨r.val / 1024, ht⟩).view.read (Elt Ideal) A : FVec Ideal S1024x1024 .f32)
      (ix2 (⟨r.val % 1024, by omega⟩ : Fin 1024) k) = A (ix2 r k) := by
    intro A
    blk_ext [idx ⟨r.val / 1024, ht⟩]
  have er : (⟨1024 * (r.val / 1024) + r.val % 1024, hr⟩ : Fin 16384) = r := Fin.ext (by dsimp only; omega)
  have ea := fun l => (blkA m c ⟨r.val / 1024, ht⟩ ⟨r.val % 1024, by omega⟩ l hr).trans (congrFun (congrArg (A m c) er) l)
  have eb := fun l => (blkB m c ⟨r.val / 1024, ht⟩ ⟨r.val % 1024, by omega⟩ l hr).trans (congrFun (congrArg (B m c) er) l)
  have ex := fun l => (blkX m c ⟨r.val / 1024, ht⟩ ⟨r.val % 1024, by omega⟩ l hr).trans (congrFun (congrArg (X m c) er) l)
  refine (e _).symm.trans (b.trans ?_)
  rw [flushed7]
  refine (point _ _ _ _ _ _ _ _ k).trans ?_
  simp only [ea, eb, ex, blkW, blkU, blkG, blkN]
  rfl

end

/-- The reference's frame: its run leaves the arguments as they were, and it has no semaphore. -/
theorem frame_ref : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

section
open Cert.Reference8Ideal Cert.Reference8Ideal.Gen Cert.Reference8Ideal.Value

/-- The two halves side by side. -/
def catD (a : FVec Ideal S16384x1024 .bf16) (b : FVec Ideal S512x16384 .bf16) : FVec Ideal S16384x1536 .bf16 :=
  concatenate S16384x1536 1 [⟨S16384x1024, a⟩, ⟨S16384x512, (transpose S16384x512 [1, 0] b transposes_S512x16384_S16384x512_1_0)⟩] concatenates_S16384x1024_S16384x512_S16384x1536_d1

/-- The residual and the product. -/
def sumD (a : FVec Ideal S16384x1024 .bf16) (b : FVec Ideal S512x16384 .bf16) (x : FVec Ideal S16384x1024 .f32) (w : FVec Ideal S1536x1024 .f32) : FVec Ideal S16384x1024 .f32 :=
  addf (mulf (broadcastInDim S16384x1024 ![] bcast_S_S16384x1024 (Host.sqrt (constant S_ .f32 0x40000000#32))) x)
    (Host.dotGeneral dot_S16384x1536_S1536x1024_S16384x1024_1_0_0_1_n_n none (extf .f32 (catD a b) bitsLt_bf16_f32) w)

/-- The reference's result in these terms. -/
theorem result_eq (m : (ℓ : Loc nD τ sig) → Buf (Elt Ideal) ℓ) (c : Dev nD) :
    res_main_v31 (F := Ideal) m c = DnRef.normD (sumD (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4))
      (m ((c.tc : Thread nD τ).loc main_arg5)) := by
  unfold res_main_v31 DnRef.normD sumD catD
  rfl

/-- The first half's columns come first. -/
theorem catD_left (a : FVec Ideal S16384x1024 .bf16) (b : FVec Ideal S512x16384 .bf16) (r : Fin 16384) (i : Fin 1024) :
    catD a b (ix2 r ⟨i.val, by omega⟩) = a (ix2 r i) := by
  pointwise [catD]

/-- The second half's columns come behind them. -/
theorem catD_right (a : FVec Ideal S16384x1024 .bf16) (b : FVec Ideal S512x16384 .bf16) (r : Fin 16384) (i : Fin 512) :
    catD a b (ix2 r ⟨1024 + i.val, by omega⟩) = b (ix2 i r) := by
  pointwise [catD]

/-- The residual and the product at an entry. -/
theorem sumD_at (a : FVec Ideal S16384x1024 .bf16) (b : FVec Ideal S512x16384 .bf16) (x : FVec Ideal S16384x1024 .f32) (w : FVec Ideal S1536x1024 .f32)
    (r : Fin 16384) (k : Fin 1024) : sumD a b x w (ix2 r k)
      = Out.total (rfl : 1024 + 512 = 1536) (fun l => x (ix2 r l)) (fun i => a (ix2 r i)) (fun i => b (ix2 i r)) (fun i l => w (ix2 i l)) k := by
  refine Eq.trans ?_ (Out.total_of_sum _ _ _ _ _ k (fun i => catD a b (ix2 r i)) (catD_left a b r) (catD_right a b r))
  rw [← Dn.sqrt_two]
  unfold sumD
  generalize catD a b = u
  pointwise

end

/-- The named constant is the root of two. -/
theorem preserves : Cert.preserves_Kernel8_Kernel8Ideal :=
  IdealRules.named_const.statement Cert.Kernel8Ideal.κ "alpha" .f32 0x3FB504F3#32 ((Real.sqrt 2 : ℝ) : EReal) rfl

/-- The two programs compute the same. -/
theorem algebraic : Cert.algebraic_Kernel8Ideal_Reference8Ideal := by
  intro m ρ m' ρ' _ hagree
  refine ⟨fun c => (Cert.Kernel8Ideal.Gen.dats m 0 c).arrAt 7 Cert.Kernel8Ideal.cfg0.N, Cert.Kernel8Ideal.Value.run_blocks m ρ, ?_⟩
  refine (θ_run _ _ _).mono (fun _ h c => ⟨(h c).1.trans ?_, (h c).2⟩) (Cert.Reference8Ideal.Value.run (F := Ideal) m' ρ')
  obtain ⟨h0, h1, h2, h3, h4, h5⟩ := hagree c
  rw [result_eq, h0, h1, h2, h3, h4, h5]
  funext y
  obtain ⟨r, k, rfl⟩ : ∃ (r : Fin 16384) (k : Fin 1024), y = ix2 r k := ⟨y 0, y 1, eq_ix2 y⟩
  refine (DnRef.normD_at _ _ _ r k).trans (Eq.trans ?_ (final m c r k).symm)
  simp only [sumD_at]
  rfl

end Cert.OutBClaim

end
-- ==== Proof.MoeRun.lean ====
module

public import proofs.«01_k».proof.Proof.Gen.Kernel9Ideal.Launch
public import proofs.«01_k».proof.Proof.Gen.Kernel9Ideal.Skeleton
public import Idealize.ShloMosaic.Lib.Pipeline.Kit
public import Idealize.ShloMosaic.Lib.Pipeline.FrameBody
public import Idealize.ShloMosaic.Lib.Pipeline.ValueKit
public import Idealize.ShloMosaic.Lib.Ring
public import Idealize.ShloMosaic.Lib.VecWindow
public import Idealize.ShloMosaic.Lib.Tactic
public import Idealize.ShloMosaic.Lib.WordCmp

@[expose] public section

/-! The experts' body on any staging memrefs, in the four cases of its conditions. -/

set_option maxRecDepth 16384

noncomputable section

namespace Cert.MoeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

/-- The table of experts and the count of used blocks, as the body is handed them. -/
abbrev tbM0_0 : Memref sig .tc .smem S71 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table's contents, and the table held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The count of used blocks. -/
abbrev nu (c : Dev nD) (xt1 : TbBuf0 (F := F) c tbM0_1) : Elt F .i32 :=
  View.readAt (Elt F) tbM0_1.view (Rect.unit (s := S1) ![0] S1.size inb_S1_S1_0).toLoadRect xt1 (Shape.Idx.first (numel1_S1.symm ▸ Nat.one_pos))

/-- The first tile of hidden columns. -/
abbrev isFirst (i : grid0.Coords) : Prop := (Scalar.cmpi .ne (Scalar.extui (Scalar.cmpi .eq (BitVec.ofNat 32 (i 1).val) 0#32)) 0#32) = 1#1
/-- A tile that is neither the first nor the last. -/
abbrev isMid (i : grid0.Coords) : Prop := (Scalar.cmpi .ne (Scalar.extui (Scalar.andi (Scalar.cmpi .sgt (BitVec.ofNat 32 (i 1).val) 0#32) (Scalar.cmpi .slt (BitVec.ofNat 32 (i 1).val) 1#32))) 0#32) = 1#1

variable (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .f32) (harg9 : arg9.IsWhole)
  (x0 : Vec F S512x1024 .f32) (x1 x2 : Vec F S1x1024x1408 .bf16) (x3 : Vec F S1x1408x1024 .bf16) (xt1 : TbBuf0 (F := F) c tbM0_1)

/-- A block past the used ones, first tile: nothing is stored. -/
theorem run_C (hc1 : ¬k0_cond1 i (nu c xt1) = 1#1) (hc5 : ¬k0_cond5 i (nu c xt1) = 1#1) (E : Set ℕ) (K : PUnit → sProp 𝕄) :
    iprop(tbPt0 c tbM0_1 xt1 ∗ (tbPt0 c tbM0_1 xt1 -∗ K ⟨⟩))
      ⊢ wp frame (wpE (defs₀ (F := F)) Variants.none c none) E (cc0_moe_ffn i tbM0_0 htbM0_0 tbM0_1 htbM0_1 arg4 harg4 arg5 harg5 arg6 harg6 arg7 harg7 arg8 harg8 arg9 harg9) K := by
  simp only [cc0_moe_ffn_eq_skeleton]; unfold cc0_moe_ffn_skel
  iintro ⟨HT1, Hk⟩
  sl_exec (disch := (sl_unfold_run_names; first | sl_exact hc1 | sl_exact hc5))
  sl_step
  iapply Hk
  iexact HT1

/-- A block past the used ones, last tile: zeros are stored. -/
theorem run_D (hc1 : ¬k0_cond1 i (nu c xt1) = 1#1) (hc5 : k0_cond5 i (nu c xt1) = 1#1) (E : Set ℕ) (K : PUnit → sProp 𝕄) :
    iprop((∃ d, owns (c : Thread nD τ) arg8 fullShare d) ∗ tbPt0 c tbM0_1 xt1 ∗ (iprop(owns (c : Thread nD τ) arg8 fullShare (k0_pay5 (F := F)) ∗ tbPt0 c tbM0_1 xt1) -∗ K ⟨⟩))
      ⊢ wp frame (wpE (defs₀ (F := F)) Variants.none c none) E (cc0_moe_ffn i tbM0_0 htbM0_0 tbM0_1 htbM0_1 arg4 harg4 arg5 harg5 arg6 harg6 arg7 harg7 arg8 harg8 arg9 harg9) K := by
  simp only [cc0_moe_ffn_eq_skeleton]; unfold cc0_moe_ffn_skel
  unfold owns
  iintro ⟨⟨%d4, %f4, -, H4⟩, HT1, Hk⟩
  sl_exec (disch := (sl_unfold_run_names; first | sl_exact hc1 | sl_exact hc5))
  sl_step
  iapply Hk
  isplitl [H4]
  · iexists _; isplitr
    swap; · iexact H4
    ipureintro
    sl_unfold_run_names
    exact View.read_writes_full _ _ inb_S512x1024_S512x1024_0_0 _ _
  iexact HT1

/-- A used block, first tile: its product is stored in the scratch. -/
theorem run_A (hc1 : k0_cond1 i (nu c xt1) = 1#1) (hc2 : isFirst i) (hc3 : ¬isMid i) (hc4 : ¬k0_cond4 i = 1#1) (hc5 : ¬k0_cond5 i (nu c xt1) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg9 fullShare d) ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg9 fullShare (k0_pay2 x0 x1 x2 x3) ∗ tbPt0 c tbM0_1 xt1) -∗ K ⟨⟩))
      ⊢ wp frame (wpE (defs₀ (F := F)) Variants.none c none) E (cc0_moe_ffn i tbM0_0 htbM0_0 tbM0_1 htbM0_1 arg4 harg4 arg5 harg5 arg6 harg6 arg7 harg7 arg8 harg8 arg9 harg9) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%ds0, %fs0, -, HS0⟩, HT1, Hk⟩
  obtain rfl := harg4.eq_unread hf0; obtain rfl := harg5.eq_unread hf1; obtain rfl := harg6.eq_unread hf2; obtain rfl := harg7.eq_unread hf3
  sl_exec (disch := (sl_unfold_run_names; first | sl_exact hc1 | sl_exact hc2 | sl_exact hc3 | sl_exact hc4 | sl_exact hc5))
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS0]
  · iexists _; isplitr
    swap; · iexact HS0
    ipureintro
    sl_unfold_run_names
    refine (View.read_writes_full _ _ inb_S512x1024_S512x1024_0_0 _ _).trans ?_
    rw [View.readAt_full arg4.view, View.readAt_full arg5.view, View.readAt_full arg6.view, View.readAt_full arg7.view,
      harg4.read_unread, harg5.read_unread, harg6.read_unread, harg7.read_unread]
  iexact HT1

/-- A used block, last tile: the scratch and its product are stored. -/
theorem run_B (xs : Vec F S512x1024 .f32) (hc1 : k0_cond1 i (nu c xt1) = 1#1) (hc2 : ¬isFirst i) (hc3 : ¬isMid i) (hc4 : k0_cond4 i = 1#1) (hc5 : ¬k0_cond5 i (nu c xt1) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay4 x0 x1 x2 x3 xs) ∗ owns (c : Thread nD τ) arg9 fullShare xs ∗ tbPt0 c tbM0_1 xt1) -∗ K ⟨⟩))
      ⊢ wp frame (wpE (defs₀ (F := F)) Variants.none c none) E (cc0_moe_ffn i tbM0_0 htbM0_0 tbM0_1 htbM0_1 arg4 harg4 arg5 harg5 arg6 harg6 arg7 harg7 arg8 harg8 arg9 harg9) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT1, Hk⟩
  obtain rfl := harg4.eq_unread hf0; obtain rfl := harg5.eq_unread hf1; obtain rfl := harg6.eq_unread hf2; obtain rfl := harg7.eq_unread hf3; obtain rfl := harg9.eq_unread hfs0
  sl_exec (disch := (sl_unfold_run_names; first | sl_exact hc1 | sl_exact hc2 | sl_exact hc3 | sl_exact hc4 | sl_exact hc5))
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    sl_unfold_run_names
    refine (View.read_writes_full _ _ inb_S512x1024_S512x1024_0_0 _ _).trans ?_
    rw [View.readAt_full arg4.view, View.readAt_full arg5.view, View.readAt_full arg6.view, View.readAt_full arg7.view, View.readAt_full arg9.view,
      harg4.read_unread, harg5.read_unread, harg6.read_unread, harg7.read_unread, harg9.read_unread]
  isplitl [HS0]
  · iexists _; isplitr; · ipureintro; exact harg9.read_unread _
    iexact HS0
  iexact HT1

end Cert.MoeRun

end
-- ==== Proof.MoeGrid.lean ====
module

public import proofs.«01_k».proof.Proof.MoeRun

@[expose] public section

/-! The experts' grid: its tables, its blocks, the conditions of its body at each point, and where its result is written back. -/

set_option maxRecDepth 16384

noncomputable section

namespace Cert.MoeGrid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ
open Cert.MoeRun

variable (m : (ℓ : Loc nD τ sig) → Buf (Elt F) ℓ)

/-- The buffers when the region is entered: as launched. -/
abbrev V (c : Dev nD) (b : Ref sig .tc) : Buf (Elt F) ((c : Thread nD τ).loc b) := m ((c : Thread nD τ).loc b)

/-- The main function is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)
/-- They are the same on the one device there is. -/
theorem V_pre (c : Dev nD) (j : Fin 2) : V m c (pre0.ref j) = tbl m j := by
  obtain rfl : c = 0 := Subsingleton.elim _ _; rfl
/-- Every block lies in its array. -/
abbrev Ok : Prop := ok0 (F := F) (tbl m)
/-- The pipeline at those contents. -/
abbrev adm (hO : Ok m) : (pcfg0 (F := F)).Adm := ⟨tbl m, hO⟩
abbrev cfgM (hO : Ok m) : Pipeline.Cfg sig Λ₀ := cfg0 (adm m hO)

/-- The halves of the tables the region hands the body. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- A result is written back at the second point of each pair. -/
theorem flush0_4 (a : (pcfg0 (F := F)).Adm) : ∀ t : Fin (cfg0 a).N, ((cfg0 a).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1)

/-- The coordinates of a point: the block of rows and the half of the hidden columns. -/
theorem co (t : Fin grid0.N) : (grid0.coords t 0).val = t.val / 2 ∧ (grid0.coords t 1).val = t.val % 2 := by
  have ht : t.val < 142 := Nat.lt_of_lt_of_eq t.isLt N_0
  have e0 : (grid0.coords t 0).val = t.val / 2 % 71 := Pipeline.Grid.coords_val t 0 (by decide) rfl
  have e1 : (grid0.coords t 1).val = t.val / 1 % 2 := Pipeline.Grid.coords_val t 1 (by decide) rfl
  omega

theorem first_iff (t : Fin grid0.N) : isFirst (grid0.coords t) ↔ t.val % 2 = 0 := by
  have h := Nat.mod_two_eq_zero_or_one t.val
  simp only [isFirst, (co t).2]
  rcases h with h | h <;> simp only [h] <;> decide

theorem mid_not (t : Fin grid0.N) : ¬isMid (grid0.coords t) := by
  have h := Nat.mod_two_eq_zero_or_one t.val
  simp only [isMid, (co t).2]
  rcases h with h | h <;> simp only [h] <;> decide

theorem last_iff (t : Fin grid0.N) : k0_cond4 (grid0.coords t) = 1#1 ↔ t.val % 2 = 1 := by
  have h := Nat.mod_two_eq_zero_or_one t.val
  simp only [k0_cond4, (co t).2]
  rcases h with h | h <;> simp only [h] <;> decide

/-- A word read as a condition is one exactly where it is one. -/
theorem word_one : ∀ b : BitVec 1, (Scalar.cmpi .ne (Scalar.extui b : BitVec 32) 0#32 = 1#1) ↔ b = 1#1 := by decide

theorem ofBool_one (p : Prop) [Decidable p] : BitVec.ofBool (decide p) = 1#1 ↔ p := by
  by_cases h : p <;> simp [h]

/-- A block is used where its number is below the count. -/
theorem used_iff (t : Fin grid0.N) (v : BitVec 32) : k0_cond1 (grid0.coords t) v = 1#1 ↔ ((t.val / 2 : ℕ) : ℤ) < v.toInt := by
  have ht : t.val < 142 := Nat.lt_of_lt_of_eq t.isLt N_0
  simp only [k0_cond1, word_one, (co t).1]
  have e : (BitVec.ofNat 32 (t.val / 2)).toInt = ((t.val / 2 : ℕ) : ℤ) := by
    rw [BitVec.toInt_eq_toNat_cond, BitVec.toNat_ofNat]; omega
  simp [Scalar.cmpi, IntOp.cmpi, BitVec.slt, e, ofBool_one]

/-- The zeros are stored at the last point of a block that is not used. -/
theorem zero_iff (t : Fin grid0.N) (v : BitVec 32) :
    k0_cond5 (grid0.coords t) v = 1#1 ↔ t.val % 2 = 1 ∧ ¬k0_cond1 (grid0.coords t) v = 1#1 := by
  have ht : t.val < 142 := Nat.lt_of_lt_of_eq t.isLt N_0
  have e : (BitVec.ofNat 32 (t.val / 2)).toInt = ((t.val / 2 : ℕ) : ℤ) := by
    rw [BitVec.toInt_eq_toNat_cond, BitVec.toNat_ofNat]; omega
  rw [used_iff]
  simp only [k0_cond5, word_one, (co t).1, (co t).2]
  have a1 : ∀ a b : BitVec 1, Scalar.andi a b = 1#1 ↔ a = 1#1 ∧ b = 1#1 := by decide
  rw [a1]
  have h := Nat.mod_two_eq_zero_or_one t.val
  rcases h with h | h <;> simp [h, Scalar.cmpi, IntOp.cmpi, BitVec.sle, e, ofBool_one]

/-- The inputs' windows are never idle; the result's is at the first point of each pair. -/
theorem live_0 (hO : Ok m) (t : Fin (cfgM m hO).N) : (cfgM m hO).idle 0 ((cfgM m hO).grid.coords t) = false := rfl
theorem live_1 (hO : Ok m) (t : Fin (cfgM m hO).N) : (cfgM m hO).idle 1 ((cfgM m hO).grid.coords t) = false := rfl
theorem live_2 (hO : Ok m) (t : Fin (cfgM m hO).N) : (cfgM m hO).idle 2 ((cfgM m hO).grid.coords t) = false := rfl
theorem live_3 (hO : Ok m) (t : Fin (cfgM m hO).N) : (cfgM m hO).idle 3 ((cfgM m hO).grid.coords t) = false := rfl
theorem idle4 (hO : Ok m) (t : Fin (cfgM m hO).N) (h : t.val % 2 = 0) : (cfgM m hO).idle 4 ((cfgM m hO).grid.coords t) = true := by
  show idle0 (tbl m) 4 (grid0.coords t) = true
  have h4 : ¬k0_cond4 (grid0.coords t) = 1#1 := fun e => by have := (last_iff t).mp e; omega
  have h5 : ¬k0_cond5 (grid0.coords t) ((tbl m).atD 1 ![0]) = 1#1 := fun e => by have := ((zero_iff t _).mp e).1; omega
  simp only [idle0, beq_eq_false_iff_ne.mpr h4, beq_eq_false_iff_ne.mpr h5, Bool.and_false, Bool.not_false, Bool.and_self]
theorem live4 (hO : Ok m) (t : Fin (cfgM m hO).N) (h : t.val % 2 = 1) : (cfgM m hO).idle 4 ((cfgM m hO).grid.coords t) = false := by
  show idle0 (tbl m) 4 (grid0.coords t) = false
  have h4 : k0_cond4 (grid0.coords t) = 1#1 := (last_iff t).mpr h
  by_cases hu : k0_cond1 (grid0.coords t) ((tbl m).atD 1 ![0]) = 1#1
  · simp only [idle0, beq_iff_eq.mpr h4, beq_iff_eq.mpr hu, Bool.and_self, Bool.not_true, Bool.false_and]
  · simp only [idle0, beq_iff_eq.mpr ((zero_iff t _).mpr ⟨h, hu⟩), Bool.not_true, Bool.and_false]
theorem noFlush4 (hO : Ok m) (t : Fin (cfgM m hO).N) (h : t.val % 2 = 0) : ((cfgM m hO).win 4).flush t = false := by
  rw [← Bool.not_eq_true, flush0_4]; omega

end Cert.MoeGrid

end
-- ==== Proof.MoeFrame.lean ====
module

public import proofs.«01_k».proof.Proof.MoeGrid

@[expose] public section

/-! The experts' pipeline: what each point leaves, and the run of the whole. -/

set_option maxRecDepth 16384

noncomputable section

namespace Cert.MoeFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ
open Cert.MoeRun Cert.MoeGrid

variable (m : (ℓ : Loc nD τ sig) → Buf (Elt F) ℓ) (ρ : Dev nD → PrngReg)

/-- Each window's staging memref at a point, the scratch, and the body as the pipeline calls it. -/
abbrev ms0_0 (hO : Ok m) (t : Fin (cfgM m hO).N) : Memref sig .tc .vmem S512x1024 .f32 := spec0_0.stage ((cfgM m hO).slots t 0)
abbrev ms0_1 (hO : Ok m) (t : Fin (cfgM m hO).N) : Memref sig .tc .vmem S1x1024x1408 .bf16 := spec0_1.stage ((cfgM m hO).slots t 1)
abbrev ms0_2 (hO : Ok m) (t : Fin (cfgM m hO).N) : Memref sig .tc .vmem S1x1024x1408 .bf16 := spec0_2.stage ((cfgM m hO).slots t 2)
abbrev ms0_3 (hO : Ok m) (t : Fin (cfgM m hO).N) : Memref sig .tc .vmem S1x1408x1024 .bf16 := spec0_3.stage ((cfgM m hO).slots t 3)
abbrev ms0_4 (hO : Ok m) (t : Fin (cfgM m hO).N) : Memref sig .tc .vmem S512x1024 .f32 := spec0_4.stage ((cfgM m hO).slots t 4)
abbrev scM0_0 : Memref sig .tc .vmem S512x1024 .f32 := Memref.whole cc0_scratch0
abbrev bodyAt0 (a : (pcfg0 (F := F)).Adm) (t : Fin (cfg0 a).N) : Prog (TpuEff nD τ sig (Elt F) Λ₀ .tc) PUnit :=
  cc0_moe_ffn (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-- The scratch and the generator's register, as the launch hands them. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The point's block is used. -/
abbrev Live (c : Dev nD) (t : Fin grid0.N) : Prop := k0_cond1 (grid0.coords t) (nu c (tbl m 1)) = 1#1

/-- What the first point of a used pair leaves in the scratch. -/
def accAt (hO : Ok m) (c : Dev nD) (t : Fin (cfgM m hO).N) : Vec F S512x1024 .f32 :=
  k0_pay2 (iblk m hO c 0 t) (iblk m hO c 1 t) (iblk m hO c 2 t) (iblk m hO c 3 t)

/-- What the second point of a pair writes. -/
def outAt (hO : Ok m) (c : Dev nD) (t : Fin (cfgM m hO).N) : Vec F S512x1024 .f32 :=
  if Live m c t then k0_pay4 (iblk m hO c 0 t) (iblk m hO c 1 t) (iblk m hO c 2 t) (iblk m hO c 3 t)
    (accAt m hO c ⟨t.val - 1, Nat.lt_of_le_of_lt (Nat.sub_le _ _) t.isLt⟩)
  else k0_pay5

/-- What is known of the scratch before point `n`: after the first point of a used pair, what that point left. -/
def Held (hO : Ok m) (c : Dev nD) (n : ℕ) (d : Vec F S512x1024 .f32) : Prop :=
  ∀ h : n - 1 < (cfgM m hO).N, n % 2 = 1 → Live m c ⟨n - 1, h⟩ → d = accAt m hO c ⟨n - 1, h⟩

/-- The invariant before point `n`. -/
def PhiS (hO : Ok m) (c : Dev nD) (n : ℕ) : sProp 𝕄 :=
  iprop((∃ d, ⌜Held m hO c n d⌝ ∗ owns (c : Thread nD τ) scM0_0 fullShare d) ∗ (∃ r, prngReg c r) ∗ Pipeline.ΦT pre0 (tbl m) c)

/-- The proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl

/-- An input's staging buffer holds its block at every point. -/
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- What the body is called with at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- What it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 3200000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    show (dats m hO 0 c).Φ t.succ = PhiS m hO c (t.val + 1) from rfl, show (dats m hO 0 c).Φ t.castSucc = PhiS m hO c t.val from rfl]
  unfold PhiS
  rw [PhiT0_eq]
  rw [show (dats m hO 0 c).leavesExact 0 t = owns (c : Thread nD τ) (ms0_0 m hO t) fullShare ((dats m hO 0 c).after 0 t) from by
    unfold Dat.leavesExact; rw [live_0 m hO t]; try rfl, after0_0]
  rw [show (dats m hO 0 c).leavesExact 1 t = owns (c : Thread nD τ) (ms0_1 m hO t) fullShare ((dats m hO 0 c).after 1 t) from by
    unfold Dat.leavesExact; rw [live_1 m hO t]; try rfl, after0_1]
  rw [show (dats m hO 0 c).leavesExact 2 t = owns (c : Thread nD τ) (ms0_2 m hO t) fullShare ((dats m hO 0 c).after 2 t) from by
    unfold Dat.leavesExact; rw [live_2 m hO t]; try rfl, after0_2]
  rw [show (dats m hO 0 c).leavesExact 3 t = owns (c : Thread nD τ) (ms0_3 m hO t) fullShare ((dats m hO 0 c).after 3 t) from by
    unfold Dat.leavesExact; rw [live_3 m hO t]; try rfl, after0_3]
  by_cases h0 : t.val % 2 = 0
  · have n4 : ¬k0_cond4 (grid0.coords t) = 1#1 := fun e => by have := (last_iff t).mp e; omega
    have n5 : ¬k0_cond5 (grid0.coords t) (nu c (tbl m 1)) = 1#1 := fun e => by have := ((zero_iff t _).mp e).1; omega
    rw [Dat.leavesExact_idle (dats m hO 0 c) 4 t (idle4 m hO t h0) (noFlush4 m hO t h0)]
    by_cases hu : Live m c t
    · iintro ⟨⟨⟨%d, %hd, HS⟩, Hg, HT0, HT1⟩, Ho, ⟨%d0, H0⟩, ⟨%d1, H1⟩, ⟨%d2, H2⟩, ⟨%d3, H3⟩, ⟨%d4, H4⟩⟩
      iapply (run_A c (grid0.coords t) _ _ _ _ _ _ _ _ _ _ _ _ (iblk m hO c 0 t) (iblk m hO c 1 t) (iblk m hO c 2 t) (iblk m hO c 3 t) (tbl m 1) hu ((first_iff t).mpr h0) (mid_not t) n4 n5 Set.univ _)
      isplitl [H0]; · iexact H0
      isplitl [H1]; · iexact H1
      isplitl [H2]; · iexact H2
      isplitl [H3]; · iexact H3
      isplitl [HS]; · iexists _; iexact HS
      isplitl [HT1]; · iexact HT1
      iintro ⟨H0, H1, H2, H3, HS, HT1⟩
      isplitl [HS Hg HT0 HT1]
      · isplitl [HS]
        · iexists _; isplitr
          swap; · iexact HS
          ipureintro; intro h _ _; rfl
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · iintro ⟨⟨⟨%d, %hd, HS⟩, Hg, HT0, HT1⟩, Ho, ⟨%d0, H0⟩, ⟨%d1, H1⟩, ⟨%d2, H2⟩, ⟨%d3, H3⟩, ⟨%d4, H4⟩⟩
      iapply (run_C c (grid0.coords t) _ _ _ _ _ _ _ _ _ _ _ _ (tbl m 1) hu n5 Set.univ _)
      isplitl [HT1]; · iexact HT1
      iintro HT1
      isplitl [HS Hg HT0 HT1]
      · isplitl [HS]
        · iexists _; isplitr
          swap; · iexact HS
          ipureintro; intro h _ hl; exact absurd hl hu
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · have h1 : t.val % 2 = 1 := by omega
    rw [show (dats m hO 0 c).leavesExact 4 t = owns (c : Thread nD τ) (ms0_4 m hO t) fullShare ((dats m hO 0 c).after 4 t) from by
      unfold Dat.leavesExact; rw [live4 m hO t h1]; try rfl, after0_4]
    unfold outAt
    by_cases hu : Live m c t
    · rw [if_pos hu]
      have hz : t.val - 1 < (cfgM m hO).N := Nat.lt_of_le_of_lt (Nat.sub_le _ _) t.isLt
      have hl : Live m c ⟨t.val - 1, hz⟩ := by
        have e : (t.val - 1) / 2 = t.val / 2 := by omega
        have := (used_iff t _).mp hu
        exact (used_iff ⟨t.val - 1, hz⟩ _).mpr (by dsimp only; rw [e]; exact this)
      iintro ⟨⟨⟨%d, %hd, HS⟩, Hg, HT0, HT1⟩, Ho, ⟨%d0, H0⟩, ⟨%d1, H1⟩, ⟨%d2, H2⟩, ⟨%d3, H3⟩, ⟨%d4, H4⟩⟩
      obtain rfl := hd hz h1 hl
      iapply (run_B c (grid0.coords t) _ _ _ _ _ _ _ _ _ _ _ _ (iblk m hO c 0 t) (iblk m hO c 1 t) (iblk m hO c 2 t) (iblk m hO c 3 t) (tbl m 1) _ hu (fun e => h0 ((first_iff t).mp e)) (mid_not t) ((last_iff t).mpr h1) (fun e => ((zero_iff t _).mp e).2 hu) Set.univ _)
      isplitl [H0]; · iexact H0
      isplitl [H1]; · iexact H1
      isplitl [H2]; · iexact H2
      isplitl [H3]; · iexact H3
      isplitl [H4]; · iexists _; iexact H4
      isplitl [HS]; · iexact HS
      isplitl [HT1]; · iexact HT1
      iintro ⟨H0, H1, H2, H3, H4, HS, HT1⟩
      isplitl [HS Hg HT0 HT1]
      · isplitl [HS]
        · iexists _; isplitr
          swap; · iexact HS
          ipureintro; intro h h2 _; omega
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [if_neg hu]
      iintro ⟨⟨⟨%d, %hd, HS⟩, Hg, HT0, HT1⟩, Ho, ⟨%d0, H0⟩, ⟨%d1, H1⟩, ⟨%d2, H2⟩, ⟨%d3, H3⟩, ⟨%d4, H4⟩⟩
      iapply (run_D c (grid0.coords t) _ _ _ _ _ _ _ _ _ _ _ _ (tbl m 1) hu ((zero_iff t _).mpr ⟨h1, hu⟩) Set.univ _)
      isplitl [H4]; · iexists _; iexact H4
      isplitl [HT1]; · iexact HT1
      iintro ⟨H4, HT1⟩
      isplitl [HS Hg HT0 HT1]
      · isplitl [HS]
        · iexists _; isplitr
          swap; · iexact HS
          ipureintro; intro h h2 _; omega
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4

/-- The body table's row is the body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's obligation on the body, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- The launch gives the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq]
  unfold PhiS
  iintro ⟨⟨⟨%d, HS⟩, Hg⟩, HT⟩
  isplitl [HS]
  · iexists _; isplitr
    swap; · iexact HS
    ipureintro; intro h h2 _; omega
  isplitl [Hg]; · iexact Hg
  iexact HT

/-- The invariant after the last point gives back what the launch lent. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiA0_eq]
  unfold PhiS
  iintro ⟨⟨%d, -, HS⟩, Hg, -⟩
  isplitl [HS]
  · iexists _; iexact HS
  iexact Hg

set_option backward.isDefEq.respectTransparency.types false in
/-- Every run of the program ends, with each array at what the proof data say and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The same with the result's array and the arguments named. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4, ((h.1 c).1 0).trans (((dats m hO 0 c).arrAt_in 0 rfl _).trans (A_eq m hO c 0)),
      (h.1 c).2 main_arg1 (by decide : main_arg1 ∈ Pipeline.restRefs sig spec0),
      (h.1 c).2 main_arg2 (by decide : main_arg2 ∈ Pipeline.restRefs sig spec0),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_main m ρ hO)

/-- The frame: every run ends, the arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run m ρ hO)

end Cert.MoeFrame

end
-- ==== Proof.MoeBits.lean ====
module

public import proofs.«01_k».proof.Defs
public import proofs.«01_k».proof.Proof.MoeFrame
public import proofs.«01_k».proof.Proof.Gen.Kernel9
public import proofs.«01_k».proof.Proof.Gen.Kernel9.Skeleton
public import proofs.«01_k».proof.Proof.Gen.Kernel9.Launch
public import proofs.«01_k».proof.Proof.Gen.Pre_experts_exist
public import Idealize.ShloMosaic.Lib.ReduceAll
public import Idealize.ShloMosaic.Lib.WordCmp
public import Idealize.ShloMosaic.Lib.Affine

@[expose] public section

/-! The experts' frames: the precondition keeps every block in its array, and the program is the same text at both kinds of float. -/

set_option maxRecDepth 16384

noncomputable section

namespace Cert.MoeBits

open Idealize.ShloMosaic Idealize.ShloMosaic.TcCoe Idealize.SL.Sem
open Cert.Kernel9Ideal Cert.Kernel9Ideal.Gen Cert.MoeGrid

variable {F : FTy → Type} [FloatOps F]

/-- The precondition read: every expert's number is below eight. -/
theorem below (x0 : FVec F S36352x1024 .f32) (x1 : IVec S71 32) (x2 : IVec S1 32) (x3 x4 : FVec F S8x1024x2816 .bf16) (x5 : FVec F S8x2816x1024 .bf16)
    (h : Cert.Pre_experts_exist.fn x0 x1 x2 x3 x4 x5 = fun _ => 1#1) (e : Fin 71) : (x1 (ix1 e)).toNat < 8 := by
  have e0 := congrFun h ix0
  unfold Cert.Pre_experts_exist.fn at e0
  have e1 := Host.reduce_andi_all _ _ _ _ _ e0 (ix1 e)
  have e2 : IntOp.andi (IntOp.cmpi .sge (x1 (ix1 e)) 0#32) (IntOp.cmpi .slt (x1 (ix1 e)) (BitVec.ofNat 32 8)) = 1#1 := e1
  rw [WordCmp.andi_sge_zero_slt_ofNat (by decide)] at e2
  exact (ofBool_one _).mp e2

variable (m : (ℓ : Loc nD τ sig) → Buf (Elt F) ℓ)

/-- The word a weight's index map reads: the expert of the point's block of rows. -/
theorem word_at (i : grid0.Coords) : (tbl m).at 0 (Rect.unit (s := S71) ![(Scalar.indexCast (BitVec.ofNat 32 (i 0).val)).toNat] S1.size (k0_off1_inb i)) numel1_S1
    = (tbl m 0 : IVec S71 32) (ix1 (i 0)) := by
  refine congrArg (tbl m 0 : IVec S71 32) (funext fun a => ?_)
  obtain rfl : a = (0 : Fin 1) := Subsingleton.elim (α := Fin 1) _ _
  have h0 : (Shape.Idx.first (s := S1) (numel1_S1.symm ▸ Nat.one_pos) (0 : Fin 1)).val < 1 := Fin.isLt _
  have h : (i 0).val < 71 := (i 0).isLt
  have e : (BitVec.ofNat 32 (i 0).val).toNat = (i 0).val := by rw [BitVec.toNat_ofNat]; omega
  refine Fin.ext ?_
  change (BitVec.ofNat 32 (i 0).val).toNat + (Shape.Idx.first (s := S1) (numel1_S1.symm ▸ Nat.one_pos) (0 : Fin 1)).val * 1 = (i 0).val
  omega

/-- The index maps of the weights. -/
theorem ix_1 (i : grid0.Coords) : cc0_transform_1 k0_off1_inb numel1_S1 (tbl m) i = ![((tbl m 0 : IVec S71 32) (ix1 (i 0))).toNat, 0, (i 1).val] := by
  rw [← word_at m i]
  have h : (i 1).val < 2 := (i 1).isLt
  have e : (BitVec.ofNat 32 (i 1).val).toNat = (i 1).val := by rw [BitVec.toNat_ofNat]; omega
  unfold cc0_transform_1
  dsimp only
  rw [e]; rfl
theorem ix_2 (i : grid0.Coords) : cc0_transform_2 k0_off1_inb numel1_S1 (tbl m) i = ![((tbl m 0 : IVec S71 32) (ix1 (i 0))).toNat, 0, (i 1).val] := ix_1 m i
theorem ix_3 (i : grid0.Coords) : cc0_transform_3 k0_off1_inb numel1_S1 (tbl m) i = ![((tbl m 0 : IVec S71 32) (ix1 (i 0))).toNat, (i 1).val, 0] := by
  rw [← word_at m i]
  have h : (i 1).val < 2 := (i 1).isLt
  have e : (BitVec.ofNat 32 (i 1).val).toNat = (i 1).val := by rw [BitVec.toNat_ofNat]; omega
  unfold cc0_transform_3
  dsimp only
  rw [e]; rfl

/-- Where every expert's number is below eight, every block lies in its array. -/
theorem ok_of (h : ∀ e : Fin 71, ((tbl m 0 : IVec S71 32) (ix1 e)).toNat < 8) : Ok m := by
  have A (i : grid0.Coords) (a : Fin 3) : (![((tbl m 0 : IVec S71 32) (ix1 (i 0))).toNat, 0, (i 1).val] a + 1) * S1x1024x1408.size a ≤ S8x1024x2816.size a := by
    have h0 := h (i 0)
    have h1 : (i 1).val < 2 := (i 1).isLt
    fin_cases a <;> simp <;> omega
  have B (i : grid0.Coords) (a : Fin 3) : (![((tbl m 0 : IVec S71 32) (ix1 (i 0))).toNat, (i 1).val, 0] a + 1) * S1x1408x1024.size a ≤ S8x2816x1024.size a := by
    have h0 := h (i 0)
    have h1 : (i 1).val < 2 := (i 1).isLt
    fin_cases a <;> simp <;> omega
  refine ⟨fun i => ⟨by rw [ix_1]; exact A i, .inr (Affine.block_words_dvd (of_decide_eq_true rfl) (by decide))⟩,
    fun i => ⟨by rw [ix_2]; exact A i, .inr (Affine.block_words_dvd (of_decide_eq_true rfl) (by decide))⟩,
    fun i => ⟨by rw [ix_3]; exact B i, .inr (Affine.block_words_dvd (of_decide_eq_true rfl) (by decide))⟩⟩

/-- The frame of the idealized program. -/
theorem ok_ideal (m : (ℓ : Loc nD τ sig) → Buf (Elt Ideal) ℓ) (h : Cert.Pre_Kernel9Ideal m) : Ok m :=
  ok_of m fun e => below _ _ _ _ _ _ (h 0) e
theorem frame_ideal : Cert.quiescent_Kernel9Ideal := fun m ρ h => MoeFrame.frame m ρ (ok_ideal m h)

/-- The two programs' body tables are the same. -/
theorem same_rows : @Cert.Kernel9.defs₀ Bits _ Cert.Kernel9.Gen.facts = @Cert.Kernel9Ideal.defs₀ Bits _ Cert.Kernel9Ideal.Gen.facts := by
  unfold Cert.Kernel9.defs₀ Cert.Kernel9Ideal.defs₀
  refine congrArg (Defs.onTc (nD := nD) (τ := τ) (sig := sig) (Λ := Λ₀)) (funext fun l => funext fun a => ?_)
  obtain rfl : l = (0 : Fin 1) := Subsingleton.elim (α := Fin 1) _ _
  rfl
theorem same_defs : @Cert.Kernel9.defs Bits _ Cert.Kernel9.Gen.facts = @Cert.Kernel9Ideal.defs Bits _ Cert.Kernel9Ideal.Gen.facts :=
  congrArg (Pipeline.defs (nD := nD) (τ := τ) (sig := sig) (pcfgs (F := Bits))) same_rows

/-- The frame of the program. -/
theorem frame_bits : Cert.quiescent_Kernel9 := fun m ρ h => by
  rw [same_defs]
  exact MoeFrame.frame (F := Bits) m ρ (ok_of m fun e => below (F := Bits) _ _ _ _ _ _ (h 0) e)

end Cert.MoeBits

end
-- ==== Proof.MoeSpec.lean ====
module

public import proofs.«01_k».proof.Proof.FfnSpec

@[expose] public section

/-! The experts' result, written entry by entry. -/

noncomputable section

namespace Cert.Moe

/-- Entry `k` of row `r`: rows come in blocks of 512, of which the first `n` are used, each by the feed-forward part of its expert;
    the others are zero. -/
def spec (n : ℤ) (E : Fin 71 → Fin 8) (x : Fin 36352 → Fin 1024 → EReal) (wg wu : Fin 8 → Fin 1024 → Fin 2816 → EReal)
    (wd : Fin 8 → Fin 2816 → Fin 1024 → EReal) (r : Fin 36352) (k : Fin 1024) : EReal :=
  if ((r.val / 512 : ℕ) : ℤ) < n then
    Ffn.part (x r) (wg (E ⟨r.val / 512, by omega⟩)) (wu (E ⟨r.val / 512, by omega⟩)) (wd (E ⟨r.val / 512, by omega⟩)) k
  else 0

end Cert.Moe

end
-- ==== Proof.MoeBlocks.lean ====
module

public import proofs.«01_k».proof.Proof.FfnSpec
public import proofs.«01_k».proof.Proof.MoeBits
public import Idealize.ShloMosaic.Lib.Pipeline.ValueKit

@[expose] public section

/-! What the experts' blocks hold and what the payloads make of them, entry by entry. -/

set_option maxRecDepth 16384

noncomputable section

namespace Cert.MoeBlocks

open Idealize.ShloMosaic Idealize.ShloMosaic.TcCoe Idealize.SL.Sem
open Cert.Kernel9Ideal Cert.Kernel9Ideal.Gen Cert.MoeGrid Cert.MoeBits

variable (v10 : FVec Ideal S512x1024 .f32) (v12 v23 : FVec Ideal S1x1024x1408 .bf16) (v27 : FVec Ideal S1x1408x1024 .bf16)
  (acc : FVec Ideal S512x1024 .f32)

/-- The product of the body: half of the hidden columns. -/
theorem part_at (r : Fin 512) (k : Fin 1024) :
    k0_pay1 (F := Ideal) v10 v12 v23 v27 (ix2 r k)
      = Ffn.part (fun i => v10 (ix2 r i)) (fun i f => v12 (ix3 0 i f)) (fun i f => v23 (ix3 0 i f)) (fun f l => v27 (ix3 0 f l)) k := by
  unfold Ffn.part Ffn.hid Ffn.silu
  pointwise [k0_pay1]
  simp only [zero_sub]

/-- The first point of a pair leaves its half. -/
theorem first_at (r : Fin 512) (k : Fin 1024) :
    k0_pay2 (F := Ideal) v10 v12 v23 v27 (ix2 r k) = k0_pay1 (F := Ideal) v10 v12 v23 v27 (ix2 r k) := by
  pointwise [k0_pay2]

/-- The second point of a pair adds its half. -/
theorem second_at (r : Fin 512) (k : Fin 1024) :
    k0_pay4 (F := Ideal) v10 v12 v23 v27 acc (ix2 r k) = acc (ix2 r k) + k0_pay1 (F := Ideal) v10 v12 v23 v27 (ix2 r k) := by
  pointwise [k0_pay4]

/-- A block that is not used is zero. -/
theorem zero_at (r : Fin 512) (k : Fin 1024) : k0_pay5 (F := Ideal) (ix2 r k) = 0 := by
  pointwise [k0_pay5]

variable (m : (ℓ : Loc nD τ sig) → Buf (Elt Ideal) ℓ) (hO : Ok m) (c : Dev nD)

/-- The rows. -/
def X : Fin 36352 → Fin 1024 → EReal := fun r k => (m ((c : Thread nD τ).loc main_arg0) : FVec Ideal S36352x1024 .f32) (ix2 r k)
/-- The gates' weights. -/
def Wg : Fin 8 → Fin 1024 → Fin 2816 → EReal := fun e i f => (m ((c : Thread nD τ).loc main_arg3) : FVec Ideal S8x1024x2816 .bf16) (ix3 e i f)
/-- The weights up. -/
def Wu : Fin 8 → Fin 1024 → Fin 2816 → EReal := fun e i f => (m ((c : Thread nD τ).loc main_arg4) : FVec Ideal S8x1024x2816 .bf16) (ix3 e i f)
/-- The weights down. -/
def Wd : Fin 8 → Fin 2816 → Fin 1024 → EReal := fun e f k => (m ((c : Thread nD τ).loc main_arg5) : FVec Ideal S8x2816x1024 .bf16) (ix3 e f k)

/-- The half a point works on. -/
def hf (t : Fin (cfgM m hO).N) : Fin 2 := ⟨t.val % 2, Nat.mod_lt _ (by omega)⟩

/-- The blocks of the input windows at each point. -/
theorem idx_0 (t : Fin (cfgM m hO).N) : ((cfgM m hO).win 0).index t = ![t.val / 2, 0] := by
  have ht : t.val < 142 := Nat.lt_of_lt_of_eq t.isLt N_0
  have e : (BitVec.ofNat 32 (t.val / 2)).toNat = t.val / 2 := by rw [BitVec.toNat_ofNat]; omega
  change cc0_transform_0 (grid0.coords t) = _
  unfold cc0_transform_0
  dsimp only
  rw [(co t).1, e]
  rfl
theorem idx_4 (t : Fin (cfgM m hO).N) : ((cfgM m hO).win 4).index t = ![t.val / 2, 0] := idx_0 m hO t
theorem idx_1 (t : Fin (cfgM m hO).N) : ((cfgM m hO).win 1).index t = ![((tbl m 0 : IVec S71 32) (ix1 (grid0.coords t 0))).toNat, 0, t.val % 2] := by
  rw [← (co t).2]
  exact ix_1 m (grid0.coords t)
theorem idx_2 (t : Fin (cfgM m hO).N) : ((cfgM m hO).win 2).index t = ![((tbl m 0 : IVec S71 32) (ix1 (grid0.coords t 0))).toNat, 0, t.val % 2] := by
  rw [← (co t).2]
  exact ix_2 m (grid0.coords t)
theorem idx_3 (t : Fin (cfgM m hO).N) : ((cfgM m hO).win 3).index t = ![((tbl m 0 : IVec S71 32) (ix1 (grid0.coords t 0))).toNat, t.val % 2, 0] := by
  rw [← (co t).2]
  exact ix_3 m (grid0.coords t)

/-- Row `r` of the rows' block. -/
theorem rows (t : Fin (cfgM m hO).N) (r : Fin 512) (k : Fin 1024) (h : 512 * (t.val / 2) + r.val < 36352) :
    (iblk m hO c 0 t : FVec Ideal S512x1024 .f32) (ix2 r k) = X m c ⟨512 * (t.val / 2) + r.val, h⟩ k := by
  unfold X
  blk_ext [iblk, V, idx_0 m hO t]

/-- The weights of a point: its half of the expert its block of rows names. -/
theorem gate (t : Fin (cfgM m hO).N) (i : Fin 1024) (f : Fin 1408) (e : Fin 8) (he : ((tbl m 0 : IVec S71 32) (ix1 (grid0.coords t 0))).toNat = e.val) :
    (iblk m hO c 1 t : FVec Ideal S1x1024x1408 .bf16) (ix3 0 i f) = Wg m c e i (Ffn.at_ (hf m hO t) f) := by
  unfold Wg Ffn.at_ hf
  blk_ext [iblk, V, idx_1 m hO t, he]
theorem up (t : Fin (cfgM m hO).N) (i : Fin 1024) (f : Fin 1408) (e : Fin 8) (he : ((tbl m 0 : IVec S71 32) (ix1 (grid0.coords t 0))).toNat = e.val) :
    (iblk m hO c 2 t : FVec Ideal S1x1024x1408 .bf16) (ix3 0 i f) = Wu m c e i (Ffn.at_ (hf m hO t) f) := by
  unfold Wu Ffn.at_ hf
  blk_ext [iblk, V, idx_2 m hO t, he]
theorem down (t : Fin (cfgM m hO).N) (f : Fin 1408) (k : Fin 1024) (e : Fin 8) (he : ((tbl m 0 : IVec S71 32) (ix1 (grid0.coords t 0))).toNat = e.val) :
    (iblk m hO c 3 t : FVec Ideal S1x1408x1024 .bf16) (ix3 0 f k) = Wd m c e (Ffn.at_ (hf m hO t) f) k := by
  unfold Wd Ffn.at_ hf
  blk_ext [iblk, V, idx_3 m hO t, he]

/-- The product of a point's body: its half for the point's row. -/
theorem half_at (t : Fin (cfgM m hO).N) (r : Fin 512) (k : Fin 1024) (h : 512 * (t.val / 2) + r.val < 36352)
    (e : Fin 8) (he : ((tbl m 0 : IVec S71 32) (ix1 (grid0.coords t 0))).toNat = e.val) :
    k0_pay1 (F := Ideal) (iblk m hO c 0 t) (iblk m hO c 1 t) (iblk m hO c 2 t) (iblk m hO c 3 t) (ix2 r k)
      = Ffn.half (hf m hO t) (X m c ⟨512 * (t.val / 2) + r.val, h⟩) (Wg m c e) (Wu m c e) (Wd m c e) k := by
  refine (part_at _ _ _ _ r k).trans ?_
  unfold Ffn.half
  simp only [rows m hO c t r _ h, gate m hO c t _ _ e he, up m hO c t _ _ e he, down m hO c t _ _ e he]

end Cert.MoeBlocks

end
-- ==== Proof.MoeFold.lean ====
module

public import proofs.«01_k».proof.Proof.MoeSpec
public import proofs.«01_k».proof.Proof.MoeBlocks

@[expose] public section

/-! The experts' result array: a used block of rows holds what its expert makes of them, the others zero. -/

set_option maxRecDepth 16384

noncomputable section

namespace Cert.MoeFold

open Idealize.ShloMosaic Idealize.ShloMosaic.TcCoe Idealize.SL.Sem
open Cert.Kernel9Ideal Cert.Kernel9Ideal.Gen Cert.MoeRun Cert.MoeGrid Cert.MoeBits Cert.MoeBlocks

variable (m : (ℓ : Loc nD τ sig) → Buf (Elt Ideal) ℓ) (hO : Ok m) (c : Dev nD)

/-- The number of blocks used. -/
def cnt : ℤ := ((m ((c : Thread nD τ).loc main_arg2) : IVec S1 32) (ix1 0)).toInt

variable (E : Fin 71 → Fin 8) (hE : ∀ e : Fin 71, ((tbl m 0 : IVec S71 32) (ix1 e)).toNat = (E e).val)

include hE

/-- What the second point of a pair writes, at an entry. -/
theorem pair (t : Fin (cfgM m hO).N) (h1 : t.val % 2 = 1) (r : Fin 512) (k : Fin 1024) (h : 512 * (t.val / 2) + r.val < 36352) :
    MoeFrame.outAt m hO c t (ix2 r k)
      = Moe.spec (cnt m c) E (X m c) (Wg m c) (Wu m c) (Wd m c) ⟨512 * (t.val / 2) + r.val, h⟩ k := by
  obtain rfl : c = 0 := Subsingleton.elim _ _
  have ht : t.val < 142 := Nat.lt_of_lt_of_eq t.isLt N_0
  have q : (512 * (t.val / 2) + r.val) / 512 = t.val / 2 := by omega
  have hn : nu (0 : Dev nD) (tbl m 1) = (tbl m 1 : IVec S1 32) (ix1 0) :=
    congrArg (tbl m 1 : IVec S1 32) (funext fun a => by obtain rfl : a = (0 : Fin 1) := Subsingleton.elim (α := Fin 1) _ _; exact Fin.ext (by simp))
  have hu : MoeFrame.Live m 0 t ↔ ((t.val / 2 : ℕ) : ℤ) < cnt m 0 := (used_iff t (nu 0 (tbl m 1))).trans (by rw [hn]; rfl)
  unfold Moe.spec MoeFrame.outAt
  simp only [q]
  by_cases hl : MoeFrame.Live m 0 t
  · rw [if_pos hl, if_pos (hu.mp hl)]
    have hp : t.val - 1 < (cfgM m hO).N := Nat.lt_of_le_of_lt (Nat.sub_le _ _) t.isLt
    have d0 : 512 * ((t.val - 1) / 2) + r.val = 512 * (t.val / 2) + r.val := by omega
    have e0 : hf m hO ⟨t.val - 1, hp⟩ = 0 := Fin.ext (by change (t.val - 1) % 2 = 0; omega)
    have e1 : hf m hO t = 1 := Fin.ext h1
    have g1 : grid0.coords t 0 = (⟨t.val / 2, by omega⟩ : Fin 71) := Fin.ext (co t).1
    have g0 : grid0.coords ⟨t.val - 1, hp⟩ 0 = (⟨t.val / 2, by omega⟩ : Fin 71) := Fin.ext ((co ⟨t.val - 1, hp⟩).1.trans (by dsimp only; omega))
    have A := half_at m hO 0 t r k h (E ⟨t.val / 2, by omega⟩) (by rw [g1]; exact hE _)
    have B := half_at m hO 0 ⟨t.val - 1, hp⟩ r k (lt_of_eq_of_lt d0 h) (E ⟨t.val / 2, by omega⟩) (by rw [g0]; exact hE _)
    refine (second_at _ _ _ _ _ r k).trans ?_
    unfold MoeFrame.accAt
    refine (congrArg₂ (· + ·) ((first_at _ _ _ _ r k).trans B) A).trans ?_
    simp only [e0, e1, d0]
    exact Ffn.halves _ _ _ _ k
  · rw [if_neg hl, if_neg fun e => hl (hu.mpr e)]
    exact zero_at r k

omit hE in
/-- The result array. -/
def G : FVec Ideal S36352x1024 .f32 := fun y => Moe.spec (cnt m c) E (X m c) (Wg m c) (Wu m c) (Wd m c) (y 0) (y 1)

omit hE in
/-- Every row lies in the block of a point that writes back. -/
theorem cover (r : Fin 36352) : 2 * (r.val / 512) + 1 < (cfgM m hO).N := lt_of_lt_of_eq (b := 142) (by omega) N_0.symm

theorem final : (MoeFrame.dats m hO 0 c).arrAt 4 (cfgM m hO).N = G m c E := by
  have hc : ∀ i : S36352x1024.Idx, ∃ t : Fin (cfgM m hO).N, ((cfgM m hO).win 4).flush t = true ∧ ((cfgM m hO).win 4).arr.view.emb i ∈ (((cfgM m hO).win 4).blk t).view.set := by
    intro i
    obtain ⟨r, k, rfl⟩ : ∃ (r : Fin 36352) (k : Fin 1024), i = ix2 r k := ⟨i 0, i 1, eq_ix2 i⟩
    refine ⟨⟨2 * (r.val / 512) + 1, cover m hO r⟩, (flush0_4 (adm m hO) _).mpr (by dsimp only; omega), ?_⟩
    refine (((cfgM m hO).win 4).emb_mem_blk_iff _ _ rfl).mpr fun a => ?_
    rw [idx_4 m hO]
    match a with
    | ⟨0, _⟩ =>
      change (2 * (r.val / 512) + 1) / 2 * 512 ≤ r.val ∧ r.val < (2 * (r.val / 512) + 1) / 2 * 512 + 512
      omega
    | ⟨1, _⟩ =>
      change 0 * 1024 ≤ k.val ∧ k.val < 0 * 1024 + 1024
      omega
  refine (MoeFrame.dats m hO 0 c).arrAt_eq_of_emb 4 _ (fun t hf y => ?_) fun i => hc i
  have h1 := (flush0_4 (adm m hO) t).mp hf
  have ht : t.val < 142 := Nat.lt_of_lt_of_eq t.isLt N_0
  obtain ⟨r, k, rfl⟩ : ∃ (r : Fin 512) (k : Fin 1024), y = ix2 r k := ⟨(show S512x1024.Idx from y) 0, (show S512x1024.Idx from y) 1, eq_ix2 (show S512x1024.Idx from y)⟩
  blk_simp
  rw [MoeFrame.after0_4]
  refine (pair m hO c E hE t h1 r k (by omega)).trans ?_
  have e0 : (((cfgM m hO).win 4).blk t).view.emb (ix2 r k) = (ix2 (⟨512 * (t.val / 2) + r.val, by omega⟩ : Fin 36352) k : S36352x1024.Idx) := by
    blk_ext [idx_4 m hO t]
  rw [e0]
  rfl

end Cert.MoeFold

end
-- ==== Proof.MoeRef.lean ====
module

public import proofs.«01_k».proof.Proof.FfnSpec
public import proofs.«01_k».proof.Proof.MoeSpec
public import proofs.«01_k».proof.Proof.MoeGrid
public import proofs.«01_k».proof.Proof.Gen.Reference9Ideal.Run
public import Idealize.ShloMosaic.Lib.Routing.Ops

@[expose] public section

/-! What the experts' reference computes, entry by entry. -/

set_option maxRecDepth 16384

noncomputable section

namespace Cert.MoeRef

open Idealize.ShloMosaic Idealize.ShloMosaic.TcCoe Idealize.SL.Sem
open Cert.Reference9Ideal Cert.Reference9Ideal.Gen Cert.Reference9Ideal.Value

/-- Which matrix each of `n` positions takes of a stack of `nb`: where the indices hold a number below `nb`, the one of that number. -/
theorem stack {α : Type} {nb A B n : Nat} (wf : GatherDims.WF ⟨3, ![nb, A, B]⟩ ⟨2, ![n, 1]⟩ ⟨3, ![n, A, B]⟩ [1, 2] [0] [] [0] [] 1 ![1, A, B])
    (x : (⟨3, ![nb, A, B]⟩ : Shape).Idx → α) (idx : IVec ⟨2, ![n, 1]⟩ 32)
    (c : Fin n) (p : Fin A) (q : Fin B) (b : Fin nb) (hb : (idx (ix2 c (0 : Fin 1))).toNat = b.val) (hnb : nb < 2 ^ 31) :
    Host.gather (⟨[1, 2], [0], [], [], [0], 1, ![1, A, B], wf⟩ : GatherDims ⟨3, ![nb, A, B]⟩ ⟨2, ![n, 1]⟩ ⟨3, ![n, A, B]⟩) x idx (ix3 c p q) = x (ix3 b p q) := by
  unfold Host.gather
  refine congrArg x (funext fun a => Fin.ext ?_)
  match a with
  | ⟨0, _⟩ =>
    show GatherDims.start _ _ idx 0 + GatherDims.batchCoord _ _ 0 + GatherDims.offCoord _ _ 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi (D : GatherDims ⟨3, ![nb, A, B]⟩ ⟨2, ![n, 1]⟩ ⟨3, ![n, A, B]⟩) (hD : D = ⟨[1, 2], [0], [], [], [0], 1, ![1, A, B], wf⟩) (h) :
        D.siIdx (ix3 c p q) ⟨List.idxOf 0 D.startIndexMap, h⟩ = ix2 c (0 : Fin 1) := by
      subst hD
      funext b'
      refine Fin.ext ?_
      match b' with
      | ⟨0, _⟩ => rfl
      | ⟨1, _⟩ => rfl
    have hbl := b.isLt
    have hi : (idx (ix2 c (0 : Fin 1))).toInt = b.val := by rw [BitVec.toInt_eq_toNat_cond, hb]; omega
    rw [hsi _ rfl, hi]
    show min ((b.val : Int)).toNat (nb - 1) = b.val
    omega
  | ⟨1, _⟩ =>
    show GatherDims.start _ _ idx 1 + GatherDims.batchCoord _ _ 1 + GatherDims.offCoord _ _ 1 = p.val
    rw [GatherDims.batchCoord_eq_zero _ _ _ List.not_mem_nil, Nat.add_zero]
    unfold GatherDims.start
    rw [dif_neg (fun h => absurd (congrArg Fin.val (List.mem_singleton.mp h)) (Nat.succ_ne_zero 0)), Nat.zero_add]
    rfl
  | ⟨2, _⟩ =>
    show GatherDims.start _ _ idx 2 + GatherDims.batchCoord _ _ 2 + GatherDims.offCoord _ _ 2 = q.val
    rw [GatherDims.batchCoord_eq_zero _ _ _ List.not_mem_nil, Nat.add_zero]
    unfold GatherDims.start
    rw [dif_neg (fun h => absurd (congrArg Fin.val (List.mem_singleton.mp h)) (Nat.succ_ne_zero 1)), Nat.zero_add]
    rfl

variable (x0 : FVec Ideal S36352x1024 .f32) (x1 : IVec S71 32) (x2 : IVec S1 32) (x3 x4 : FVec Ideal S8x1024x2816 .bf16) (x5 : FVec Ideal S8x2816x1024 .bf16)

/-- The experts' numbers as indices. -/
def ids : IVec S71x1 32 :=
  broadcastInDim S71x1 ![0] bcast_S71_S71x1_0 (select (cmpi .slt x1 (broadcastInDim S71 ![] bcast_S_S71 (constantI S_ 32 0#32)))
    (addi x1 (broadcastInDim S71 ![] bcast_S_S71 (constantI S_ 32 8#32))) x1)

/-- The weights each block of rows takes. -/
def takeUp (w : FVec Ideal S8x1024x2816 .bf16) : FVec Ideal S71x1024x2816 .f32 :=
  Host.gather gather_S8x1024x2816_S71x1_S71x1024x2816_12_0_n_n_0_1_110242816 (extf .f32 w bitsLt_bf16_f32) (ids x1)
def takeDown : FVec Ideal S71x2816x1024 .f32 :=
  Host.gather gather_S8x2816x1024_S71x1_S71x2816x1024_12_0_n_n_0_1_128161024 (extf .f32 x5 bitsLt_bf16_f32) (ids x1)

/-- The products with them, block by block. -/
def proj (w : FVec Ideal S8x1024x2816 .bf16) : FVec Ideal S71x512x2816 .f32 :=
  Host.dotGeneral dot_S71x512x1024_S71x1024x2816_S71x512x2816_2_1_1_2_0_0 none (shapeCast _ x0 shapeCasts_S36352x1024_S71x512x1024) (takeUp x1 w)

/-- What the experts make of the blocks. -/
def experts : FVec Ideal S71x512x1024 .f32 :=
  Host.dotGeneral dot_S71x512x2816_S71x2816x1024_S71x512x1024_2_1_1_2_0_0 none
    (mulf (mulf (proj x0 x1 x3) (Host.divf (broadcastInDim S71x512x2816 ![] bcast_S_S71x512x2816 (constant S_ .f32 0x3F800000#32))
      (addf (broadcastInDim S71x512x2816 ![] bcast_S_S71x512x2816 (constant S_ .f32 0x3F800000#32)) (Host.exp (Host.negf (proj x0 x1 x3))))))
      (proj x0 x1 x4)) (takeDown x1 x5)

/-- The result: the used blocks' rows, the others zero. -/
def res : FVec Ideal S36352x1024 .f32 :=
  shapeCast _ (select (broadcastInDim S71x512x1024 ![0, 1, 2] bcast_S71x1x1_S71x512x1024_0_1_2
      (broadcastInDim S71x1x1 ![0] bcast_S71_S71x1x1_0 (cmpi .slt (iotaInDim S71 32 0) (broadcastInDim S71 ![0] bcast_S1_S71_0 x2))))
    (experts x0 x1 x3 x4 x5) (broadcastInDim S71x512x1024 ![] bcast_S_S71x512x1024 (id (constant S_ .f32 0x00000000#32))))
    shapeCasts_S71x512x1024_S36352x1024

variable (E : Fin 71 → Fin 8) (hE : ∀ e : Fin 71, (x1 (ix1 e)).toNat = (E e).val)
include hE

/-- A number below eight is its own index. -/
theorem ids_at (e : Fin 71) : (ids x1 (ix2 e (0 : Fin 1))).toNat = (E e).val := by
  have h := (E e).isLt
  have e1 : ids x1 (ix2 e (0 : Fin 1)) = x1 (ix1 e) := by
    have hs : ¬(x1 (ix1 e)).toInt < (0#32 : BitVec 32).toInt := by
      have h2 : (x1 (ix1 e)).toInt = (E e).val := by rw [BitVec.toInt_eq_toNat_cond, hE]; omega
      simp [h2]
    pointwise [ids]
    unfold Scalar.select
    exact if_neg fun h => hs ((MoeGrid.ofBool_one _).mp h)
  rw [e1, hE]

theorem takeUp_at (w : FVec Ideal S8x1024x2816 .bf16) (e : Fin 71) (i : Fin 1024) (f : Fin 2816) :
    takeUp x1 w (ix3 e i f) = w (ix3 (E e) i f) :=
  stack _ _ _ e i f (E e) (ids_at x1 E hE e) (by decide)
theorem takeDown_at (e : Fin 71) (f : Fin 2816) (k : Fin 1024) :
    takeDown x1 x5 (ix3 e f k) = x5 (ix3 (E e) f k) :=
  stack _ _ _ e f k (E e) (ids_at x1 E hE e) (by decide)

/-- An entry of a block's projections. -/
theorem proj_at (w : FVec Ideal S8x1024x2816 .bf16) (e : Fin 71) (r : Fin 512) (f : Fin 2816) :
    proj x0 x1 w (ix3 e r f) = ∑ i : Fin 1024, x0 (ix2 (⟨512 * e.val + r.val, by omega⟩ : Fin 36352) i) * w (ix3 (E e) i f) := by
  simp only [← takeUp_at x1 E hE]
  have e0 : (⟨512 * e.val + r.val, by omega⟩ : Fin 36352) = ⟨e.val * 512 + r.val, by omega⟩ := Fin.ext (by dsimp only; omega)
  rw [e0]
  pointwise [proj]

/-- An entry of what the experts make of a block. -/
theorem experts_at (e : Fin 71) (r : Fin 512) (k : Fin 1024) :
    experts x0 x1 x3 x4 x5 (ix3 e r k)
      = Ffn.part (fun i => x0 (ix2 (⟨512 * e.val + r.val, by omega⟩ : Fin 36352) i)) (fun i f => x3 (ix3 (E e) i f))
        (fun i f => x4 (ix3 (E e) i f)) (fun f l => x5 (ix3 (E e) f l)) k := by
  unfold Ffn.part Ffn.hid Ffn.silu
  simp only [← proj_at x0 x1 E hE, ← takeDown_at x1 x5 E hE]
  pointwise [experts]

/-- An entry of the result. -/
theorem res_at (r : Fin 36352) (k : Fin 1024) :
    res x0 x1 x2 x3 x4 x5 (ix2 r k) = Moe.spec (x2 (ix1 0)).toInt E (fun r i => x0 (ix2 r i)) (fun e i f => x3 (ix3 e i f))
      (fun e i f => x4 (ix3 e i f)) (fun e f l => x5 (ix3 e f l)) r k := by
  have hr := r.isLt
  have e0 : (⟨512 * (r.val / 512) + r.val % 512, by omega⟩ : Fin 36352) = r := Fin.ext (by dsimp only; omega)
  have hx := experts_at x0 x1 x3 x4 x5 E hE ⟨r.val / 512, by omega⟩ ⟨r.val % 512, by omega⟩ k
  simp only [e0] at hx
  unfold Moe.spec
  rw [← hx]
  have hz : (constant S_ .f32 0x00000000#32 : FVec Ideal S_ .f32) ix0 = 0 := by pointwise
  have hw : IntOp.cmpi .slt (BitVec.ofNat 32 (r.val / 512)) (x2 (ix1 0)) = 1#1 ↔ ((r.val / 512 : ℕ) : ℤ) < (x2 (ix1 0)).toInt := by
    have e : (BitVec.ofNat 32 (r.val / 512)).toInt = ((r.val / 512 : ℕ) : ℤ) := by
      rw [BitVec.toInt_eq_toNat_cond, BitVec.toNat_ofNat]; omega
    simp [IntOp.cmpi, BitVec.slt, e, MoeGrid.ofBool_one]
  pointwise [res]
  unfold Scalar.select
  simp only [id, hz]
  exact if_congr hw rfl rfl

end Cert.MoeRef

end
-- ==== Proof.MoeClaim.lean ====
module

public import proofs.«01_k».proof.Defs
public import proofs.«01_k».proof.Proof.MoeFold
public import proofs.«01_k».proof.Proof.MoeRef
public import Idealize.ShloMosaic.Lib.Claim

@[expose] public section

/-! The two programs of the experts end with equal results: both are `Moe.spec` of the arguments. -/

set_option maxRecDepth 16384

noncomputable section

namespace Cert.MoeClaim

open Idealize.ShloMosaic Idealize.ShloMosaic.TcCoe Idealize.SL.Sem

/-- The reference's frame: its run leaves the arguments as they were, and it has no semaphore. -/
theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The two programs compute the same. -/
theorem algebraic : Cert.algebraic_Kernel9Ideal_Reference9Ideal := by
  intro m ρ m' ρ' hpre hagree
  have hb := fun e => MoeBits.below _ _ _ _ _ _ (hpre 0) e
  have hO := MoeBits.ok_ideal m hpre
  let E : Fin 71 → Fin 8 := fun e => ⟨_, hb e⟩
  refine ⟨fun c => MoeFold.G m c E, ?_, ?_⟩
  · refine (θ_run _ _ _).mono (fun _ h c => ⟨(h.1 c).1.trans (MoeFold.final m hO c E fun _ => rfl), (h.1 c).2⟩) (MoeFrame.run m ρ hO)
  · refine (θ_run _ _ _).mono (fun _ h c => ⟨(h c).1.trans ?_, (h c).2⟩) (Cert.Reference9Ideal.Value.run (F := Ideal) m' ρ')
    obtain rfl : c = 0 := Subsingleton.elim _ _
    obtain ⟨h0, h1, h2, h3, h4, h5⟩ := hagree 0
    rw [h0, h1, h2, h3, h4, h5]
    funext y
    obtain ⟨r, k, rfl⟩ : ∃ (r : Fin 36352) (k : Fin 1024), y = ix2 r k := ⟨y 0, y 1, eq_ix2 y⟩
    exact MoeRef.res_at _ _ _ _ _ _ E (fun _ => rfl) r k

end Cert.MoeClaim

end
-- ==== Proof.MobaInPoint.lean ====
module

public import proofs.«01_k».proof.Proof.MmSpec
public import proofs.«01_k».proof.Proof.Gen.Kernel10Ideal.Value
public import Idealize.ShloMosaic.Lib.Pipeline.ValueKit

@[expose] public section

/-! What a point of the projections into the block attention leaves in its four blocks, at an entry. -/

set_option maxRecDepth 16384

noncomputable section

namespace Cert.MobaInPoint

open Idealize.ShloMosaic Idealize.ShloMosaic.TcCoe Idealize.SL.Sem
open Cert.Kernel10Ideal Cert.Kernel10Ideal.Gen

variable (c : Dev nD) (i : grid0.Coords) (arg1 : Memref sig .tc .vmem S256x1024 .f32) (harg1 : arg1.IsWhole) (arg2 : Memref sig .tc .vmem S512x1024 .bf16) (harg2 : arg2.IsWhole) (arg3 : Memref sig .tc .vmem S1024x512 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S8x1x256x128 .bf16) (harg6 : arg6.IsWhole) (arg7 : Memref sig .tc .vmem S1x1x512 .f32) (harg7 : arg7.IsWhole) (arg8 : Memref sig .tc .vmem S8x1x80x256 .bf16) (harg8 : arg8.IsWhole) (arg9 : Memref sig .tc .vmem S1x1x128 .f32) (harg9 : arg9.IsWhole) (arg10 : Memref sig .tc .vmem S1x128x1 .f32) (harg10 : arg10.IsWhole)
  (x0 : Vec Ideal S256x1024 .f32) (x1 : Vec Ideal S512x1024 .bf16) (x2 : Vec Ideal S1024x512 .bf16) (x3 : Vec Ideal S512x1024 .bf16)

/-- The queries. -/
theorem q_at (j : Fin 512) (r : Fin 256) :
    out0_A_4 (F := Ideal) c i arg1 harg1 arg2 harg2 arg3 harg3 arg4 harg4 arg5 harg5 arg6 harg6 arg7 harg7 arg8 harg8 arg9 harg9 arg10 harg10 x0 x1 x2 x3 (ix2 j r)
      = ∑ k : Fin 1024, x1 (ix2 j k) * x0 (ix2 r k) := by
  frame_out
  pointwise [k0_pay3, k0_pay2]

/-- The mean of the keys. -/
theorem mean_at (j : Fin 512) :
    out0_A_6 (F := Ideal) c i arg1 harg1 arg2 harg2 arg3 harg3 arg4 harg4 arg5 harg5 arg6 harg6 arg7 harg7 arg8 harg8 arg9 harg9 arg10 harg10 x0 x1 x2 x3 (ix3 0 0 j)
      = Ideal.div (∑ r : Fin 256, ∑ k : Fin 1024, x0 (ix2 r k) * x2 (ix2 k j)) (Ideal.ofBits FTy.f32 0x43800000#32) := by
  frame_out
  pointwise [k0_pay16, k0_pay15, k0_pay2]

/-- The lane that holds the row of ones. -/
theorem one_lane : ∀ d : Fin 80, ¬ d.val < 64 →
    IntOp.cmpi CmpIPredicate.eq (BitVec.ofNat 32 (d.val - 64)) 0#32 = if d.val = 64 then 1#1 else 0#1 := by
  decide +kernel

/-- The lanes that hold the positions. -/
theorem pos_lane : ∀ d : Fin 128, ¬ d.val < 64 →
    IntOp.ori (IntOp.cmpi CmpIPredicate.eq (BitVec.ofNat 32 d.val) 64#32) (IntOp.cmpi CmpIPredicate.eq (BitVec.ofNat 32 d.val) 65#32)
      = if d.val < 66 then 1#1 else 0#1 := by
  decide +kernel

/-- A head of the values, and the rows below it. -/
theorem v_cast (A : FVec Ideal S512x256 .f32) (o : Nat) (hs : S512x256.Slices ![o, 0] S64x256) (d : Fin 80) (r : Fin 256) (ho : d.val < 64 → o + d.val < 512) :
    shapeCast S1x1x80x256 (truncf .bf16 (concatenate S80x256 0 [⟨S64x256, (extractStridedSlice S64x256 ![o, 0] A hs : FVec Ideal S64x256 .f32)⟩,
        ⟨S16x256, k0_pay5 (F := Ideal)⟩] concatenates_S64x256_S16x256_S80x256_d0 : FVec Ideal S80x256 .f32) bitsLt_bf16_f32 : FVec Ideal S80x256 .bf16)
      shapeCasts_S80x256_S1x1x80x256 (ix4 0 0 d r) = if h : d.val < 64 then A (ix2 ⟨o + d.val, ho h⟩ r) else if d.val = 64 then 1 else 0 := by
  pointwise [k0_pay5]
  by_cases h : d.val < 64
  · rw [dif_pos h, dif_pos h]
  · rw [dif_neg h, dif_neg h, one_lane d h]
    split <;> rfl

/-- A head of the keys. -/
theorem k_cast (A : FVec Ideal S256x512 .bf16) (o : Nat) (hs : S256x512.Slices ![0, o] S256x64) (d : Fin 64) (r : Fin 256) (ho : o + d.val < 512) :
    shapeCast S1x1x256x64 (extractStridedSlice S256x64 ![0, o] A hs : FVec Ideal S256x64 .bf16)
      shapeCasts_S256x64_S1x1x256x64 (ix4 0 0 r d) = A (ix2 r ⟨o + d.val, ho⟩) := by
  pointwise

/-- The lanes beside a head's keys. -/
theorem pos_cast (d : Fin 128) (r : Fin 256) (hd : ¬ d.val < 64) :
    shapeCast S1x1x256x128 (k0_pay17 (F := Ideal)) shapeCasts_S256x128_S1x1x256x128 (ix4 0 0 r d)
      = if d.val < 66 then (FloatOps.sitofp FTy.f32 (BitVec.ofNat 32 r.val) : Ideal .f32) else 0 := by
  pointwise [k0_pay17]
  rw [pos_lane d hd]
  split <;> rfl

/-- The keys' product. -/
theorem kk_at (x0 : FVec Ideal S256x1024 .f32) (r : Fin 256) (d : Fin 512) :
    k0_pay18 (k0_pay2 x0) x2 (ix2 r d) = ∑ k : Fin 1024, x0 (ix2 r k) * x2 (ix2 k d) := by
  pointwise [k0_pay18, k0_pay15, k0_pay2]

/-- The values' product. -/
theorem vv_at (x0 : FVec Ideal S256x1024 .f32) (r : Fin 256) (d : Fin 512) :
    k0_pay4 x0 x3 (ix2 d r) = ∑ k : Fin 1024, x3 (ix2 d k) * x0 (ix2 r k) := by
  pointwise [k0_pay4, k0_pay2]

/-- The values: a head's rows, a row of ones, and rows of zeros. -/
theorem v_at (h : Fin 8) (d : Fin 80) (r : Fin 256) :
    out0_A_7 (F := Ideal) c i arg1 harg1 arg2 harg2 arg3 harg3 arg4 harg4 arg5 harg5 arg6 harg6 arg7 harg7 arg8 harg8 arg9 harg9 arg10 harg10 x0 x1 x2 x3 (ix4 h 0 d r)
      = if hd : d.val < 64 then ∑ k : Fin 1024, x3 (ix2 ⟨64 * h.val + d.val, by omega⟩ k) * x0 (ix2 r k) else if d.val = 64 then 1 else 0 := by
  generalize hy : (ix4 h 0 d r : S8x1x80x256.Idx) = y
  have e0 : (y 0).val = h.val := by rw [← hy]; rfl
  have e2 : (y 2).val = d.val := by rw [← hy]; rfl
  have e3 : (y 3).val = r.val := by rw [← hy]; rfl
  clear hy
  frame_out
  canon_tiles x q
  all_goals
    have z : (x 0).val = 0 := by omega
    rw [z] at q0
    have q0' := e0.symm.trans q0
    obtain rfl : x = ix4 0 0 d r := by idx_ext
    refine (v_cast (k0_pay4 x0 x3) _ _ d r ?_).trans (dite_congr rfl (fun hd => Eq.trans ?_ (vv_at x3 x0 r ⟨64 * h.val + d.val, by omega⟩)) fun _ => rfl)
    rotate_left
    · refine congrArg (fun z => k0_pay4 x0 x3 (ix2 z r)) (Fin.ext ?_)
      dsimp only
      clear * - q0'
      omega
  all_goals omega

/-- A pair of stores, the lanes of a head over a whole row of lanes, read at a head's lane. -/
theorem first_lane (n : Nat) (inb : ∀ a, (![n, 0, 0, 0] : Fin 4 → Nat) a + (![1, 1, 256, 64] : Fin 4 → Nat) a ≤ S8x1x256x128.size a)
    (w : S1x1x256x64.Idx → EReal) (inb' : ∀ a, (![n, 0, 0, 0] : Fin 4 → Nat) a + (![1, 1, 256, 128] : Fin 4 → Nat) a ≤ S8x1x256x128.size a)
    (p : S1x1x256x128.Idx → EReal) (L : List (View.Piece (Elt Ideal) S8x1x256x128 .bf16)) (h : Fin 8) (r : Fin 256) (d : Fin 128) (v : EReal) (hy : d.val < 64)
    (h1 : h.val = n → w (ix4 0 0 r ⟨d.val, hy⟩) = v) (h2 : h.val ≠ n → View.canon L (ix4 h 0 r d) = v) :
    View.canon ((⟨Rect.unit ![n, 0, 0, 0] ![1, 1, 256, 64] inb, w⟩ : View.Piece (Elt Ideal) S8x1x256x128 .bf16)
      :: ⟨Rect.unit ![n, 0, 0, 0] ![1, 1, 256, 128] inb', p⟩ :: L) (ix4 h 0 r d) = v := by
  by_cases hn : h.val = n
  · have e : (ix4 h 0 r d : S8x1x256x128.Idx) = (Rect.unit ![n, 0, 0, 0] ![1, 1, 256, 64] inb : Rect S8x1x256x128).emb (ix4 0 0 r ⟨d.val, hy⟩ : S1x1x256x64.Idx) := by
      funext a
      refine Fin.ext ((?_ : _ = _).trans (Rect.idx_unit_val _ _ inb (ix4 0 0 r ⟨d.val, hy⟩ : S1x1x256x64.Idx) a).symm)
      match a with
      | 0 => exact hn
      | 1 => rfl
      | 2 => exact (Nat.zero_add _).symm
      | 3 => exact (Nat.zero_add _).symm
    rw [e, View.canon_cons_emb]
    exact h1 hn
  · have off : ∀ (z : Fin 4 → Nat) (hz : z 0 = 1) (b : ∀ a, (![n, 0, 0, 0] : Fin 4 → Nat) a + z a ≤ S8x1x256x128.size a),
        (ix4 h 0 r d : S8x1x256x128.Idx) ∉ (Rect.unit ![n, 0, 0, 0] z b : Rect S8x1x256x128).set := by
      intro z hz b hm
      have := Rect.mem_set_unit.mp hm 0
      change n ≤ h.val ∧ h.val < n + z 0 at this
      omega
    refine (View.canon_cons_of_not_mem (⟨Rect.unit ![n, 0, 0, 0] ![1, 1, 256, 64] inb, w⟩ : View.Piece (Elt Ideal) S8x1x256x128 .bf16) _ (off ![1, 1, 256, 64] rfl inb)).trans ?_
    refine (View.canon_cons_of_not_mem (⟨Rect.unit ![n, 0, 0, 0] ![1, 1, 256, 128] inb', p⟩ : View.Piece (Elt Ideal) S8x1x256x128 .bf16) _ (off ![1, 1, 256, 128] rfl inb')).trans ?_
    exact h2 hn

/-- The keys: a head's lanes, and beside them the positions and zeros. -/
theorem k_at (h : Fin 8) (r : Fin 256) (d : Fin 128) :
    out0_A_5 (F := Ideal) c i arg1 harg1 arg2 harg2 arg3 harg3 arg4 harg4 arg5 harg5 arg6 harg6 arg7 harg7 arg8 harg8 arg9 harg9 arg10 harg10 x0 x1 x2 x3 (ix4 h 0 r d)
      = if hd : d.val < 64 then ∑ k : Fin 1024, x0 (ix2 r k) * x2 (ix2 k ⟨64 * h.val + d.val, by omega⟩)
        else if d.val < 66 then (FloatOps.sitofp FTy.f32 (BitVec.ofNat 32 r.val) : Ideal .f32) else 0 := by
  by_cases hd : d.val < 64
  · rw [dif_pos hd, ← kk_at x2 x0 r ⟨64 * h.val + d.val, by omega⟩]
    frame_out
    iterate 8
      refine first_lane _ _ _ _ _ _ h r d _ hd (fun hn => ?_) fun hn => ?_
      · refine (k_cast (k0_pay18 (k0_pay2 x0) x2) _ (by decide) ⟨d.val, hd⟩ r ?_).trans ?_
        rotate_left
        · refine congrArg (fun z => k0_pay18 (k0_pay2 x0) x2 (ix2 r z)) (Fin.ext ?_)
          dsimp only
          clear * - hn
          omega
        · dsimp only
          omega
    omega
  · rw [dif_neg hd]
    generalize hy : (ix4 h 0 r d : S8x1x256x128.Idx) = y
    have e2 : (y 2).val = r.val := by rw [← hy]; rfl
    have e3 : (y 3).val = d.val := by rw [← hy]; rfl
    have e0 : (y 0).val = h.val := by rw [← hy]; rfl
    clear hy
    frame_out
    canon_tiles x q using View.cover_of_tiledBy _ ![1, 1, 256, 64] (by sl_kernel_rfl) y
    all_goals first
      | (exfalso; omega)
      | (obtain rfl : x = ix4 0 0 r d := by idx_ext
         exact pos_cast d r hd)

end Cert.MobaInPoint

end
-- ==== Proof.MobaInRef.lean ====
module

public import proofs.«01_k».proof.Defs
public import proofs.«01_k».proof.Proof.MmSpec
public import proofs.«01_k».proof.Proof.Gen.Reference10Ideal.Run
public import Idealize.ShloMosaic.Lib.Pipeline.ValueKit
public import Idealize.ShloMosaic.Lib.Claim

@[expose] public section

/-! The reference's projections into the block attention, at an entry. -/

set_option maxRecDepth 16384

noncomputable section

namespace Cert.MobaInRef

open Idealize.ShloMosaic Idealize.ShloMosaic.TcCoe Idealize.SL.Sem
open Cert.Reference10Ideal Cert.Reference10Ideal.Gen

/-- The reference's frame: its run leaves the arguments as they were, and it has no semaphore. -/
theorem frame_ref : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

variable (x : FVec Ideal S16384x1024 .f32)

/-- The queries. -/
theorem q_at (w : FVec Ideal S512x1024 .bf16) (j : Fin 512) (r : Fin 16384) :
    (truncf .bf16 (transpose S512x16384 [1, 0] (Host.dotGeneral dot_S16384x1024_S1024x512_S16384x512_1_0_0_1_n_n none x (transpose S1024x512 [1, 0] (extf .f32 w bitsLt_bf16_f32) transposes_S512x1024_S1024x512_1_0) : FVec Ideal S16384x512 .f32) transposes_S16384x512_S512x16384_1_0) bitsLt_bf16_f32 : FVec Ideal S512x16384 .bf16) (ix2 j r)
      = ∑ k : Fin 1024, x (ix2 r k) * w (ix2 j k) := by
  pointwise

/-- The keys, with the lanes beside them. -/
theorem k_at (w : FVec Ideal S1024x512 .bf16) (h : Fin 8) (b : Fin 64) (t : Fin 256) (d : Fin 128) :
    (truncf .bf16 ((concatenate S8x64x256x128 3 [⟨S8x64x256x64, ((transpose S8x64x256x64 [2, 0, 1, 3] (shapeCast _ (Host.dotGeneral dot_S16384x1024_S1024x512_S16384x512_1_0_0_1_n_n none x (extf .f32 w bitsLt_bf16_f32)) shapeCasts_S16384x512_S64x256x8x64) transposes_S64x256x8x64_S8x64x256x64_2_0_1_3) : (⟨S8x64x256x64, .f32⟩ : BufTy).Contents (Elt Ideal))⟩, ⟨S8x64x256x2, ((broadcastInDim S8x64x256x2 ![0, 1, 2, 3] bcast_S1x1x256x1_S8x64x256x2_0_1_2_3 (broadcastInDim S1x1x256x1 ![2] bcast_S256_S1x1x256x1_2 (sitofp .f32 (iotaInDim S256 32 0) : FVec Ideal S256 .f32))) : (⟨S8x64x256x2, .f32⟩ : BufTy).Contents (Elt Ideal))⟩, ⟨S8x64x256x62, ((broadcastInDim S8x64x256x62 ![] bcast_S_S8x64x256x62 (constant (F := Ideal) S_ .f32 0x00000000#32)) : (⟨S8x64x256x62, .f32⟩ : BufTy).Contents (Elt Ideal))⟩] concatenates_S8x64x256x64_S8x64x256x2_S8x64x256x62_S8x64x256x128_d3 : (⟨S8x64x256x128, .f32⟩ : BufTy).Contents (Elt Ideal))) bitsLt_bf16_f32 : FVec Ideal S8x64x256x128 .bf16) (ix4 h b t d)
      = if hd : d.val < 64 then ∑ k : Fin 1024, x (ix2 ⟨256 * b.val + t.val, by omega⟩ k) * w (ix2 k ⟨64 * h.val + d.val, by omega⟩)
        else if d.val < 66 then (FloatOps.sitofp FTy.f32 (BitVec.ofNat 32 t.val) : Ideal .f32) else 0 := by
  pointwise
  by_cases hd : d.val < 64
  · rw [dif_pos hd, dif_pos hd]
    simp only [Nat.mul_comm]
  · rw [dif_neg hd, dif_neg hd]
    by_cases hp : d.val < 66
    · rw [if_pos hp, dif_pos (by omega)]
    · rw [if_neg hp, dif_neg (by omega)]

/-- The mean of the keys. -/
theorem mean_at (w : FVec Ideal S1024x512 .bf16) (b : Fin 64) (j : Fin 512) :
    (Host.divf (broadcastInDim S64x1x512 ![0, 2] bcast_S64x512_S64x1x512_0_2 (Host.reduceAdd (shapeCast _ (Host.dotGeneral dot_S16384x1024_S1024x512_S16384x512_1_0_0_1_n_n none x (extf .f32 w bitsLt_bf16_f32)) shapeCasts_S16384x512_S64x256x512) (constant (F := Ideal) S_ .f32 0x00000000#32) reducesTo_S64x256x512_S64x512_d1 h_S_)) (broadcastInDim S64x1x512 ![] bcast_S_S64x1x512 (constant (F := Ideal) S_ .f32 0x43800000#32)) : FVec Ideal S64x1x512 .f32) (ix3 b 0 j)
      = Ideal.div (∑ r : Fin 256, ∑ k : Fin 1024, x (ix2 ⟨256 * b.val + r.val, by omega⟩ k) * w (ix2 k j)) (Ideal.ofBits FTy.f32 0x43800000#32) := by
  pointwise
  simp only [Nat.mul_comm]

/-- The values, with the rows below them. -/
theorem v_at (w : FVec Ideal S512x1024 .bf16) (h : Fin 8) (b : Fin 64) (d : Fin 80) (t : Fin 256) :
    (truncf .bf16 ((concatenate S8x64x80x256 2 [⟨S8x64x64x256, ((transpose S8x64x64x256 [2, 0, 3, 1] (shapeCast _ (Host.dotGeneral dot_S16384x1024_S1024x512_S16384x512_1_0_0_1_n_n none x (transpose S1024x512 [1, 0] (extf .f32 w bitsLt_bf16_f32) transposes_S512x1024_S1024x512_1_0)) shapeCasts_S16384x512_S64x256x8x64) transposes_S64x256x8x64_S8x64x64x256_2_0_3_1) : (⟨S8x64x64x256, .f32⟩ : BufTy).Contents (Elt Ideal))⟩, ⟨S8x64x1x256, ((broadcastInDim S8x64x1x256 ![] bcast_S_S8x64x1x256 (constant (F := Ideal) S_ .f32 0x3F800000#32)) : (⟨S8x64x1x256, .f32⟩ : BufTy).Contents (Elt Ideal))⟩, ⟨S8x64x15x256, ((broadcastInDim S8x64x15x256 ![] bcast_S_S8x64x15x256 (constant (F := Ideal) S_ .f32 0x00000000#32)) : (⟨S8x64x15x256, .f32⟩ : BufTy).Contents (Elt Ideal))⟩] concatenates_S8x64x64x256_S8x64x1x256_S8x64x15x256_S8x64x80x256_d2 : (⟨S8x64x80x256, .f32⟩ : BufTy).Contents (Elt Ideal))) bitsLt_bf16_f32 : FVec Ideal S8x64x80x256 .bf16) (ix4 h b d t)
      = if hd : d.val < 64 then ∑ k : Fin 1024, x (ix2 ⟨256 * b.val + t.val, by omega⟩ k) * w (ix2 ⟨64 * h.val + d.val, by omega⟩ k)
        else if d.val = 64 then 1 else 0 := by
  pointwise
  by_cases hd : d.val < 64
  · rw [dif_pos hd, dif_pos hd]
    simp only [Nat.mul_comm]
  · rw [dif_neg hd, dif_neg hd]
    by_cases hp : d.val = 64
    · rw [if_pos hp, dif_pos (by omega)]
    · rw [if_neg hp, dif_neg (by omega)]

end Cert.MobaInRef

end
-- ==== Proof.MobaInClaim.lean ====
module

public import proofs.«01_k».proof.Proof.MobaInPoint
public import proofs.«01_k».proof.Proof.MobaInRef

@[expose] public section

/-! The projections into the block attention: both programs end with the same queries, keys, means and values. -/

set_option maxRecDepth 16384

noncomputable section

namespace Cert.MobaInClaim

open Idealize.ShloMosaic Idealize.ShloMosaic.TcCoe Idealize.SL.Sem

section
open Cert.Kernel10Ideal Cert.Kernel10Ideal.Gen Cert.Kernel10Ideal.Value

variable (m : (ℓ : Loc nD τ sig) → Buf (Elt Ideal) ℓ) (c : Dev nD)

/-- The rows. -/
abbrev X : FVec Ideal S16384x1024 .f32 := m ((c : Thread nD τ).loc main_arg0)
/-- The queries' weights. -/
abbrev WQ : FVec Ideal S512x1024 .bf16 := m ((c : Thread nD τ).loc main_arg1)
/-- The keys' weights. -/
abbrev WK : FVec Ideal S1024x512 .bf16 := m ((c : Thread nD τ).loc main_arg2)
/-- The values' weights. -/
abbrev WV : FVec Ideal S512x1024 .bf16 := m ((c : Thread nD τ).loc main_arg3)

/-- The blocks of the windows at each point. -/
theorem idx : ∀ t : Fin cfg0.N, win0_0.index t = ![t.val, 0] ∧ win0_1.index t = ![0, 0] ∧ win0_2.index t = ![0, 0] ∧ win0_3.index t = ![0, 0]
    ∧ win0_4.index t = ![0, t.val] ∧ win0_5.index t = ![0, t.val, 0, 0] ∧ win0_6.index t = ![t.val, 0, 0] ∧ win0_7.index t = ![0, t.val, 0, 0] :=
  (by decide +kernel : ∀ t : Fin grid0.N, _)

/-- Row `r` of the rows' block. -/
theorem rows (t : Fin cfg0.N) (r : Fin 256) (k : Fin 1024) (h : 256 * t.val + r.val < 16384) :
    (iblk m c 0 t : FVec Ideal S256x1024 .f32) (ix2 r k) = X m c (ix2 ⟨256 * t.val + r.val, h⟩ k) := by
  blk_ext [iblk, V, idx t]

/-- The queries' weights at a point. -/
theorem wq (t : Fin cfg0.N) (j : Fin 512) (k : Fin 1024) : (iblk m c 1 t : FVec Ideal S512x1024 .bf16) (ix2 j k) = WQ m c (ix2 j k) := by
  blk_ext [iblk, V, idx t]

/-- The keys' weights at a point. -/
theorem wk (t : Fin cfg0.N) (k : Fin 1024) (j : Fin 512) : (iblk m c 2 t : FVec Ideal S1024x512 .bf16) (ix2 k j) = WK m c (ix2 k j) := by
  blk_ext [iblk, V, idx t]

/-- The values' weights at a point. -/
theorem wv (t : Fin cfg0.N) (j : Fin 512) (k : Fin 1024) : (iblk m c 3 t : FVec Ideal S512x1024 .bf16) (ix2 j k) = WV m c (ix2 j k) := by
  blk_ext [iblk, V, idx t]

/-- The queries, once the grid has gone by. -/
theorem final_q (t : Fin cfg0.N) (j : Fin 512) (r : Fin 256) (h : 256 * t.val + r.val < 16384) :
    ((dats m 0 c).arrAt 4 cfg0.N : FVec Ideal S512x16384 .bf16) (ix2 j ⟨256 * t.val + r.val, h⟩)
      = ∑ k : Fin 1024, WQ m c (ix2 j k) * X m c (ix2 ⟨256 * t.val + r.val, h⟩ k) := by
  have b := congrFun (blocks4 m c t (flush0_4 _)) (ix2 j r : S512x256.Idx)
  have e : ∀ A : FVec Ideal S512x16384 .bf16, (((cfg0.win 4).blk t).view.read (Elt Ideal) A : FVec Ideal S512x256 .bf16) (ix2 j r)
      = A (ix2 j ⟨256 * t.val + r.val, h⟩) := by
    intro A
    blk_ext [idx t]
  refine (e _).symm.trans (b.trans ?_)
  rw [flushed4_A]
  refine (MobaInPoint.q_at _ _ _ _ _ _ _ _ _ _ _ _ _ _ _ _ _ _ _ _ _ _ _ _ _ _ j r).trans ?_
  simp only [rows m c t _ _ h, wq]

/-- The keys, once the grid has gone by. -/
theorem final_k (t : Fin cfg0.N) (ht : t.val < 64) (h : Fin 8) (r : Fin 256) (d : Fin 128) :
    ((dats m 0 c).arrAt 5 cfg0.N : FVec Ideal S8x64x256x128 .bf16) (ix4 h ⟨t.val, ht⟩ r d)
      = if hd : d.val < 64 then ∑ k : Fin 1024, X m c (ix2 ⟨256 * t.val + r.val, by omega⟩ k) * WK m c (ix2 k ⟨64 * h.val + d.val, by omega⟩)
        else if d.val < 66 then (FloatOps.sitofp FTy.f32 (BitVec.ofNat 32 r.val) : Ideal .f32) else 0 := by
  have b := congrFun (blocks5 m c t (flush0_5 _)) (ix4 h 0 r d : S8x1x256x128.Idx)
  have e : ∀ A : FVec Ideal S8x64x256x128 .bf16, (((cfg0.win 5).blk t).view.read (Elt Ideal) A : FVec Ideal S8x1x256x128 .bf16) (ix4 h 0 r d)
      = A (ix4 h ⟨t.val, ht⟩ r d) := by
    intro A
    blk_ext [idx t]
  refine (e _).symm.trans (b.trans ?_)
  rw [flushed5_A]
  refine (MobaInPoint.k_at _ _ _ _ _ _ _ _ _ _ _ _ _ _ _ _ _ _ _ _ _ _ _ _ _ _ h r d).trans ?_
  simp only [rows m c t _ _ (show 256 * t.val + r.val < 16384 by omega), wk]

/-- The means of the keys, once the grid has gone by. -/
theorem final_mean (t : Fin cfg0.N) (ht : t.val < 64) (j : Fin 512) :
    ((dats m 0 c).arrAt 6 cfg0.N : FVec Ideal S64x1x512 .f32) (ix3 ⟨t.val, ht⟩ 0 j)
      = Ideal.div (∑ r : Fin 256, ∑ k : Fin 1024, X m c (ix2 ⟨256 * t.val + r.val, by omega⟩ k) * WK m c (ix2 k j)) (Ideal.ofBits FTy.f32 0x43800000#32) := by
  have b := congrFun (blocks6 m c t (flush0_6 _)) (ix3 0 0 j : S1x1x512.Idx)
  have e : ∀ A : FVec Ideal S64x1x512 .f32, (((cfg0.win 6).blk t).view.read (Elt Ideal) A : FVec Ideal S1x1x512 .f32) (ix3 0 0 j)
      = A (ix3 ⟨t.val, ht⟩ 0 j) := by
    intro A
    blk_ext [idx t]
  refine (e _).symm.trans (b.trans ?_)
  rw [flushed6_A]
  refine (MobaInPoint.mean_at _ _ _ _ _ _ _ _ _ _ _ _ _ _ _ _ _ _ _ _ _ _ _ _ _ _ j).trans ?_
  refine congrArg (fun z => Ideal.div z _) (Finset.sum_congr rfl fun r _ => ?_)
  simp only [rows m c t r _ (show 256 * t.val + r.val < 16384 by omega), wk]

/-- The values, once the grid has gone by. -/
theorem final_v (t : Fin cfg0.N) (ht : t.val < 64) (h : Fin 8) (d : Fin 80) (r : Fin 256) :
    ((dats m 0 c).arrAt 7 cfg0.N : FVec Ideal S8x64x80x256 .bf16) (ix4 h ⟨t.val, ht⟩ d r)
      = if hd : d.val < 64 then ∑ k : Fin 1024, WV m c (ix2 ⟨64 * h.val + d.val, by omega⟩ k) * X m c (ix2 ⟨256 * t.val + r.val, by omega⟩ k)
        else if d.val = 64 then 1 else 0 := by
  have b := congrFun (blocks7 m c t (flush0_7 _)) (ix4 h 0 d r : S8x1x80x256.Idx)
  have e : ∀ A : FVec Ideal S8x64x80x256 .bf16, (((cfg0.win 7).blk t).view.read (Elt Ideal) A : FVec Ideal S8x1x80x256 .bf16) (ix4 h 0 d r)
      = A (ix4 h ⟨t.val, ht⟩ d r) := by
    intro A
    blk_ext [idx t]
  refine (e _).symm.trans (b.trans ?_)
  rw [flushed7_A]
  refine (MobaInPoint.v_at _ _ _ _ _ _ _ _ _ _ _ _ _ _ _ _ _ _ _ _ _ _ _ _ _ _ h d r).trans ?_
  simp only [rows m c t _ _ (show 256 * t.val + r.val < 16384 by omega), wv]

end

/-- The two programs compute the same. -/
theorem algebraic : Cert.algebraic_Kernel10Ideal_Reference10Ideal := by
  intro m ρ m' ρ' _ hagree
  refine ⟨fun c => (Cert.Kernel10Ideal.Gen.dats m 0 c).arrAt 4 Cert.Kernel10Ideal.cfg0.N, fun c => (Cert.Kernel10Ideal.Gen.dats m 0 c).arrAt 5 Cert.Kernel10Ideal.cfg0.N,
    fun c => (Cert.Kernel10Ideal.Gen.dats m 0 c).arrAt 6 Cert.Kernel10Ideal.cfg0.N, fun c => (Cert.Kernel10Ideal.Gen.dats m 0 c).arrAt 7 Cert.Kernel10Ideal.cfg0.N,
    (θ_run _ _ _).mono (fun _ h c => ⟨(h c).1, (h c).2.1, (h c).2.2.1, (h c).2.2.2.1, (h c).2.2.2.2.2.2⟩) (Cert.Kernel10Ideal.Value.run_blocks m ρ), ?_⟩
  have point : ∀ t : Fin 64, t.val < Cert.Kernel10Ideal.cfg0.N := fun t => lt_of_lt_of_eq t.isLt Cert.Kernel10Ideal.Gen.N_0.symm
  refine (θ_run _ _ _).mono (fun _ h c => ⟨(h c).1.trans ?_, (h c).2.1.trans ?_, (h c).2.2.1.trans ?_, (h c).2.2.2.1.trans ?_, (h c).2.2.2.2⟩)
    (Cert.Reference10Ideal.Value.run (F := Ideal) m' ρ')
  all_goals
    obtain ⟨h0, h1, h2, h3⟩ := hagree c
    rw [h0]
  · rw [h1]
    funext y
    obtain ⟨j, r, rfl⟩ : ∃ (j : Fin 512) (r : Fin 16384), y = ix2 j r := ⟨y 0, y 1, eq_ix2 y⟩
    obtain ⟨t, i, h, rfl⟩ : ∃ (t : Fin 64) (i : Fin 256) (h : 256 * t.val + i.val < 16384), r = ⟨256 * t.val + i.val, h⟩ :=
      ⟨⟨r.val / 256, by omega⟩, ⟨r.val % 256, by omega⟩, by dsimp only; omega, Fin.ext (by dsimp only; omega)⟩
    refine (MobaInRef.q_at _ _ j _).trans ((Finset.sum_congr rfl fun k _ => ?_).trans (final_q m c ⟨t.val, point t⟩ j i h).symm)
    exact mul_comm _ _
  · rw [h2]
    funext y
    obtain ⟨h, t, r, d, rfl⟩ : ∃ (h : Fin 8) (t : Fin 64) (r : Fin 256) (d : Fin 128), y = ix4 h t r d := ⟨y 0, y 1, y 2, y 3, eq_ix4 y⟩
    exact (MobaInRef.k_at _ _ h t r d).trans (final_k m c ⟨t.val, point t⟩ t.isLt h r d).symm
  · rw [h2]
    funext y
    obtain ⟨t, u, j, rfl⟩ : ∃ (t : Fin 64) (u : Fin 1) (j : Fin 512), y = ix3 t u j := ⟨y 0, y 1, y 2, eq_ix3 y⟩
    obtain rfl : u = 0 := Subsingleton.elim _ _
    exact (MobaInRef.mean_at _ _ t j).trans (final_mean m c ⟨t.val, point t⟩ t.isLt j).symm
  · rw [h3]
    funext y
    obtain ⟨h, t, d, r, rfl⟩ : ∃ (h : Fin 8) (t : Fin 64) (d : Fin 80) (r : Fin 256), y = ix4 h t d r := ⟨y 0, y 1, y 2, y 3, eq_ix4 y⟩
    refine (MobaInRef.v_at _ _ h t d r).trans (Eq.trans ?_ (final_v m c ⟨t.val, point t⟩ t.isLt h d r).symm)
    exact dite_congr rfl (fun hd => Finset.sum_congr rfl fun k _ => mul_comm _ _) fun _ => rfl

end Cert.MobaInClaim

end
-- ==== Proof.lean ====
/- The certificate of the calls covered: every claim, put together from the modules that prove it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Pre_experts_exist
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.GlaClaim
public import proofs.«01_k».proof.Proof.FfnClaim
public import proofs.«01_k».proof.Proof.XattnClaim
public import proofs.«01_k».proof.Proof.SsdInClaim
public import proofs.«01_k».proof.Proof.RwkvInClaim
public import proofs.«01_k».proof.Proof.GlaInClaim
public import proofs.«01_k».proof.Proof.OutAClaim
public import proofs.«01_k».proof.Proof.OutBClaim
public import proofs.«01_k».proof.Proof.MoeBits
public import proofs.«01_k».proof.Proof.MoeClaim
public import proofs.«01_k».proof.Proof.MobaInClaim
public import Idealize.ShloMosaic.Adequacy
public import Idealize.ShloMosaic.Init

@[expose] public section

noncomputable section

namespace Cert.Proof

open Idealize.ShloMosaic Idealize.SL.Sem Cert.Kernel

/-- Everything claimed: the frames (the kernels' generated, that of the experts proved in `MoeBits`, the references' from their runs), the idealizations (nothing rewritten, or the
    residual's weight named) and the equality of the results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts, Cert.Kernel10Ideal.Gen.facts, Cert.Reference10Ideal.Gen.facts,
  Cert.Pre_experts_exist.Gen.facts,
  fun m ρ _ => Cert.Kernel.Gen.frame m ρ,
  fun m ρ _ => Cert.KernelIdeal.Gen.frame m ρ,
  GlaClaim.frame_ref,
  fun m ρ _ => Cert.Kernel2.Gen.frame m ρ,
  fun m ρ _ => Cert.Kernel2Ideal.Gen.frame m ρ,
  FfnClaim.frame_ref,
  fun m ρ _ => Cert.Kernel3.Gen.frame m ρ,
  fun m ρ _ => Cert.Kernel3Ideal.Gen.frame m ρ,
  XattnClaim.frame_ref,
  fun m ρ _ => Cert.Kernel4.Gen.frame m ρ,
  fun m ρ _ => Cert.Kernel4Ideal.Gen.frame m ρ,
  SsdInClaim.frame_ref,
  fun m ρ _ => Cert.Kernel5.Gen.frame m ρ,
  fun m ρ _ => Cert.Kernel5Ideal.Gen.frame m ρ,
  RwkvInClaim.frame_ref,
  fun m ρ _ => Cert.Kernel6.Gen.frame m ρ,
  fun m ρ _ => Cert.Kernel6Ideal.Gen.frame m ρ,
  GlaInClaim.frame_ref,
  fun m ρ _ => Cert.Kernel7.Gen.frame m ρ,
  fun m ρ _ => Cert.Kernel7Ideal.Gen.frame m ρ,
  OutAClaim.frame_ref,
  fun m ρ _ => Cert.Kernel8.Gen.frame m ρ,
  fun m ρ _ => Cert.Kernel8Ideal.Gen.frame m ρ,
  OutBClaim.frame_ref,
  MoeBits.frame_bits,
  MoeBits.frame_ideal,
  MoeClaim.frame_ref,
  fun m ρ _ => Cert.Kernel10.Gen.frame m ρ,
  fun m ρ _ => Cert.Kernel10Ideal.Gen.frame m ρ,
  MobaInRef.frame_ref,
  trivial, GlaClaim.algebraic, FfnClaim.preserves, FfnClaim.algebraic,
  XattnClaim.preserves, XattnClaim.algebraic,
  trivial, SsdInClaim.algebraic,
  trivial, RwkvInClaim.algebraic,
  trivial, GlaInClaim.algebraic,
  OutAClaim.preserves, OutAClaim.algebraic,
  OutBClaim.preserves, OutBClaim.algebraic,
  trivial, MoeClaim.algebraic,
  trivial, MobaInClaim.algebraic⟩

end Cert.Proof

end
